-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 128]⟩ ⟨2, ![4096, 256]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 4096]⟩ ⟨2, ![256, 4096]⟩ (Layout.meshBlock [2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 4096]⟩ ⟨2, ![256, 4096]⟩ (Layout.meshBlock [2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x4096 : Shape := ⟨3, ![4, 256, 4096]⟩
abbrev S4096x128 : Shape := ⟨2, ![4096, 128]⟩
abbrev S128x4096 : Shape := ⟨2, ![128, 4096]⟩
abbrev S4096x4096 : Shape := ⟨2, ![4096, 4096]⟩
abbrev S4096x2048 : Shape := ⟨2, ![4096, 2048]⟩
abbrev S4096x64 : Shape := ⟨2, ![4096, 64]⟩
abbrev S1024x4096 : Shape := ⟨2, ![1024, 4096]⟩
abbrev S_ : Shape := ⟨0, ![]⟩
abbrev S1024x128 : Shape := ⟨2, ![1024, 128]⟩
abbrev S1 : Shape := ⟨1, ![1]⟩
abbrev S1024x2048 : Shape := ⟨2, ![1024, 2048]⟩
abbrev S128x2048 : Shape := ⟨2, ![128, 2048]⟩
abbrev S4096x256 : Shape := ⟨2, ![4096, 256]⟩
abbrev S1024x256 : Shape := ⟨2, ![1024, 256]⟩
abbrev S4x1024x512 : Shape := ⟨3, ![4, 1024, 512]⟩
abbrev S4 : Shape := ⟨1, ![4]⟩
abbrev S1024x512 : Shape := ⟨2, ![1024, 512]⟩
abbrev S1x1024x512 : Shape := ⟨3, ![1, 1024, 512]⟩
abbrev S1024x1024 : Shape := ⟨2, ![1024, 1024]⟩
abbrev S1024x64 : Shape := ⟨2, ![1024, 64]⟩
abbrev S1024x16x64 : Shape := ⟨3, ![1024, 16, 64]⟩
abbrev S1024x16x128 : Shape := ⟨3, ![1024, 16, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S512x4096 : Shape := ⟨2, ![512, 4096]⟩

abbrev nBuf : Space → Nat
  | .hbm => 32
  | .vmem => 44
  | .smem => 3
  | _ => 0

abbrev bufTy : (tb : Table) → Fin (tcTables nBuf tb) → BufTy
  | .hbm, ⟨0, _⟩ => ⟨S4x256x4096, .f32⟩
  | .hbm, ⟨1, _⟩ => ⟨S4096x128, .f32⟩
  | .hbm, ⟨2, _⟩ => ⟨S128x4096, .f32⟩
  | .hbm, ⟨3, _⟩ => ⟨S128x4096, .f32⟩
  | .hbm, ⟨4, _⟩ => ⟨S4096x4096, .f32⟩
  | .hbm, ⟨5, _⟩ => ⟨S4096x2048, .f32⟩
  | .hbm, ⟨6, _⟩ => ⟨S4096x64, .f32⟩
  | .hbm, ⟨7, _⟩ => ⟨S4096x4096, .f32⟩
  | .hbm, ⟨8, _⟩ => ⟨S1024x4096, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1024x128, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S1024x1024, .f32⟩
  | .hbm, ⟨20, _⟩ => ⟨S1024x64, .f32⟩
  | .hbm, ⟨21, _⟩ => ⟨S1024x16x64, .f32⟩
  | .hbm, ⟨22, _⟩ => ⟨S_, .i32⟩
  | .hbm, ⟨23, _⟩ => ⟨S_, .f32⟩
  | .hbm, ⟨24, _⟩ => ⟨S1024x16x128, .f32⟩
  | .hbm, ⟨25, _⟩ => ⟨S1024x2048, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x2048, .f32⟩
  | .hbm, ⟨30, _⟩ => ⟨S1024x4096, .f32⟩
  | .hbm, ⟨31, _⟩ => ⟨S4x256x4096, .f32⟩
  | .local _ .vmem, ⟨0, _⟩ => ⟨S1024x4096, .f32⟩
  | .local _ .vmem, ⟨1, _⟩ => ⟨S4096x128, .f32⟩
  | .local _ .vmem, ⟨2, _⟩ => ⟨S1024x128, .f32⟩
  | .local _ .vmem, ⟨3, _⟩ => ⟨S1024x128, .f32⟩
  | .local _ .vmem, ⟨4, _⟩ => ⟨S128x2048, .f32⟩
  | .local _ .vmem, ⟨5, _⟩ => ⟨S128x2048, .f32⟩
  | .local _ .vmem, ⟨6, _⟩ => ⟨S1024x4096, .f32⟩
  | .local _ .vmem, ⟨7, _⟩ => ⟨S4096x256, .f32⟩
  | .local _ .vmem, ⟨8, _⟩ => ⟨S4096x256, .f32⟩
  | .local _ .vmem, ⟨9, _⟩ => ⟨S1024x2048, .f32⟩
  | .local _ .vmem, ⟨10, _⟩ => ⟨S1024x2048, .f32⟩
  | .local _ .vmem, ⟨11, _⟩ => ⟨S1024x256, .f32⟩
  | .local _ .vmem, ⟨12, _⟩ => ⟨S1024x256, .f32⟩
  | .local _ .vmem, ⟨13, _⟩ => ⟨S4x1024x512, .bf16⟩
  | .local _ .vmem, ⟨14, _⟩ => ⟨S4x1024x512, .bf16⟩
  | .local _ .vmem, ⟨15, _⟩ => ⟨S4x1024x512, .bf16⟩
  | .local _ .vmem, ⟨16, _⟩ => ⟨S4x1024x512, .bf16⟩
  | .local _ .vmem, ⟨17, _⟩ => ⟨S1024x4096, .f32⟩
  | .local _ .vmem, ⟨18, _⟩ => ⟨S4096x256, .f32⟩
  | .local _ .vmem, ⟨19, _⟩ => ⟨S4096x256, .f32⟩
  | .local _ .vmem, ⟨20, _⟩ => ⟨S1024x256, .f32⟩
  | .local _ .vmem, ⟨21, _⟩ => ⟨S1024x256, .f32⟩
  | .local _ .vmem, ⟨22, _⟩ => ⟨S1024x4096, .f32⟩
  | .local _ .vmem, ⟨23, _⟩ => ⟨S4096x64, .f32⟩
  | .local _ .vmem, ⟨24, _⟩ => ⟨S1024x64, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | .local _ .vmem, ⟨36, _⟩ => ⟨S256x128, .f32⟩
  | .local _ .vmem, ⟨37, _⟩ => ⟨S1024x512, .f32⟩
  | .local _ .vmem, ⟨38, _⟩ => ⟨S1024x512, .f32⟩
  | .local _ .vmem, ⟨39, _⟩ => ⟨S512x4096, .f32⟩
  | .local _ .vmem, ⟨40, _⟩ => ⟨S512x4096, .f32⟩
  | .local _ .vmem, ⟨41, _⟩ => ⟨S1024x4096, .f32⟩
  | .local _ .vmem, ⟨42, _⟩ => ⟨S1024x4096, .bf16⟩
  | .local _ .vmem, ⟨43, _⟩ => ⟨S1024x4096, .bf16⟩
  | .local _ .smem, ⟨0, _⟩ => ⟨S1, .i32⟩
  | .local _ .smem, ⟨1, _⟩ => ⟨S1, .i32⟩
  | .local _ .smem, ⟨2, _⟩ => ⟨S1, .i32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 2 → Bool
  | ⟨0, _⟩ => false
  | ⟨1, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 2 56 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v18 : Ref sig .tc := ⟨.hbm, 30, rfl⟩
abbrev main_v19 : Ref sig .tc := ⟨.hbm, 31, rfl⟩
abbrev main_v7 : Ref sig .tc := ⟨.smem, 0, rfl⟩
abbrev main_v9 : Ref sig .tc := ⟨.smem, 1, rfl⟩
abbrev main_v17 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg7_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg4_1 : Ref sig .tc := ⟨.vmem, 34, rfl⟩
abbrev cc4_stg5_0 : Ref sig .tc := ⟨.vmem, 35, rfl⟩
abbrev cc4_stg5_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_scratch0 : Ref sig .tc := ⟨.vmem, 42, rfl⟩
abbrev cc5_scratch1 : Ref sig .tc := ⟨.vmem, 43, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem4_1 : DmaSem sig := 8
abbrev cc1_sem5_0 : DmaSem sig := 9
abbrev cc1_sem6_0 : DmaSem sig := 10
abbrev cc1_sem7_0 : DmaSem sig := 11
abbrev cc1_sem7_1 : DmaSem sig := 12
abbrev cc2_sem0_0 : DmaSem sig := 29
abbrev cc2_sem1_0 : DmaSem sig := 30
abbrev cc2_sem1_1 : DmaSem sig := 31
abbrev cc2_sem2_0 : DmaSem sig := 32
abbrev cc2_sem2_1 : DmaSem sig := 33
abbrev cc3_sem0_0 : DmaSem sig := 34
abbrev cc3_sem1_0 : DmaSem sig := 35
abbrev cc3_sem2_0 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem3_1 : DmaSem sig := 44
abbrev cc4_sem4_0 : DmaSem sig := 45
abbrev cc4_sem4_1 : DmaSem sig := 46
abbrev cc4_sem5_0 : DmaSem sig := 47
abbrev cc4_sem5_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev barrier0 : Sem sig := 0
abbrev barrier1 : Sem sig := 1

abbrev nD : Nat := 4
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![8], ![false]⟩

abbrev pre1 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k1_cond1 (i : grid1.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_3 : BitVec 32 := 0#32
  let v9 : BitVec 1 := Scalar.cmpi .ne v8 c0_i32_3
  v9

def k1_dev1 (d0 : Dev nD) : Nat :=
  let c0_i32_47 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_46 : BitVec 32 := 2#32
  let v72 : BitVec 32 := Scalar.muli v6 c2_i32_46
  let v73 : BitVec 32 := Scalar.addi c0_i32_47 v72
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v74 : BitVec 32 := Scalar.muli v5 c1_i32_48
  let v75 : BitVec 32 := Scalar.addi v73 v74
  v75.toNat
def k1_dev2 (d0 : Dev nD) : Nat :=
  let c0_i32_55 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_54 : BitVec 32 := 2#32
  let v76 : BitVec 32 := Scalar.muli v6 c2_i32_54
  let v77 : BitVec 32 := Scalar.addi c0_i32_55 v76
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_56 : BitVec 32 := 1#32
  let v78 : BitVec 32 := Scalar.muli v5 c1_i32_56
  let v79 : BitVec 32 := Scalar.addi v77 v78
  v79.toNat
def k1_dev3 (d0 : Dev nD) : Nat :=
  let c0_i32_66 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_65 : BitVec 32 := 2#32
  let v88 : BitVec 32 := Scalar.muli v6 c2_i32_65
  let v89 : BitVec 32 := Scalar.addi c0_i32_66 v88
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v90 : BitVec 32 := Scalar.muli v5 c1_i32_67
  let v91 : BitVec 32 := Scalar.addi v89 v90
  v91.toNat
def k1_dev4 (d0 : Dev nD) : Nat :=
  let c0_i32_77 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_76 : BitVec 32 := 2#32
  let v100 : BitVec 32 := Scalar.muli v6 c2_i32_76
  let v101 : BitVec 32 := Scalar.addi c0_i32_77 v100
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v102 : BitVec 32 := Scalar.muli v5 c1_i32_78
  let v103 : BitVec 32 := Scalar.addi v101 v102
  v103.toNat
def k1_dev5 (d0 : Dev nD) : Nat :=
  let c0_i32_88 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_87 : BitVec 32 := 2#32
  let v112 : BitVec 32 := Scalar.muli v6 c2_i32_87
  let v113 : BitVec 32 := Scalar.addi c0_i32_88 v112
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v114 : BitVec 32 := Scalar.muli v5 c1_i32_89
  let v115 : BitVec 32 := Scalar.addi v113 v114
  v115.toNat
def k1_dev6 (d0 : Dev nD) : Nat :=
  let c0_i32_99 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_98 : BitVec 32 := 2#32
  let v124 : BitVec 32 := Scalar.muli v6 c2_i32_98
  let v125 : BitVec 32 := Scalar.addi c0_i32_99 v124
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v126 : BitVec 32 := Scalar.muli v5 c1_i32_100
  let v127 : BitVec 32 := Scalar.addi v125 v126
  v127.toNat
def k1_dev7 (d0 : Dev nD) : Nat :=
  let c0_i32_110 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_109 : BitVec 32 := 2#32
  let v136 : BitVec 32 := Scalar.muli v6 c2_i32_109
  let v137 : BitVec 32 := Scalar.addi c0_i32_110 v136
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_111 : BitVec 32 := 1#32
  let v138 : BitVec 32 := Scalar.muli v5 c1_i32_111
  let v139 : BitVec 32 := Scalar.addi v137 v138
  v139.toNat
def k1_dev8 (d0 : Dev nD) : Nat :=
  let c0_i32_120 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_119 : BitVec 32 := 2#32
  let v148 : BitVec 32 := Scalar.muli v6 c2_i32_119
  let v149 : BitVec 32 := Scalar.addi c0_i32_120 v148
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_121 : BitVec 32 := 1#32
  let v150 : BitVec 32 := Scalar.muli v5 c1_i32_121
  let v151 : BitVec 32 := Scalar.addi v149 v150
  v151.toNat
def k1_dev9 (d0 : Dev nD) : Nat :=
  let c0_i32_131 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_130 : BitVec 32 := 2#32
  let v160 : BitVec 32 := Scalar.muli v6 c2_i32_130
  let v161 : BitVec 32 := Scalar.addi c0_i32_131 v160
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_132 : BitVec 32 := 1#32
  let v162 : BitVec 32 := Scalar.muli v5 c1_i32_132
  let v163 : BitVec 32 := Scalar.addi v161 v162
  v163.toNat
def k1_cond2 (i : grid1.Coords) : BitVec 1 :=
  let arg0 : BitVec 32 := BitVec.ofNat 32 (i 0).val
  let c7_i32 : BitVec 32 := 7#32
  let v16 : BitVec 1 := Scalar.cmpi .eq arg0 c7_i32
  let v17 : BitVec 32 := Scalar.extui v16
  let c0_i32_9 : BitVec 32 := 0#32
  let v18 : BitVec 1 := Scalar.cmpi .ne v17 c0_i32_9
  v18

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (inb_S1_S1_0 : ∀ a, (![0] : Fin 1 → Nat) a + S1.size a ≤ S1.size a) (numel1_S1 : S1.numel = 1) (pf : pre1.Contents (Elt F)) (i : grid1.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc1_transform_2 (inb_S1_S1_0 : ∀ a, (![0] : Fin 1 → Nat) a + S1.size a ≤ S1.size a) (numel1_S1 : S1.numel = 1) (pf : pre1.Contents (Elt F)) (i : grid1.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (inb_S1_S1_0 : ∀ a, (![0] : Fin 1 → Nat) a + S1.size a ≤ S1.size a) (numel1_S1 : S1.numel = 1) (pf : pre1.Contents (Elt F)) (i : grid1.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![c0_i32.toNat, v2.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

abbrev pre2 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (inb_S1_S1_0 : ∀ a, (![0] : Fin 1 → Nat) a + S1.size a ≤ S1.size a) (numel1_S1 : S1.numel = 1) (pf : pre2.Contents (Elt F)) (i : grid2.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![c0_i32.toNat, v2.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1024x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S4096x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1024x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev grid4 : Pipeline.Grid := ⟨2, ![4, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S256x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S256x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S256x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S256x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S256x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S256x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨1, ![5], ![false]⟩

abbrev pre5 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k5_cond3 (i : grid5.Coords) : BitVec 1 :=
  let arg0 : BitVec 32 := BitVec.ofNat 32 (i 0).val
  let c4_i32_6 : BitVec 32 := 4#32
  let v15 : BitVec 1 := Scalar.cmpi .eq arg0 c4_i32_6
  let v16 : BitVec 32 := Scalar.extui v15
  let c0_i32_7 : BitVec 32 := 0#32
  let v17 : BitVec 1 := Scalar.cmpi .ne v16 c0_i32_7
  v17

def k5_dev1 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v25 : BitVec 32 := Scalar.muli v2 c2_i32_12
  let v26 : BitVec 32 := Scalar.addi c0_i32_13 v25
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v27 : BitVec 32 := Scalar.muli v6 c1_i32_14
  let v28 : BitVec 32 := Scalar.addi v26 v27
  v28.toNat
def k5_dev2 (d0 : Dev nD) : Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_16 : BitVec 32 := 2#32
  let v29 : BitVec 32 := Scalar.muli v2 c2_i32_16
  let v30 : BitVec 32 := Scalar.addi c0_i32_17 v29
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_18 : BitVec 32 := 1#32
  let v31 : BitVec 32 := Scalar.muli v6 c1_i32_18
  let v32 : BitVec 32 := Scalar.addi v30 v31
  v32.toNat
def k5_cond1 (i : grid5.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_3 : BitVec 32 := 0#32
  let v9 : BitVec 1 := Scalar.cmpi .ne v8 c0_i32_3
  v9

def k5_cond2 (i : grid5.Coords) : BitVec 1 :=
  let arg0 : BitVec 32 := BitVec.ofNat 32 (i 0).val
  let c0_i32_4 : BitVec 32 := 0#32
  let v10 : BitVec 1 := Scalar.cmpi .sgt arg0 c0_i32_4
  let c4_i32 : BitVec 32 := 4#32
  let v11 : BitVec 1 := Scalar.cmpi .slt arg0 c4_i32
  let v12 : BitVec 1 := Scalar.andi v10 v11
  let v13 : BitVec 32 := Scalar.extui v12
  let c0_i32_5 : BitVec 32 := 0#32
  let v14 : BitVec 1 := Scalar.cmpi .ne v13 c0_i32_5
  v14

def cc5_transform_0 (i : grid5.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc5_transform_1 (inb_S1_S1_0 : ∀ a, (![0] : Fin 1 → Nat) a + S1.size a ≤ S1.size a) (numel1_S1 : S1.numel = 1) (pf : pre5.Contents (Elt F)) (i : grid5.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let c3_i32 : BitVec 32 := 3#32
  let v2 : BitVec 32 := Scalar.minsi arg0 c3_i32
  let v3 : BitVec 32 := Scalar.addi v1 v2
  let c0_i32 : BitVec 32 := 0#32
  let c0_i32_0 : BitVec 32 := 0#32
  ![v3.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1024x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1024x4096 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]
-- ==== ReferenceIdeal.lean ====
abbrev S4x256x4096 : Shape := ⟨3, ![4, 256, 4096]⟩
abbrev S4096x256 : Shape := ⟨2, ![4096, 256]⟩
abbrev S256x4096 : Shape := ⟨2, ![256, 4096]⟩
abbrev S4096x4096 : Shape := ⟨2, ![4096, 4096]⟩
abbrev S4096x2048 : Shape := ⟨2, ![4096, 2048]⟩
abbrev S4096x64 : Shape := ⟨2, ![4096, 64]⟩
abbrev S4x256x256 : Shape := ⟨3, ![4, 256, 256]⟩
abbrev S4x256x32x128 : Shape := ⟨4, ![4, 256, 32, 128]⟩
abbrev S4x256x2048 : Shape := ⟨3, ![4, 256, 2048]⟩
abbrev S4x256x32x64 : Shape := ⟨4, ![4, 256, 32, 64]⟩
abbrev S4x256x64 : Shape := ⟨3, ![4, 256, 64]⟩
abbrev S4x256x1x64 : Shape := ⟨4, ![4, 256, 1, 64]⟩
abbrev S4x32x256x256 : Shape := ⟨4, ![4, 32, 256, 256]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096x256, .f32⟩
  | .hbm, ⟨2, _⟩ => ⟨S256x4096, .f32⟩
  | .hbm, ⟨3, _⟩ => ⟨S256x4096, .f32⟩
  | .hbm, ⟨4, _⟩ => ⟨S4096x4096, .f32⟩
  | .hbm, ⟨5, _⟩ => ⟨S4096x2048, .f32⟩
  | .hbm, ⟨6, _⟩ => ⟨S4096x64, .f32⟩
  | .hbm, ⟨7, _⟩ => ⟨S4096x4096, .f32⟩
  | .hbm, ⟨8, _⟩ => ⟨S4x256x256, .f32⟩
  | .hbm, ⟨9, _⟩ => ⟨S4x256x4096, .f32⟩
  | .hbm, ⟨10, _⟩ => ⟨S4x256x32x128, .f32⟩
  | .hbm, ⟨11, _⟩ => ⟨S4x256x4096, .f32⟩
  | .hbm, ⟨12, _⟩ => ⟨S4x256x32x128, .f32⟩
  | .hbm, ⟨13, _⟩ => ⟨S4x256x4096, .f32⟩
  | .hbm, ⟨14, _⟩ => ⟨S4x256x32x128, .f32⟩
  | .hbm, ⟨15, _⟩ => ⟨S4x256x2048, .f32⟩
  | .hbm, ⟨16, _⟩ => ⟨S4x256x32x64, .f32⟩
  | .hbm, ⟨17, _⟩ => ⟨S4x256x64, .f32⟩
  | .hbm, ⟨18, _⟩ => ⟨S4x256x1x64, .f32⟩
  | .hbm, ⟨19, _⟩ => ⟨S4x32x256x256, .f32⟩
  | .hbm, ⟨20, _⟩ => ⟨S4x256x32x64, .f32⟩
  | .hbm, ⟨21, _⟩ => ⟨S4x32x256x256, .f32⟩
  | .hbm, ⟨22, _⟩ => ⟨S4x32x256x256, .f32⟩
  | .hbm, ⟨23, _⟩ => ⟨S_, .f32⟩
  | .hbm, ⟨24, _⟩ => ⟨S4x32x256x256, .f32⟩
  | .hbm, ⟨25, _⟩ => ⟨S4x32x256x256, .f32⟩
  | .hbm, ⟨26, _⟩ => ⟨S_, .f32⟩
  | .hbm, ⟨27, _⟩ => ⟨S4x32x256, .f32⟩
  | .hbm, ⟨28, _⟩ => ⟨S4x32x256x1, .f32⟩
  | .hbm, ⟨29, _⟩ => ⟨S4x32x256x256, .f32⟩
  | .hbm, ⟨30, _⟩ => ⟨S4x32x256x256, .f32⟩
  | .hbm, ⟨31, _⟩ => ⟨S4x32x256x256, .f32⟩
  | .hbm, ⟨32, _⟩ => ⟨S_, .f32⟩
  | .hbm, ⟨33, _⟩ => ⟨S4x32x256, .f32⟩
  | .hbm, ⟨34, _⟩ => ⟨S4x32x256x1, .f32⟩
  | .hbm, ⟨35, _⟩ => ⟨S4x32x256x256, .f32⟩
  | .hbm, ⟨36, _⟩ => ⟨S4x32x256x256, .f32⟩
  | .hbm, ⟨37, _⟩ => ⟨S4x32x128x256, .f32⟩
  | .hbm, ⟨38, _⟩ => ⟨S4x256x32x128, .f32⟩
  | .hbm, ⟨39, _⟩ => ⟨S4x256x4096, .f32⟩
  | .hbm, ⟨40, _⟩ => ⟨S4x256x4096, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Seg.lean ====
/- A kernel region of a program whose prefetched tables differ between the devices, and whose body may have semaphores of its
   own and may repay what the device owes: such a region, entered from the device's buffers at one valuation and left with them
   at another. -/
module

public import Idealize.ShloMosaic.Lib.Pipeline.RegionArraysT
public import Idealize.ShloMosaic.Lib.Pipeline.Kit
public import Idealize.ShloMosaic.Lib.Pipeline.Regions

@[expose] public section

noncomputable section

namespace Cert.Own

open Idealize.ShloMosaic Idealize.ShloMosaic.TcCoe
open Idealize.SL Idealize.SL.RA
open Idealize.SL.BI (sProp bigSep bigSep_congr bigSep_map)
open scoped Idealize.SL.BI
open Idealize.SL.BI.BIBase Idealize.SL.BI.Laws Idealize.SL.ProofMode Idealize.SL.Sem
open Idealize.ShloMosaic.Pipeline Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]
local notation "𝕄" => MT nD τ sig Ix Val Name U Lvl
variable {Λ₀ : Idealize.SL.Sem.Labels} {P : Type} [Fintype P]

variable (pcs : P → PCfg sig Λ₀ Val) (a : Dev nD → (p : P) → (pcs p).Adm)
  (pdats : (p : P) → (c : Dev nD) → Dat τ Val Ix Name U Lvl (pinD pcs a c p) c) (ι : Ix)
  (defs₀ : Defs nD τ sig Val Λ₀) (𝒱₀ : Variants)
  (L : GSem nD τ sig → Finset Ix) (lv : GSem nD τ sig → Ix → Lvl)

omit [Fintype P] in
/-- A region's arrays, whole and at the full share, are its array references held at any valuation that has them at those contents. -/
theorem arrays_held (p : P) (c : Dev nD) (hwin : WinFacts (pcs p).spec) (harr : ∀ w, ((pcs p).spec w).arr.IsWhole)
    (hshare : ∀ w, (pdats p c).share w = fullShare)
    (G : (w : Fin (pcs p).W) → Buf Val (((pcs p).spec w).arr.view.loc (c.tc : Thread nD τ))) (Wc : Valuation τ sig Val)
    (hG : ∀ w, G w = Wc (Proc.devRef .tc (arrRef (pcs p).spec w))) :
    ((pdats p c).arrays G : sProp 𝕄) = StableHlo.held (c.tc : Thread nD τ) (arrRefs (pcs p).spec) Wc := by
  rw [PerCore.arrays_eq (pinD pcs a) pdats p c harr hshare G]
  unfold StableHlo.held arrRefs
  rw [bigSep_map, show Finset.univ.image (arrRef (pcs p).spec) = Finset.univ.map ⟨arrRef (pcs p).spec, hwin.arr_inj⟩ from
    (Finset.map_eq_image ⟨arrRef (pcs p).spec, hwin.arr_inj⟩ Finset.univ).symm, bigSep_map]
  exact bigSep_congr fun w _ => by rw [hG]; rfl

/-- What a device holds between two items of the program: its unscoped buffers at `W`, its generator, what it keeps for later
    regions (`T`), and the tally `D` of what it owes. -/
abbrev state (c : Dev nD) (W : Valuation τ sig Val) (T : sProp 𝕄) (D : CellTallies nD τ sig Ix) : sProp 𝕄 :=
  iprop(StableHlo.held (c.tc : Thread nD τ) (ucRefs τ sig) W ∗ (∃ r, prngReg c r) ∗ T ∗ ∃ Wd, owes (c : Thread nD τ) D Wd)

/-- A region between the states `state c (W c) (T c) (D c)` and `state c (W' c) (T' c) (D' c)`. `hopen` makes the body's own
    resources `X c` out of `T c` and the region's own counters at zero, keeping `Z c` aside; `hclose` makes `T' c` of what the
    body leaves (`Y c`) and `Z c`. The tables are held whole by the body's invariant. -/
def mkSeg (p : P) {K : Type} [Fintype K] (osem : K → SemLoc sig) (ho : OwnSemFacts (pcs p).spec osem)
    (hwin : WinFacts (pcs p).spec) (hpre : PreFacts (pcs p).spec (pcs p).pre)
    (hpos : ∀ w, 0 < ((pcs p).spec w).block.numel) (harr : ∀ w, ((pcs p).spec w).arr.IsWhole)
    (hstage : ∀ w s, (((pcs p).spec w).stage s).IsWhole)
    (hbody : ∀ c, BodyObligationLoose (pdats p c) defs₀ 𝒱₀ ι Set.univ)
    (hwaits : ∀ c, (levAts L lv : sProp 𝕄) ⊢ PerCore.cellsWaits (pinD pcs a) pdats ι p c)
    (D D' : Dev nD → CellTallies nD τ sig Ix)
    (howed0 : ∀ c, (pdats p c).owed 0 = D c) (howedN : ∀ c, (pdats p c).owed (Fin.last _) = D' c)
    (hrec : ∀ c, (pdats p c).recorded 0 = Set.univ) (hshare : ∀ c w, (pdats p c).share w = fullShare)
    (W W' : Dev nD → Valuation τ sig Val)
    (hW : ∀ c w, (pdats p c).arrAt w 0 = W c (Proc.devRef .tc (arrRef (pcs p).spec w)))
    (hW' : ∀ c w, (pdats p c).arrAt w (pinD pcs a c p).N = W' c (Proc.devRef .tc (arrRef (pcs p).spec w)))
    (hT : ∀ c k, (a c p).1 k = W c (Proc.devRef .tc ((pcs p).pre.ref k)))
    (hoff : ∀ c, ∀ b ∉ arrRefs (τ := τ) (pcs p).spec, W' c b = W c b)
    (T T' X Y Z : Dev nD → sProp 𝕄)
    (hopen : ∀ c : Dev nD, iprop(T c ∗ ownSems0 osem c ∗ levAts L lv) ⊢ |={Set.univ}=> iprop(X c ∗ Z c))
    (hin : ∀ c : Dev nD, iprop(X c ∗ prefHeld (pcs p).pre c (fun _ => fullShare) (a c p).1 ∗ scopedRest (pcs p).spec c) ⊢ (pdats p c).Φ 0)
    (hout : ∀ c : Dev nD, (pdats p c).Φ (Fin.last (pinD pcs a c p).N)
      ⊢ iprop(Y c ∗ prefHeld (pcs p).pre c (fun _ => fullShare) (a c p).1 ∗ ownSems0 osem c ∗ scopedRest (pcs p).spec c))
    (hclose : ∀ c : Dev nD, iprop(Y c ∗ Z c) ⊢ |={Set.univ}=> T' c) :
    PerCore.RegionSeg pcs a pdats ι defs₀ 𝒱₀ L lv p where
  win := hwin.to₀
  block_pos := hpos
  stage_whole := hstage
  K := K
  osem := osem
  ho := ho
  hbody := hbody
  hwaits := hwaits
  pre c := state c (W c) (T c) (D c)
  post c := state c (W' c) (T' c) (D' c)
  X := X
  Y c := iprop(Y c ∗ prefHeld (pcs p).pre c (fun _ => fullShare) (a c p).1)
  Z c := iprop(Z c ∗ (∃ r, prngReg c r)
    ∗ StableHlo.held (c.tc : Thread nD τ) ((ucRefs τ sig \ arrRefs (pcs p).spec) \ tblRefs (pcs p).pre) (W c))
  hentry c := by
    rw [arrays_held pcs a pdats p c hwin harr (hshare c) _ (W c) (hW c),
      prefHeld_held (pcs p).pre hpre.inj c (a c p).1 (W c) (hT c)]
    iintro ⟨⟨Hh, Hg, HT, HO⟩, Hs, Hl⟩
    ihave Hh := (Entails.of_eq (StableHlo.held_sub_split (c.tc : Thread nD τ) (arrRefs_sub_ucRefs _ hwin.arr_unscoped) (W c))) $$ Hh
    icases Hh with ⟨Ha, Hr⟩
    ihave Hr := (Entails.of_eq (StableHlo.held_sub_split (c.tc : Thread nD τ)
      (tblRefs_sub_ucRefs_sdiff _ _ hpre.unscoped hpre.disj) (W c))) $$ Hr
    icases Hr with ⟨Ht, Hr⟩
    ihave HX := (hopen c) $$ [HT Hs Hl]
    · isplitl [HT]; · iexact HT
      isplitl [Hs] <;> iassumption
    imod HX with ⟨HX, HZ⟩
    imodintro
    isplitl [Ha]; · iexact Ha
    isplitl [Ht]; · iexact Ht
    isplitl [HO]
    · unfold Dat.owesAt owesWithin Dat.bound
      rw [howed0 c, hrec c]
      icases HO with ⟨%Wd, HO⟩; iexists Wd; isplitr; · ipureintro; exact fun _ _ => Or.inl trivial
      iexact HO
    isplitl [HX]; · iexact HX
    isplitl [HZ]; · iexact HZ
    isplitl [Hg] <;> iassumption
  hin := hin
  hout c := (hout c).trans (by
    iintro ⟨HY, Ht, Ho, Hs⟩
    isplitl [HY Ht]; · isplitl [HY] <;> iassumption
    isplitl [Ho] <;> iassumption)
  hexit c := by
    rw [arrays_held pcs a pdats p c hwin harr (hshare c) _ (W' c) (hW' c)]
    have h1 : ∀ b ∈ tblRefs (τ := τ) (pcs p).pre, W' c b = W c b := fun b hb =>
      hoff c b (Finset.disjoint_left.mp (tblRefs_disjoint_arrRefs _ _ hpre.disj) hb)
    rw [prefHeld_held (pcs p).pre hpre.inj c (a c p).1 (W' c) (fun k => (hT c k).trans
      (h1 _ (Finset.mem_map.mpr ⟨_, Finset.mem_image.mpr ⟨k, Finset.mem_univ _, rfl⟩, rfl⟩)).symm)]
    iintro ⟨Ha, HO, ⟨HY, Ht⟩, HZ, Hg, Hr⟩
    ihave Hr := (Entails.of_eq (StableHlo.held_congr (c.tc : Thread nD τ) (V' := W' c)
      (fun b hb => (hoff c b (Finset.mem_sdiff.mp (Finset.mem_sdiff.mp hb).1).2).symm))) $$ Hr
    ihave HT := (hclose c) $$ [HY HZ]
    · isplitl [HY] <;> iassumption
    imod HT
    imodintro
    isplitl [Ha Ht Hr]
    · iapply (Entails.of_eq (StableHlo.held_sub_split (c.tc : Thread nD τ) (arrRefs_sub_ucRefs _ hwin.arr_unscoped) (W' c)).symm)
      isplitl [Ha]; · iexact Ha
      iapply (Entails.of_eq (StableHlo.held_sub_split (c.tc : Thread nD τ)
        (tblRefs_sub_ucRefs_sdiff _ _ hpre.unscoped hpre.disj) (W' c)).symm)
      isplitl [Ht] <;> iassumption
    isplitl [Hg]; · iexact Hg
    isplitl [HT]; · iexact HT
    unfold Dat.owesAt owesWithin
    rw [howedN]
    icases HO with ⟨%Wd, -, HO⟩; iexists Wd; iexact HO

omit [Fintype P] in
/-- The waits a region's pipeline makes on its staging cells are allowed when the level of those cells is at most `b` and what
    the device owes at each point lies above `b`. -/
theorem waits_of_cut (p : P) (c : Dev nD) (b : Lvl)
    (hι : ∀ w s, ι ∈ L ((c : Thread nD τ), .dma (((pinD pcs a c p).win w).sem s)))
    (hιb : ∀ w s, lv ((c : Thread nD τ), .dma (((pinD pcs a c p).win w).sem s)) ι ≤ b)
    (hD : ∀ t g i, (pdats p c).owed t g i ≠ 0 → i ∈ L g ∧ b < lv g i) :
    (levAts L lv : sProp 𝕄) ⊢ PerCore.cellsWaits (pinD pcs a) pdats ι p c :=
  PerCore.cellsWaits_intro (pinD pcs a) pdats ι p c fun w s t =>
    MayOwe.of_cut b (fun q hq => by rw [Finset.mem_singleton.mp hq]; exact hι w s) (fun g i hg => (hD t g i (Nat.pos_iff_ne_zero.mp hg)).1)
      (fun q hq => by rw [Finset.mem_singleton.mp hq]; exact hιb w s) (fun g i hg => (hD t g i (Nat.pos_iff_ne_zero.mp hg)).2)

end Cert.Own

end
-- ==== Proof.Common.lean ====
/- The protocol of the two calls that exchange data: the partner of each device, the semaphores, what each of them is paid and
   with what, and the levels that order the waits. -/
module

public import proofs.«01_k».proof.Proof.Gen.KernelIdeal.Launch
public import proofs.«01_k».proof.Proof.Gen.KernelIdeal.Skeleton
public import proofs.«01_k».proof.Proof.Seg
public import Idealize.ShloMosaic.Lib.Pipeline.Frame
public import Idealize.ShloMosaic.Lib.Pipeline.FrameBody
public import Idealize.ShloMosaic.Lib.Tactic
public import Mathlib.Tactic.DeriveFintype

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## The mesh -/

/-- The device with the other coordinate along x, with which the projection call exchanges. -/
def px : Dev nD → Dev nD := fun | 0 => 2 | 1 => 3 | 2 => 0 | 3 => 1
/-- The device with the other coordinate along y, with which the output call exchanges. -/
def py : Dev nD → Dev nD := fun | 0 => 1 | 1 => 0 | 2 => 3 | 3 => 2
theorem px_px (c : Dev nD) : px (px c) = c := by revert c; decide
theorem py_py (c : Dev nD) : py (py c) = c := by revert c; decide

theorem dev1_1 (c : Dev nD) (h : k1_dev1 c < nD) : (⟨k1_dev1 c, h⟩ : Dev nD) = px c := by revert c; decide
theorem dev1_2 (c : Dev nD) (h : k1_dev2 c < nD) : (⟨k1_dev2 c, h⟩ : Dev nD) = px c := by revert c; decide
theorem dev1_3 (c : Dev nD) (h : k1_dev3 c < nD) : (⟨k1_dev3 c, h⟩ : Dev nD) = px c := by revert c; decide
theorem dev1_4 (c : Dev nD) (h : k1_dev4 c < nD) : (⟨k1_dev4 c, h⟩ : Dev nD) = px c := by revert c; decide
theorem dev1_5 (c : Dev nD) (h : k1_dev5 c < nD) : (⟨k1_dev5 c, h⟩ : Dev nD) = px c := by revert c; decide
theorem dev1_6 (c : Dev nD) (h : k1_dev6 c < nD) : (⟨k1_dev6 c, h⟩ : Dev nD) = px c := by revert c; decide
theorem dev1_7 (c : Dev nD) (h : k1_dev7 c < nD) : (⟨k1_dev7 c, h⟩ : Dev nD) = px c := by revert c; decide
theorem dev1_8 (c : Dev nD) (h : k1_dev8 c < nD) : (⟨k1_dev8 c, h⟩ : Dev nD) = px c := by revert c; decide
theorem dev1_9 (c : Dev nD) (h : k1_dev9 c < nD) : (⟨k1_dev9 c, h⟩ : Dev nD) = px c := by revert c; decide
theorem dev5_1 (c : Dev nD) (h : k5_dev1 c < nD) : (⟨k5_dev1 c, h⟩ : Dev nD) = py c := by revert c; decide
theorem dev5_2 (c : Dev nD) (h : k5_dev2 c < nD) : (⟨k5_dev2 c, h⟩ : Dev nD) = py c := by revert c; decide

/-! ## The semaphores -/

/-- The semaphores of the two exchanging calls: each call's barrier, and per block copied the semaphore its source counts on and
    the one its destination counts on. -/
inductive Ck
  | bar0 | sk (i : Fin 4) | rk (i : Fin 4) | sv (i : Fin 4) | rv (i : Fin 4) | bar1 | s5 | r5
  deriving DecidableEq, Fintype

/-- The semaphore behind a name. -/
def sem : Ck → SemLoc sig
  | .bar0 => .reg (sig.barrier 0 rfl)
  | .sk i => .dma (match i with | 0 => 13 | 1 => 14 | 2 => 15 | 3 => 16)
  | .rk i => .dma (match i with | 0 => 17 | 1 => 18 | 2 => 19 | 3 => 20)
  | .sv i => .dma (match i with | 0 => 21 | 1 => 22 | 2 => 23 | 3 => 24)
  | .rv i => .dma (match i with | 0 => 25 | 1 => 26 | 2 => 27 | 3 => 28)
  | .bar1 => .reg (sig.barrier 1 rfl)
  | .s5 => .dma 54
  | .r5 => .dma 55
theorem sem_inj : ∀ a b : Ck, sem a = sem b → a = b := by decide

/-- A device's semaphore. -/
abbrev cell (c : Dev nD) (k : Ck) : GSem nD τ sig := ((c : Thread nD τ), sem k)

/-! ## The buffers -/

theorem inb4 (i : Fin 4) : ∀ a, (![i.val, 0, 0] : Fin 3 → ℕ) a + S1x1024x512.size a ≤ S4x1024x512.size a := by
  revert i; decide

/-- Block `i` of a scratch buffer of four blocks, as the copies name it. -/
abbrev blk (b : Memref sig .tc .vmem S4x1024x512 .bf16) (i : Fin 4) : Memref sig .tc .vmem S1024x512 .bf16 :=
  (b.slice (Rect.unit (s := S4x1024x512) ![i.val, 0, 0] S1x1024x512.size (inb4 i)) (fun _ => rfl)).squeeze S1024x512 squeezes_S1x1024x512_S1024x512

/-- The scratch buffers: the blocks of k and v sent, those received, and the partial output sent and received. -/
abbrev skM : Memref sig .tc .vmem S4x1024x512 .bf16 := Memref.whole cc1_scratch0
abbrev svM : Memref sig .tc .vmem S4x1024x512 .bf16 := Memref.whole cc1_scratch1
abbrev rkM : Memref sig .tc .vmem S4x1024x512 .bf16 := Memref.whole cc1_scratch2
abbrev rvM : Memref sig .tc .vmem S4x1024x512 .bf16 := Memref.whole cc1_scratch3
abbrev sndM : Memref sig .tc .vmem S1024x4096 .bf16 := Memref.whole cc5_scratch0
abbrev rcvM : Memref sig .tc .vmem S1024x4096 .bf16 := Memref.whole cc5_scratch1

/-- The contents of a scratch buffer of the projection call, and of the output call. -/
abbrev C4 (F : FTy → Type) : Type := S4x1024x512.Idx → Elt F .bf16
abbrev C5 (F : FTy → Type) : Type := S1024x4096.Idx → Elt F .bf16

/-- The credit of one block's copy, and of the partial output's. -/
abbrev N1 : ℕ := (blk rkM 0).view.dmaCredit
abbrev N5 : ℕ := rcvM.view.dmaCredit
theorem N1_pos : 0 < N1 := View.dmaCredit_pos _ (by decide)
theorem N5_pos : 0 < N5 := View.dmaCredit_pos _ (by decide)

/-- The elements of block `i`. -/
def plane (i : Fin 4) : Finset S4x1024x512.Idx := Finset.univ.filter fun x => (x 0).val = i.val
theorem unit_set (i : Fin 4) :
    (Rect.unit (s := S4x1024x512) ![i.val, 0, 0] S1x1024x512.size (inb4 i)).set = plane i := by
  ext x
  rw [Rect.mem_set_unit]
  simp only [plane, Finset.mem_filter, Finset.mem_univ, true_and]
  constructor
  · intro h; have := h 0; simp at this; omega
  · intro h a
    have := (x a).isLt
    fin_cases a <;> simp_all
theorem blk_set_sk (i : Fin 4) : (blk skM i).view.set = plane i :=
  (Memref.set_view_squeeze _ _).trans ((View.set_slice_whole _ _).trans (unit_set i))
theorem blk_set_sv (i : Fin 4) : (blk svM i).view.set = plane i :=
  (Memref.set_view_squeeze _ _).trans ((View.set_slice_whole _ _).trans (unit_set i))
theorem blk_set_rk (i : Fin 4) : (blk rkM i).view.set = plane i :=
  (Memref.set_view_squeeze _ _).trans ((View.set_slice_whole _ _).trans (unit_set i))
theorem blk_set_rv (i : Fin 4) : (blk rvM i).view.set = plane i :=
  (Memref.set_view_squeeze _ _).trans ((View.set_slice_whole _ _).trans (unit_set i))
theorem plane_disjoint {i j : Fin 4} (h : i ≠ j) : Disjoint (plane i) (plane j) :=
  Finset.disjoint_left.mpr fun x hx hy => h (Fin.ext (by
    simp only [plane, Finset.mem_filter, Finset.mem_univ, true_and] at hx hy; omega))
theorem plane_univ : (Finset.univ : Finset S4x1024x512.Idx) = plane 0 ∪ (plane 1 ∪ (plane 2 ∪ plane 3)) := by
  ext x
  simp only [plane, Finset.mem_union, Finset.mem_filter, Finset.mem_univ, true_and, true_iff]
  have h : (x 0).val < 4 := (x 0).isLt
  show (x 0).val = 0 ∨ (x 0).val = 1 ∨ (x 0).val = 2 ∨ (x 0).val = 3
  omega

/-! ## The resources -/

/-- The ghost state: a copy for the pipelines' staging cells, and one for the protocol. -/
abbrev UU : Type := UR sig nD τ × UR sig nD τ
local notation "𝕄" => MT nD τ sig Unit (Elt F) ℕ UU ℕ
abbrev EP : Emb (UR sig nD τ) (MT nD τ sig Unit (Elt F) ℕ UU ℕ) := embL
abbrev ER : Emb (UR sig nD τ) (MT nD τ sig Unit (Elt F) ℕ UU ℕ) := embR

/-- A buffer of a device, whole, at contents `f`; and its block `i`. -/
abbrev pt (c : Dev nD) (b : Ref sig .tc) (f : Buf (Elt F) ((c : Thread nD τ).loc b)) : sProp 𝕄 := ((c : Thread nD τ).loc b) ↦{fullShare} f
abbrev skP (c : Dev nD) (i : Fin 4) (f : C4 F) : sProp 𝕄 := (((c : Thread nD τ).loc cc1_scratch0) ↦[(plane i : Finset S4x1024x512.Idx)]{fullShare} f)
abbrev svP (c : Dev nD) (i : Fin 4) (f : C4 F) : sProp 𝕄 := (((c : Thread nD τ).loc cc1_scratch1) ↦[(plane i : Finset S4x1024x512.Idx)]{fullShare} f)
abbrev rkP (c : Dev nD) (i : Fin 4) (f : C4 F) : sProp 𝕄 := (((c : Thread nD τ).loc cc1_scratch2) ↦[(plane i : Finset S4x1024x512.Idx)]{fullShare} f)
abbrev rvP (c : Dev nD) (i : Fin 4) (f : C4 F) : sProp 𝕄 := (((c : Thread nD τ).loc cc1_scratch3) ↦[(plane i : Finset S4x1024x512.Idx)]{fullShare} f)

omit [FloatOps F] in
/-- A buffer of four blocks, held whole, is its four blocks held one by one. -/
theorem split4 (ℓ : Loc nD τ sig) (A B C D : Finset ℓ.ty.Idx)
    (hu : (Finset.univ : Finset ℓ.ty.Idx) = A ∪ (B ∪ (C ∪ D)))
    (h1 : Disjoint A (B ∪ (C ∪ D))) (h2 : Disjoint B (C ∪ D)) (h3 : Disjoint C D) (f : Buf (Elt F) ℓ) :
    (ℓ ↦{fullShare} f : sProp 𝕄) = iprop((ℓ ↦[A]{fullShare} f) ∗ (ℓ ↦[B]{fullShare} f) ∗ (ℓ ↦[C]{fullShare} f) ∗ (ℓ ↦[D]{fullShare} f)) := by
  have e {I J : Finset ℓ.ty.Idx} (h : Disjoint I J) : (ℓ ↦[I ∪ J]{fullShare} f : sProp 𝕄) = iprop((ℓ ↦[I]{fullShare} f) ∗ ℓ ↦[J]{fullShare} f) :=
    BI.equiv_iff.mp ⟨(pointsTo_union h).1, (pointsTo_union h).2⟩
  show (ℓ ↦[Finset.univ]{fullShare} f : sProp 𝕄) = _
  rw [hu, e h1, e h2, e h3]
omit [FloatOps F] in
theorem plane_d1 : Disjoint (plane 0) (plane 1 ∪ (plane 2 ∪ plane 3)) :=
  Finset.disjoint_union_right.mpr ⟨plane_disjoint (by decide), Finset.disjoint_union_right.mpr ⟨plane_disjoint (by decide), plane_disjoint (by decide)⟩⟩
omit [FloatOps F] in
theorem plane_d2 : Disjoint (plane 1) (plane 2 ∪ plane 3) :=
  Finset.disjoint_union_right.mpr ⟨plane_disjoint (by decide), plane_disjoint (by decide)⟩
omit [FloatOps F] in
theorem sk_split (c : Dev nD) (f : C4 F) : (pt c cc1_scratch0 f : sProp 𝕄) = iprop(skP c 0 f ∗ skP c 1 f ∗ skP c 2 f ∗ skP c 3 f) :=
  split4 ((c : Thread nD τ).loc cc1_scratch0) (plane 0) (plane 1) (plane 2) (plane 3) plane_univ plane_d1 plane_d2 (plane_disjoint (by decide)) f
omit [FloatOps F] in
theorem sv_split (c : Dev nD) (f : C4 F) : (pt c cc1_scratch1 f : sProp 𝕄) = iprop(svP c 0 f ∗ svP c 1 f ∗ svP c 2 f ∗ svP c 3 f) :=
  split4 ((c : Thread nD τ).loc cc1_scratch1) (plane 0) (plane 1) (plane 2) (plane 3) plane_univ plane_d1 plane_d2 (plane_disjoint (by decide)) f
omit [FloatOps F] in
theorem rk_split (c : Dev nD) (f : C4 F) : (pt c cc1_scratch2 f : sProp 𝕄) = iprop(rkP c 0 f ∗ rkP c 1 f ∗ rkP c 2 f ∗ rkP c 3 f) :=
  split4 ((c : Thread nD τ).loc cc1_scratch2) (plane 0) (plane 1) (plane 2) (plane 3) plane_univ plane_d1 plane_d2 (plane_disjoint (by decide)) f
omit [FloatOps F] in
theorem rv_split (c : Dev nD) (f : C4 F) : (pt c cc1_scratch3 f : sProp 𝕄) = iprop(rvP c 0 f ∗ rvP c 1 f ∗ rvP c 2 f ∗ rvP c 3 f) :=
  split4 ((c : Thread nD τ).loc cc1_scratch3) (plane 0) (plane 1) (plane 2) (plane 3) plane_univ plane_d1 plane_d2 (plane_disjoint (by decide)) f

/-! ## The schedule -/

section Sched
variable (KS VS : Dev nD → C4 F) (SN : Dev nD → C5 F)

/-- What a device hands its partner at the projection call's barrier: its two receive buffers, and that their semaphores are at
    their first round. -/
def reach0 (c : Dev nD) : sProp 𝕄 :=
  iprop(reached ER (cell c (.rk 0)) 0 ∗ reached ER (cell c (.rv 0)) 0 ∗ reached ER (cell c (.rk 1)) 0 ∗ reached ER (cell c (.rv 1)) 0
    ∗ reached ER (cell c (.rk 2)) 0 ∗ reached ER (cell c (.rv 2)) 0 ∗ reached ER (cell c (.rk 3)) 0 ∗ reached ER (cell c (.rv 3)) 0)

/-- What each semaphore of device `c` is paid with: `KS d` and `VS d` are the blocks device `d` sends in the projection call,
    `SN d` the partial output it sends in the output call. -/
def payOf (c : Dev nD) : Ck → sProp 𝕄
  | .bar0 => iprop((∃ f, pt (px c) cc1_scratch2 f) ∗ (∃ f, pt (px c) cc1_scratch3 f) ∗ reach0 (px c))
  | .sk i => skP c i (KS c)
  | .sv i => svP c i (VS c)
  | .rk i => rkP c i (KS (px c))
  | .rv i => rvP c i (VS (px c))
  | .bar1 => iprop((∃ f, pt (py c) cc5_scratch1 f) ∗ reached ER (cell (py c) .r5) 0)
  | .s5 => pt c cc5_scratch0 (SN c)
  | .r5 => pt c cc5_scratch1 (SN (py c))
def amtOf : Ck → ℕ
  | .bar0 => 1 | .bar1 => 1 | .s5 => N5 | .r5 => N5
  | .sk _ => N1 | .sv _ => N1 | .rk _ => N1 | .rv _ => N1
theorem amtOf_pos (k : Ck) : 0 < amtOf k := by
  cases k <;> first | exact Nat.one_pos | exact N1_pos | exact N5_pos

/-- The name of a semaphore that has one. -/
def nameOf (s : SemLoc sig) : Option Ck := (Finset.univ.filter fun k => sem k = s).toList.head?
theorem nameOf_sem (k : Ck) : nameOf (sem k) = some k := by
  have h : (Finset.univ.filter fun k' => sem k' = sem k) = {k} := by
    ext k'; simp only [Finset.mem_filter, Finset.mem_univ, true_and, Finset.mem_singleton]
    exact ⟨fun h => sem_inj _ _ h, fun h => by rw [h]⟩
  unfold nameOf; rw [h]; simp
theorem nameOf_some {s : SemLoc sig} {k : Ck} (h : nameOf s = some k) : sem k = s := by
  have := List.mem_of_mem_head? (Option.mem_def.mpr h)
  exact (Finset.mem_filter.mp (Finset.mem_toList.mp this)).2

/-- Every named semaphore of every device takes one payment, in its first round. -/
def Rd : Rounds.Schedule (GSem nD τ sig) Unit 𝕄 where
  duties g r := if r = 0 ∧ g.1.2 = .tc ∧ (nameOf g.2).isSome then {()} else ∅
  unitless _ := False
  amount g _ _ := ((nameOf g.2).map amtOf).getD 1
  payload g _ _ := match nameOf g.2 with | some k => payOf KS VS SN g.1.1 k | none => iprop(emp)
  amount_pos g _ _ _ := by
    cases h : nameOf g.2 with
    | none => simp
    | some k => simpa using amtOf_pos k

instance payOf_storable (c : Dev nD) (k : Ck) : BI.Storable (upEmb : UEmb _ 𝕄) (payOf KS VS SN c k) := by
  cases k <;> (unfold payOf; try unfold reach0) <;> infer_instance
instance Rd_payload_storable (g : GSem nD τ sig) (r : ℕ) (d : Unit) :
    BI.Storable (upEmb : UEmb _ 𝕄) ((Rd KS VS SN).payload g r d) := by
  show BI.Storable upEmb (match nameOf g.2 with | some k => payOf KS VS SN g.1.1 k | none => iprop(emp))
  split <;> infer_instance

variable (c : Dev nD) (k : Ck)
theorem duties0 : (Rd KS VS SN).duties (cell c k) 0 = {()} := by
  dsimp only [Rd]; exact if_pos ⟨rfl, rfl, by rw [nameOf_sem]; rfl⟩
theorem duties_later (g : GSem nD τ sig) : ∀ r, 1 ≤ r → (Rd KS VS SN).duties g r = ∅ :=
  fun r hr => by dsimp only [Rd]; rw [if_neg (fun h => by omega)]
theorem amount0 (u : Unit) : (Rd KS VS SN).amount (cell c k) 0 u = amtOf k := by
  dsimp only [Rd]; rw [nameOf_sem]; rfl
theorem expect0 : (Rd KS VS SN).expect (cell c k) 0 = amtOf k := by
  unfold Schedule.expect Schedule.amountOf; rw [duties0, Finset.sum_singleton, amount0]
theorem payload0 (u : Unit) : (Rd KS VS SN).payload (cell c k) 0 u = payOf KS VS SN c k := by
  dsimp only [Rd]; rw [nameOf_sem]
theorem rest0 : bigSep ((Rd KS VS SN).duties (cell c k) 0 \ ∅) (fun u => (Rd KS VS SN).payload (cell c k) 0 u) = payOf KS VS SN c k := by
  rw [Finset.sdiff_empty, duties0, bigSep_singleton, payload0]
end Sched

/-! ## What each device owes; the levels -/

/-- What a device owes its partner in the output call: a unit at its barrier and the copy. -/
def oweB (c : Dev nD) : CellTallies nD τ sig Unit := tallyAt (cell (py c) .r5) () N5 + tallyAt (cell (py c) .bar1) () 1
/-- That and the eight copies owed in the projection call, the first of them last. -/
def owe8 (c : Dev nD) : CellTallies nD τ sig Unit :=
  oweB c + tallyAt (cell (px c) (.rv 3)) () N1 + tallyAt (cell (px c) (.rk 3)) () N1 + tallyAt (cell (px c) (.rv 2)) () N1 + tallyAt (cell (px c) (.rk 2)) () N1
    + tallyAt (cell (px c) (.rv 1)) () N1 + tallyAt (cell (px c) (.rk 1)) () N1 + tallyAt (cell (px c) (.rv 0)) () N1 + tallyAt (cell (px c) (.rk 0)) () N1
/-- All that a device owes at the start: that and the unit at the projection call's barrier. -/
def oweT (c : Dev nD) : CellTallies nD τ sig Unit := owe8 c + tallyAt (cell (px c) .bar0) () 1

def L (g : GSem nD τ sig) : Finset Unit := if g.1.2 = .tc then {()} else ∅
def lvlOf : Ck → ℕ
  | .bar0 => 1 | .rk _ => 2 | .rv _ => 2 | .bar1 => 3 | .r5 => 4 | .sk _ => 0 | .sv _ => 0 | .s5 => 0
/-- The level of a semaphore: 0 for the staging and the source sides, then the two calls' barriers and destination sides in the order they are waited on. -/
def lv (g : GSem nD τ sig) (_ : Unit) : ℕ := ((nameOf g.2).map lvlOf).getD 0
theorem lv_cell (c : Dev nD) (k : Ck) : lv (cell c k) () = lvlOf k := by unfold lv; rw [nameOf_sem]; rfl
theorem mem_L (c : Dev nD) (s : SemLoc sig) : () ∈ L ((c : Thread nD τ), s) := by unfold L; rw [if_pos rfl]; exact Finset.mem_singleton_self _
theorem L_off (g : GSem nD τ sig) (h : g.1.2 ≠ .tc) : L g = ∅ := if_neg h

/-- Whatever is owed is owed at a named semaphore, whose level is that of the name; a bound below all the names owed is below it. -/
theorem pos_tally {p : Dev nD} {k : Ck} {n : ℕ} {g : GSem nD τ sig} {i : Unit} (h : 0 < tallyAt (cell p k) () n g i) : g = cell p k := by
  by_contra hg
  rw [tallyAt_ne_cell hg] at h
  exact absurd h (lt_irrefl _)
theorem pos_add {A B : CellTallies nD τ sig Unit} {g : GSem nD τ sig} {i : Unit} (h : 0 < (A + B) g i) : 0 < A g i ∨ 0 < B g i := by
  have h' : 0 < A g i + B g i := h
  omega
theorem cut_tally (b : ℕ) (p : Dev nD) (k : Ck) (n : ℕ) (hb : b < lvlOf k) :
    ∀ (g : GSem nD τ sig) (i : Unit), 0 < tallyAt (cell p k) () n g i → i ∈ L g ∧ b < lv g i := fun g i h => by
  rw [pos_tally h]; exact ⟨mem_L _ _, by rw [show lv (cell p k) i = lvlOf k from lv_cell p k]; exact hb⟩
theorem cut_add {b : ℕ} {A B : CellTallies nD τ sig Unit} (hA : ∀ (g : GSem nD τ sig) (i : Unit), 0 < A g i → i ∈ L g ∧ b < lv g i)
    (hB : ∀ (g : GSem nD τ sig) (i : Unit), 0 < B g i → i ∈ L g ∧ b < lv g i) :
    ∀ (g : GSem nD τ sig) (i : Unit), 0 < (A + B) g i → i ∈ L g ∧ b < lv g i :=
  fun g i h => (pos_add h).elim (hA g i) (hB g i)
/-- What is owed in the output call is above level 2. -/
theorem cutB (c : Dev nD) (b : ℕ) (hb : b ≤ 2) : ∀ (g : GSem nD τ sig) (i : Unit), 0 < oweB c g i → i ∈ L g ∧ b < lv g i :=
  cut_add (cut_tally b _ _ _ (show b < 4 by omega)) (cut_tally b _ _ _ (show b < 3 by omega))
/-- The copies owed in the projection call are above level 1. -/
theorem cut8 (c : Dev nD) (b : ℕ) (hb : b ≤ 1) : ∀ (g : GSem nD τ sig) (i : Unit), 0 < owe8 c g i → i ∈ L g ∧ b < lv g i := by
  have h2 : b < 2 := by omega
  exact cut_add (cut_add (cut_add (cut_add (cut_add (cut_add (cut_add (cut_add (cutB c b (by omega)) (cut_tally b _ _ _ h2)) (cut_tally b _ _ _ h2))
    (cut_tally b _ _ _ h2)) (cut_tally b _ _ _ h2)) (cut_tally b _ _ _ h2)) (cut_tally b _ _ _ h2)) (cut_tally b _ _ _ h2)) (cut_tally b _ _ _ h2)
/-- All that is owed is above level 0. -/
theorem cutT (c : Dev nD) : ∀ (g : GSem nD τ sig) (i : Unit), 0 < oweT c g i → i ∈ L g ∧ 0 < lv g i :=
  cut_add (cut8 c 0 (by omega)) (cut_tally 0 _ _ _ (show 0 < 1 by omega))

end Cert.KernelIdeal

end
-- ==== Proof.Tables.lean ====
/- The one-word tables of the three calls that read one: each holds the device's second mesh coordinate. -/
module

public import proofs.«01_k».proof.Proof.Seg
public import proofs.«01_k».proof.Proof.Common

@[expose] public section

noncomputable section

namespace Cert.KernelIdeal

open Idealize.ShloMosaic Idealize.ShloMosaic.TcCoe
open Facts₀ Facts

variable {F : FTy → Type} [FloatOps F]

/-- The device's second mesh coordinate, as a word. -/
abbrev yWord (c : Dev nD) : BitVec 32 := BitVec.ofNat 32 (c.val % 2)

def tbl1 (c : Dev nD) : pre1.Contents (Elt F) := fun | ⟨0, _⟩ => fun _ => yWord c
def tbl2 (c : Dev nD) : pre2.Contents (Elt F) := fun | ⟨0, _⟩ => fun _ => yWord c
def tbl5 (c : Dev nD) : pre5.Contents (Elt F) := fun | ⟨0, _⟩ => fun _ => yWord c

theorem ix_1_1 (c : Dev nD) (i : grid1.Coords) : cc1_transform_1 inb_S1_S1_0 numel1_S1 (tbl1 (F := F) c) i = ![0, c.val % 2] := by
  show ![(0#32).toNat, (yWord c).toNat] = ![0, c.val % 2]
  revert c; decide
theorem ix_1_2 (c : Dev nD) (i : grid1.Coords) : cc1_transform_2 inb_S1_S1_0 numel1_S1 (tbl1 (F := F) c) i = ![0, c.val % 2] := by
  show ![(0#32).toNat, (yWord c).toNat] = ![0, c.val % 2]
  revert c; decide
theorem ix_1_4 (c : Dev nD) (i : grid1.Coords) : cc1_transform_4 inb_S1_S1_0 numel1_S1 (tbl1 (F := F) c) i = ![0, 8 * (c.val % 2) + (i 0).val] := by
  show ![(0#32).toNat, (Scalar.addi (Scalar.muli (yWord c) 8#32) (BitVec.ofNat 32 (i 0).val)).toNat] = _
  generalize i 0 = j
  revert c j; decide
theorem ix_2_1 (c : Dev nD) (i : grid2.Coords) : cc2_transform_1 inb_S1_S1_0 numel1_S1 (tbl2 (F := F) c) i = ![0, 4 * (c.val % 2) + (i 0).val] := by
  show ![(0#32).toNat, (Scalar.addi (Scalar.muli (yWord c) 4#32) (BitVec.ofNat 32 (i 0).val)).toNat] = _
  generalize i 0 = j
  revert c j; decide
theorem ix_5_1 (c : Dev nD) (i : grid5.Coords) : cc5_transform_1 inb_S1_S1_0 numel1_S1 (tbl5 (F := F) c) i = ![4 * (c.val % 2) + min (i 0).val 3, 0] := by
  show ![(Scalar.addi (Scalar.muli (yWord c) 4#32) (Scalar.minsi (BitVec.ofNat 32 (i 0).val) 3#32)).toNat, (0#32).toNat] = _
  generalize i 0 = j
  revert c j; decide

/-- Two bounds on a block index bound a block's end. -/
theorem fits {s b : Fin 2 → ℕ} {x y : ℕ} (h0 : (x + 1) * b 0 ≤ s 0) (h1 : (y + 1) * b 1 ≤ s 1) : ∀ a, ((![x, y] : Fin 2 → ℕ) a + 1) * b a ≤ s a := by
  intro a; fin_cases a
  · exact h0
  · exact h1

theorem ok_1 (c : Dev nD) : ok1 (tbl1 (F := F) c) := by
  have hc : c.val % 2 < 2 := Nat.mod_lt _ (by decide)
  refine ⟨fun i => ⟨?_, Or.inl rfl⟩, fun i => ⟨?_, Or.inl rfl⟩, fun i => ⟨?_, Or.inl rfl⟩⟩
  · rw [ix_1_1]
    exact fits (by decide) (by show (c.val % 2 + 1) * 2048 ≤ 4096; omega)
  · rw [ix_1_2]
    exact fits (by decide) (by show (c.val % 2 + 1) * 2048 ≤ 4096; omega)
  · rw [ix_1_4]
    have hi : (i 0).val < 8 := (i 0).isLt
    exact fits (by decide) (by show (8 * (c.val % 2) + (i 0).val + 1) * 256 ≤ 4096; omega)
theorem ok_2 (c : Dev nD) : ok2 (tbl2 (F := F) c) := by
  have hc : c.val % 2 < 2 := Nat.mod_lt _ (by decide)
  refine fun i => ⟨?_, Or.inl rfl⟩
  rw [ix_2_1]
  have hi : (i 0).val < 4 := (i 0).isLt
  exact fits (by decide) (by show (4 * (c.val % 2) + (i 0).val + 1) * 256 ≤ 2048; omega)
theorem ok_5 (c : Dev nD) : ok5 (tbl5 (F := F) c) := by
  have hc : c.val % 2 < 2 := Nat.mod_lt _ (by decide)
  refine fun i => ⟨?_, Or.inl rfl⟩
  rw [ix_5_1]
  exact fits (by show (4 * (c.val % 2) + min (i 0).val 3 + 1) * 512 ≤ 4096; omega) (by decide)

/-- The tables' contents, on each device and for each call. -/
def adm (c : Dev nD) : (p : Fin 6) → (pcfgs (F := F) p).Adm
  | 0 => ⟨fun k => k.elim0, trivial⟩
  | 1 => ⟨tbl1 c, ok_1 c⟩
  | 2 => ⟨tbl2 c, ok_2 c⟩
  | 3 => ⟨fun k => k.elim0, trivial⟩
  | 4 => ⟨fun k => k.elim0, trivial⟩
  | 5 => ⟨tbl5 c, ok_5 c⟩
  | ⟨_ + 6, h⟩ => absurd h (Nat.not_lt.2 (Nat.le_add_left _ _))

end Cert.KernelIdeal

end
-- ==== Proof.Quiet.lean ====
/- The bodies of the four calls that exchange nothing: from the contents of the staging buffers, what each leaves in its
   result's buffer. -/
module

public import proofs.«01_k».proof.Proof.Common
public import Idealize.ShloMosaic.Lib.Pipeline.Value
public import Idealize.ShloMosaic.Lib.Pipeline.ValueKit.Basic

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

/-- No variant: no kernel of this program recurses. -/
abbrev 𝒱₀ : Variants := Variants.none

/-- The two offsets of a whole rank-two access are zero. -/
theorem off2 : (![0, 0] : Fin 2 → ℕ) = fun _ => 0 := by funext i; fin_cases i <;> rfl

omit [FloatOps F] in
/-- Reading a whole buffer through the access that covers it is reading the buffer. -/
theorem load_whole {sp : Space} {S : Shape} {e : EltTy} (v : View sig .tc sp S e) (f : v.ty.Contents (Elt F)) {off : Fin S.rank → ℕ}
    (h : off = fun _ => 0) (inb : ∀ a, off a + S.size a ≤ S.size a) :
    v.readAt (Elt F) (Rect.unit off S.size inb).toLoadRect f = v.read (Elt F) f := by
  rw [View.readAt_eq_ld (r := Rect.unit off S.size inb), View.ld_unit_zero h]

omit [FloatOps F] in
/-- The same for a buffer of rank two, as the bodies write the access. -/
theorem load2 {sp : Space} {a b : ℕ} {e : EltTy} (v : View sig .tc sp ⟨2, ![a, b]⟩ e) (f : v.ty.Contents (Elt F))
    (inb : ∀ k, (![0, 0] : Fin 2 → ℕ) k + (![a, b] : Fin 2 → ℕ) k ≤ (![a, b] : Fin 2 → ℕ) k) :
    v.readAt (Elt F) (Rect.unit (s := ⟨2, ![a, b]⟩) ![0, 0] ![a, b] inb).toLoadRect f = v.read (Elt F) f :=
  load_whole v f off2 inb

omit [FloatOps F] in
/-- After a store through the access that covers the buffer, the buffer reads what was stored. -/
theorem read_store [∀ e, Nonempty (Elt F e)] {sp : Space} {S : Shape} {e : EltTy} (v : View sig .tc sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self .., View.mem_set_unit_zero h inb y⟩), View.canon_cons_unit_zero h]

omit [FloatOps F] in
/-- A buffer held at contents that read `Y` is owned at `Y`. -/
theorem own_back (c : Dev nD) {sp : Space} {S : Shape} {e : EltTy} (m : Memref sig .tc sp S e) (f : m.view.ty.Contents (Elt F)) (Y : S.Idx → Elt F e)
    (h : m.view.read (Elt F) f = Y) :
    (m.view.loc (c : Thread nD τ) ↦[m.view.set]{fullShare} f : sProp 𝕄)
      ⊢ iprop(∃ f, ⌜m.view.read (Elt F) f = Y⌝ ∗ (m.view.loc (c : Thread nD τ) ↦[m.view.set]{fullShare} f)) := by
  iintro H
  iexists f
  isplitr; · ipureintro; exact h
  iexact H

variable (c : Dev nD)

/-- The first product call leaves the product of its two operands. -/
theorem run0 (i : grid0.Coords) (arg1 : Memref sig .tc .vmem S1024x4096 .f32) (harg1 : arg1.IsWhole) (arg2 : Memref sig .tc .vmem S4096x128 .f32) (harg2 : arg2.IsWhole) (arg3 : Memref sig .tc .vmem S1024x128 .f32) (harg3 : arg3.IsWhole)
    (X0 : S1024x4096.Idx → Elt F .f32) (X1 : S4096x128.Idx → Elt F .f32) (X2 : S1024x128.Idx → Elt F .f32) :
    iprop(owns (c : Thread nD τ) arg1 fullShare X0 ∗ owns (c : Thread nD τ) arg2 fullShare X1 ∗ owns (c : Thread nD τ) arg3 fullShare X2)
      ⊢ wp frame (wpE (defs₀ (F := F)) 𝒱₀ (c : Thread nD τ) none) Set.univ (cc0__mm_body i arg1 harg1 arg2 harg2 arg3 harg3)
          (fun _ => (iprop(owns (c : Thread nD τ) arg1 fullShare X0 ∗ owns (c : Thread nD τ) arg2 fullShare X1 ∗ owns (c : Thread nD τ) arg3 fullShare (Gen.k0_pay1 X0 X1)) : sProp 𝕄)) := by
  unfold owns
  iintro ⟨⟨%f0, %h0, H0⟩, ⟨%f1, %h1, H1⟩, ⟨%f2, -, H2⟩⟩
  rw [Gen.cc0__mm_body_eq_skeleton]
  sl_exec
  sl_step
  isplitl [H0]
  · iapply (own_back c arg1 f0 X0 h0); iexact H0
  isplitl [H1]
  · iapply (own_back c arg2 f1 X1 h1); iexact H1
  iapply (own_back c arg3 _ _ ?_)
  rotate_left
  · iexact H2
  · rw [read_store _ _ off2]
    simp only [load2]
    subst h0 h1
    rfl

/-- The rotary-query product call leaves, at each grid point, the product of its operand with a block of columns. -/
theorem run2 (i : grid2.Coords) (arg1 : Memref sig .tc .smem S1 .i32) (harg1 : arg1.IsWhole) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole)
    (X0 : S1024x4096.Idx → Elt F .f32) (X1 : S4096x256.Idx → Elt F .f32) (X2 : S1024x256.Idx → Elt F .f32) :
    iprop(owns (c : Thread nD τ) arg2 fullShare X0 ∗ owns (c : Thread nD τ) arg3 fullShare X1 ∗ owns (c : Thread nD τ) arg4 fullShare X2)
      ⊢ wp frame (wpE (defs₀ (F := F)) 𝒱₀ (c : Thread nD τ) none) Set.univ (cc2__mm_half_body i arg1 harg1 arg2 harg2 arg3 harg3 arg4 harg4)
          (fun _ => (iprop(owns (c : Thread nD τ) arg2 fullShare X0 ∗ owns (c : Thread nD τ) arg3 fullShare X1 ∗ owns (c : Thread nD τ) arg4 fullShare (Gen.k2_pay1 X0 X1)) : sProp 𝕄)) := by
  unfold owns
  iintro ⟨⟨%f0, %h0, H0⟩, ⟨%f1, %h1, H1⟩, ⟨%f2, -, H2⟩⟩
  rw [Gen.cc2__mm_half_body_eq_skeleton]
  sl_exec
  sl_step
  isplitl [H0]
  · iapply (own_back c arg2 f0 X0 h0); iexact H0
  isplitl [H1]
  · iapply (own_back c arg3 f1 X1 h1); iexact H1
  iapply (own_back c arg4 _ _ ?_)
  rotate_left
  · iexact H2
  · rw [read_store _ _ off2]
    simp only [load2]
    subst h0 h1
    rfl

/-- The rotary-key product call leaves the product of its two operands. -/
theorem run3 (i : grid3.Coords) (arg1 : Memref sig .tc .vmem S1024x4096 .f32) (harg1 : arg1.IsWhole) (arg2 : Memref sig .tc .vmem S4096x64 .f32) (harg2 : arg2.IsWhole) (arg3 : Memref sig .tc .vmem S1024x64 .f32) (harg3 : arg3.IsWhole)
    (X0 : S1024x4096.Idx → Elt F .f32) (X1 : S4096x64.Idx → Elt F .f32) (X2 : S1024x64.Idx → Elt F .f32) :
    iprop(owns (c : Thread nD τ) arg1 fullShare X0 ∗ owns (c : Thread nD τ) arg2 fullShare X1 ∗ owns (c : Thread nD τ) arg3 fullShare X2)
      ⊢ wp frame (wpE (defs₀ (F := F)) 𝒱₀ (c : Thread nD τ) none) Set.univ (cc3__mm_body i arg1 harg1 arg2 harg2 arg3 harg3)
          (fun _ => (iprop(owns (c : Thread nD τ) arg1 fullShare X0 ∗ owns (c : Thread nD τ) arg2 fullShare X1 ∗ owns (c : Thread nD τ) arg3 fullShare (Gen.k3_pay1 X0 X1)) : sProp 𝕄)) := by
  unfold owns
  iintro ⟨⟨%f0, %h0, H0⟩, ⟨%f1, %h1, H1⟩, ⟨%f2, -, H2⟩⟩
  rw [Gen.cc3__mm_body_eq_skeleton]
  sl_exec
  sl_step
  isplitl [H0]
  · iapply (own_back c arg1 f0 X0 h0); iexact H0
  isplitl [H1]
  · iapply (own_back c arg2 f1 X1 h1); iexact H1
  iapply (own_back c arg3 _ _ ?_)
  rotate_left
  · iexact H2
  · rw [read_store _ _ off2]
    simp only [load2]
    subst h0 h1
    rfl

/-- The attention call leaves, at each grid point, the softmax-weighted values of one batch entry and one head. -/
theorem run4 (i : grid4.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole)
    (X0 : S256x128.Idx → Elt F .f32) (X1 : S256x128.Idx → Elt F .f32) (X2 : S256x128.Idx → Elt F .f32) (X3 : S256x128.Idx → Elt F .f32) (X4 : S256x128.Idx → Elt F .f32) (X5 : S256x128.Idx → Elt F .f32) :
    iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare X5)
      ⊢ wp frame (wpE (defs₀ (F := F)) 𝒱₀ (c : Thread nD τ) none) Set.univ (cc4__attn_body i arg2 harg2 arg3 harg3 arg4 harg4 arg5 harg5 arg6 harg6 arg7 harg7)
          (fun _ => (iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare (Gen.k4_pay1 X0 X2 X1 X3 X4)) : sProp 𝕄)) := by
  unfold owns
  iintro ⟨⟨%f0, %h0, H0⟩, ⟨%f1, %h1, H1⟩, ⟨%f2, %h2, H2⟩, ⟨%f3, %h3, H3⟩, ⟨%f4, %h4, H4⟩, ⟨%f5, -, H5⟩⟩
  rw [Gen.cc4__attn_body_eq_skeleton]
  sl_exec
  sl_step
  isplitl [H0]
  · iapply (own_back c arg2 f0 X0 h0); iexact H0
  isplitl [H1]
  · iapply (own_back c arg3 f1 X1 h1); iexact H1
  isplitl [H2]
  · iapply (own_back c arg4 f2 X2 h2); iexact H2
  isplitl [H3]
  · iapply (own_back c arg5 f3 X3 h3); iexact H3
  isplitl [H4]
  · iapply (own_back c arg6 f4 X4 h4); iexact H4
  iapply (own_back c arg7 _ _ ?_)
  rotate_left
  · iexact H5
  · rw [read_store _ _ off2]
    simp only [load2]
    subst h0 h1 h2 h3 h4
    rfl

end Cert.KernelIdeal
-- ==== Proof.Calm.lean ====
/- Proof data of the four calls that talk to nobody, and what their bodies do at every point. -/
module

public import proofs.«01_k».proof.Proof.Tables
public import proofs.«01_k».proof.Proof.Quiet

@[expose] public section

noncomputable section

namespace Cert.KernelIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat Cfg BodyObligationLoose arrRef prefHeld scopedRest)
open Facts₀ Facts

variable {F : FTy → Type} [FloatOps F]

local notation "𝕄" => MT nD τ sig Unit (Elt F) ℕ UU ℕ

/-- The pipelines of the program, each at its device's tables. -/
abbrev cfgAt (c : Dev nD) (p : Fin 6) : Cfg sig Λ₀ := Pipeline.pinD (pcfgs (F := F)) adm c p

/-- What a window's array holds under the block of a point, the device's buffers being at `V`. -/
abbrev blkOf (p : Fin 6) (c : Dev nD) (V : Valuation τ sig (Elt F)) (w : Fin (pcfgs (F := F) p).W) (t : Fin (cfgAt (F := F) c p).N) :=
  (((cfgAt (F := F) c p).win w).blk t).view.read (Elt F) (V (Proc.devRef .tc (arrRef (pcfgs (F := F) p).spec w)))

/-- A run followed by what comes after it. -/
theorem run_then {p : Prog (TpuEff nD τ sig (Elt F) Λ₀ .tc) PUnit} {c : Dev nD} {P Q : sProp 𝕄}
    (h : P ⊢ wp frame (wpE (defs₀ (F := F)) 𝒱₀ (c : Thread nD τ) none) Set.univ p (fun _ => Q)) {Kt : PUnit → sProp 𝕄} :
    iprop(P ∗ (Q -∗ Kt ⟨⟩)) ⊢ wp frame (wpE (defs₀ (F := F)) 𝒱₀ (c : Thread nD τ) none) Set.univ p Kt := by
  refine (Idealize.SL.BI.sep_mono_l h).trans ((wp_frame_r _ _ _).trans (wp_mono _ _ _ fun _ => ?_))
  exact wand_elim_right

/-- What a core owes at a point, taken out of the data's own form. -/
theorem owesAt_out {cfg : Cfg sig Λ₀} {c : Dev nD} (dat : Dat τ (Elt F) Unit ℕ UU ℕ cfg c) (t : Fin (cfg.N + 1))
    {O : CellTallies nD τ sig Unit} (hO : dat.owed t = O) :
    (dat.owesAt () t : sProp 𝕄) ⊢ iprop(∃ W, owes (c : Thread nD τ) O W) := by
  unfold Dat.owesAt Pipeline.owesWithin
  rw [hO]
  iintro ⟨%W, -, HO⟩; iexists W; iexact HO

/-- What a core owes at a point, put into the data's own form, where nothing bounds the recorded waits. -/
theorem owesAt_in {cfg : Cfg sig Λ₀} {c : Dev nD} (dat : Dat τ (Elt F) Unit ℕ UU ℕ cfg c) (t : Fin (cfg.N + 1))
    (hr : dat.recorded t = Set.univ) {O : CellTallies nD τ sig Unit} (hO : dat.owed t = O) :
    iprop(∃ W, owes (c : Thread nD τ) O W) ⊢ (dat.owesAt () t : sProp 𝕄) := by
  unfold Dat.owesAt Pipeline.owesWithin Dat.bound
  rw [hr, hO]
  iintro ⟨%W, HO⟩; iexists W; isplitr; · ipureintro; exact fun _ _ => Or.inl trivial
  iexact HO

/-- A window the body writes at every point is left at what the data say. -/
theorem left_live {cfg : Cfg sig Λ₀} {c : Dev nD} (dat : Dat τ (Elt F) Unit ℕ UU ℕ cfg c) (w : Fin cfg.W) (t : Fin cfg.N)
    (hi : cfg.idle w (cfg.grid.coords t) = false) (hl : cfg.loose w = false) :
    (owns (c : Thread nD τ) ((cfg.win w).stage (cfg.slots t w)) fullShare (dat.after w t) : sProp 𝕄) ⊢
      match cfg.idle w (cfg.grid.coords t) with
      | true =>
        match (cfg.win w).flush t with
        | false => iprop(∃ d, owns c ((cfg.win w).stage (cfg.slots t w)) fullShare (dat.before w t d))
        | true =>
          match cfg.loose w with
          | true => iprop(∃ d, owns c ((cfg.win w).stage (cfg.slots t w)) fullShare ((cfg.win w).fill (cfg.grid.coords t) d ((cfg.win w).cut (cfg.grid.coords t) (dat.after w t))))
          | false => owns c ((cfg.win w).stage (cfg.slots t w)) fullShare (dat.after w t)
      | false =>
        match cfg.loose w with
        | true => iprop(∃ d, owns c ((cfg.win w).stage (cfg.slots t w)) fullShare ((cfg.win w).fill (cfg.grid.coords t) d ((cfg.win w).cut (cfg.grid.coords t) (dat.after w t))))
        | false => owns c ((cfg.win w).stage (cfg.slots t w)) fullShare (dat.after w t) := by
  rw [hi, hl]

/-- Proof data of a call that owes `D` throughout and keeps its tables and scratch buffers as they are. -/
abbrev calm (p : Fin 6) (c : Dev nD) (V : Valuation τ sig (Elt F)) (D : CellTallies nD τ sig Unit)
    (after : (w : Fin (pcfgs (F := F) p).W) → (t : Fin (cfgAt (F := F) c p).N) → ((cfgAt (F := F) c p).win w).block.Idx → Elt F ((cfgAt (F := F) c p).win w).elt) :
    Dat τ (Elt F) Unit ℕ UU ℕ (cfgAt (F := F) c p) c where
  A w := V (Proc.devRef .tc (arrRef (pcfgs (F := F) p).spec w))
  after := after
  Φ _ := iprop(prefHeld (pcfgs (F := F) p).pre c (fun _ => fullShare) (adm (F := F) c p).1 ∗ scopedRest (pcfgs (F := F) p).spec c)
  q _ := fullShare
  owed _ := D

/-- The data of the first product call: every point leaves the product of the two blocks. -/
def dat0 (c : Dev nD) (V : Valuation τ sig (Elt F)) (D : CellTallies nD τ sig Unit) : Dat τ (Elt F) Unit ℕ UU ℕ (cfgAt (F := F) c 0) c :=
  calm 0 c V D fun
    | ⟨0, _⟩, t => blkOf 0 c V 0 t
    | ⟨1, _⟩, t => blkOf 0 c V 1 t
    | ⟨2, _⟩, t => Gen.k0_pay1 (blkOf 0 c V 0 t) (blkOf 0 c V 1 t)

/-- Its body does at every point what the data say. -/
theorem body_0 (c : Dev nD) (V : Valuation τ sig (Elt F)) (D : CellTallies nD τ sig Unit) :
    BodyObligationLoose (dat0 c V D) (defs₀ (F := F)) 𝒱₀ () Set.univ := fun t => by
  have b0 : ∀ d, (dat0 c V D).before (0 : Fin 3) t d = blkOf 0 c V 0 t :=
    (dat0 c V D).before_in_eq_fetched (0 : Fin 3) rfl (fun _ => rfl) (fun _ _ _ => rfl) (fun _ => rfl) t
  have b1 : ∀ d, (dat0 c V D).before (1 : Fin 3) t d = blkOf 0 c V 1 t :=
    (dat0 c V D).before_in_eq_fetched (1 : Fin 3) rfl (fun _ => rfl) (fun _ _ _ => rfl) (fun _ => rfl) t
  rw [Gen.bigSep_W0, Gen.bigSep_W0]
  rw [show (dat0 c V D).Φ t.succ = (dat0 c V D).Φ t.castSucc from rfl,
    show (dat0 c V D).owesAt () t.succ = (dat0 c V D).owesAt () t.castSucc from rfl]
  iintro ⟨HΦ, HO, ⟨%d0, H0⟩, ⟨%d1, H1⟩, ⟨%d2, H2⟩⟩
  ihave H0 := (Entails.of_eq (congrArg (fun X => (owns (c : Thread nD τ) _ fullShare X : sProp 𝕄)) (b0 d0))) $$ H0
  ihave H1 := (Entails.of_eq (congrArg (fun X => (owns (c : Thread nD τ) _ fullShare X : sProp 𝕄)) (b1 d1))) $$ H1
  iapply (run_then (run0 c (grid0.coords t) _ (Gen.stage_whole0 0 _) _ (Gen.stage_whole0 1 _) _ (Gen.stage_whole0 2 _) _ _ _))
  isplitl [H0 H1 H2]
  · isplitl [H0]; · iexact H0
    isplitl [H1]; · iexact H1
    iexact H2
  iintro ⟨H0, H1, H2⟩
  isplitl [HΦ]; · iexact HΦ
  isplitl [HO]; · iexact HO
  isplitl [H0]; · iapply (left_live (dat0 c V D) (0 : Fin 3) t rfl rfl); iexact H0
  isplitl [H1]; · iapply (left_live (dat0 c V D) (1 : Fin 3) t rfl rfl); iexact H1
  iapply (left_live (dat0 c V D) (2 : Fin 3) t rfl rfl); iexact H2

/-- The data of the call that makes the position part of the queries. -/
def dat2 (c : Dev nD) (V : Valuation τ sig (Elt F)) (D : CellTallies nD τ sig Unit) : Dat τ (Elt F) Unit ℕ UU ℕ (cfgAt (F := F) c 2) c :=
  calm 2 c V D fun
    | ⟨0, _⟩, t => blkOf 2 c V 0 t
    | ⟨1, _⟩, t => blkOf 2 c V 1 t
    | ⟨2, _⟩, t => Gen.k2_pay1 (blkOf 2 c V 0 t) (blkOf 2 c V 1 t)

/-- Its body does at every point what the data say. -/
theorem body_2 (c : Dev nD) (V : Valuation τ sig (Elt F)) (D : CellTallies nD τ sig Unit) :
    BodyObligationLoose (dat2 c V D) (defs₀ (F := F)) 𝒱₀ () Set.univ := fun t => by
  have b0 : ∀ d, (dat2 c V D).before (0 : Fin 3) t d = blkOf 2 c V 0 t :=
    (dat2 c V D).before_in_eq_fetched (0 : Fin 3) rfl (fun _ => rfl) (fun _ _ _ => rfl) (fun _ => rfl) t
  have b1 : ∀ d, (dat2 c V D).before (1 : Fin 3) t d = blkOf 2 c V 1 t :=
    (dat2 c V D).before_in_eq_fetched (1 : Fin 3) rfl (fun _ => rfl) (fun _ _ _ => rfl) (fun _ => rfl) t
  rw [Gen.bigSep_W2, Gen.bigSep_W2]
  rw [show (dat2 c V D).Φ t.succ = (dat2 c V D).Φ t.castSucc from rfl,
    show (dat2 c V D).owesAt () t.succ = (dat2 c V D).owesAt () t.castSucc from rfl]
  iintro ⟨HΦ, HO, ⟨%d0, H0⟩, ⟨%d1, H1⟩, ⟨%d2, H2⟩⟩
  ihave H0 := (Entails.of_eq (congrArg (fun X => (owns (c : Thread nD τ) _ fullShare X : sProp 𝕄)) (b0 d0))) $$ H0
  ihave H1 := (Entails.of_eq (congrArg (fun X => (owns (c : Thread nD τ) _ fullShare X : sProp 𝕄)) (b1 d1))) $$ H1
  iapply (run_then (run2 c (grid2.coords t) (Memref.whole main_v9) (Memref.isWhole_whole _) _ (Gen.stage_whole2 0 _) _ (Gen.stage_whole2 1 _) _ (Gen.stage_whole2 2 _) _ _ _))
  isplitl [H0 H1 H2]
  · isplitl [H0]; · iexact H0
    isplitl [H1]; · iexact H1
    iexact H2
  iintro ⟨H0, H1, H2⟩
  isplitl [HΦ]; · iexact HΦ
  isplitl [HO]; · iexact HO
  isplitl [H0]; · iapply (left_live (dat2 c V D) (0 : Fin 3) t rfl rfl); iexact H0
  isplitl [H1]; · iapply (left_live (dat2 c V D) (1 : Fin 3) t rfl rfl); iexact H1
  iapply (left_live (dat2 c V D) (2 : Fin 3) t rfl rfl); iexact H2

/-- The data of the call that makes the position part of the keys. -/
def dat3 (c : Dev nD) (V : Valuation τ sig (Elt F)) (D : CellTallies nD τ sig Unit) : Dat τ (Elt F) Unit ℕ UU ℕ (cfgAt (F := F) c 3) c :=
  calm 3 c V D fun
    | ⟨0, _⟩, t => blkOf 3 c V 0 t
    | ⟨1, _⟩, t => blkOf 3 c V 1 t
    | ⟨2, _⟩, t => Gen.k3_pay1 (blkOf 3 c V 0 t) (blkOf 3 c V 1 t)

/-- Its body does at every point what the data say. -/
theorem body_3 (c : Dev nD) (V : Valuation τ sig (Elt F)) (D : CellTallies nD τ sig Unit) :
    BodyObligationLoose (dat3 c V D) (defs₀ (F := F)) 𝒱₀ () Set.univ := fun t => by
  have b0 : ∀ d, (dat3 c V D).before (0 : Fin 3) t d = blkOf 3 c V 0 t :=
    (dat3 c V D).before_in_eq_fetched (0 : Fin 3) rfl (fun _ => rfl) (fun _ _ _ => rfl) (fun _ => rfl) t
  have b1 : ∀ d, (dat3 c V D).before (1 : Fin 3) t d = blkOf 3 c V 1 t :=
    (dat3 c V D).before_in_eq_fetched (1 : Fin 3) rfl (fun _ => rfl) (fun _ _ _ => rfl) (fun _ => rfl) t
  rw [Gen.bigSep_W3, Gen.bigSep_W3]
  rw [show (dat3 c V D).Φ t.succ = (dat3 c V D).Φ t.castSucc from rfl,
    show (dat3 c V D).owesAt () t.succ = (dat3 c V D).owesAt () t.castSucc from rfl]
  iintro ⟨HΦ, HO, ⟨%d0, H0⟩, ⟨%d1, H1⟩, ⟨%d2, H2⟩⟩
  ihave H0 := (Entails.of_eq (congrArg (fun X => (owns (c : Thread nD τ) _ fullShare X : sProp 𝕄)) (b0 d0))) $$ H0
  ihave H1 := (Entails.of_eq (congrArg (fun X => (owns (c : Thread nD τ) _ fullShare X : sProp 𝕄)) (b1 d1))) $$ H1
  iapply (run_then (run3 c (grid3.coords t) _ (Gen.stage_whole3 0 _) _ (Gen.stage_whole3 1 _) _ (Gen.stage_whole3 2 _) _ _ _))
  isplitl [H0 H1 H2]
  · isplitl [H0]; · iexact H0
    isplitl [H1]; · iexact H1
    iexact H2
  iintro ⟨H0, H1, H2⟩
  isplitl [HΦ]; · iexact HΦ
  isplitl [HO]; · iexact HO
  isplitl [H0]; · iapply (left_live (dat3 c V D) (0 : Fin 3) t rfl rfl); iexact H0
  isplitl [H1]; · iapply (left_live (dat3 c V D) (1 : Fin 3) t rfl rfl); iexact H1
  iapply (left_live (dat3 c V D) (2 : Fin 3) t rfl rfl); iexact H2

/-- The data of the attention call. -/
def dat4 (c : Dev nD) (V : Valuation τ sig (Elt F)) (D : CellTallies nD τ sig Unit) : Dat τ (Elt F) Unit ℕ UU ℕ (cfgAt (F := F) c 4) c :=
  calm 4 c V D fun
    | ⟨0, _⟩, t => blkOf 4 c V 0 t
    | ⟨1, _⟩, t => blkOf 4 c V 1 t
    | ⟨2, _⟩, t => blkOf 4 c V 2 t
    | ⟨3, _⟩, t => blkOf 4 c V 3 t
    | ⟨4, _⟩, t => blkOf 4 c V 4 t
    | ⟨5, _⟩, t => Gen.k4_pay1 (blkOf 4 c V 0 t) (blkOf 4 c V 2 t) (blkOf 4 c V 1 t) (blkOf 4 c V 3 t) (blkOf 4 c V 4 t)

/-- Its body does at every point what the data say. -/
theorem body_4 (c : Dev nD) (V : Valuation τ sig (Elt F)) (D : CellTallies nD τ sig Unit) :
    BodyObligationLoose (dat4 c V D) (defs₀ (F := F)) 𝒱₀ () Set.univ := fun t => by
  have b0 : ∀ d, (dat4 c V D).before (0 : Fin 6) t d = blkOf 4 c V 0 t :=
    (dat4 c V D).before_in_eq_fetched (0 : Fin 6) rfl (fun _ => rfl) (fun _ _ _ => rfl) (fun _ => rfl) t
  have b1 : ∀ d, (dat4 c V D).before (1 : Fin 6) t d = blkOf 4 c V 1 t :=
    (dat4 c V D).before_in_eq_fetched (1 : Fin 6) rfl (fun _ => rfl) (fun _ _ _ => rfl) (fun _ => rfl) t
  have b2 : ∀ d, (dat4 c V D).before (2 : Fin 6) t d = blkOf 4 c V 2 t :=
    (dat4 c V D).before_in_eq_fetched (2 : Fin 6) rfl (fun _ => rfl) (fun _ _ _ => rfl) (fun _ => rfl) t
  have b3 : ∀ d, (dat4 c V D).before (3 : Fin 6) t d = blkOf 4 c V 3 t :=
    (dat4 c V D).before_in_eq_fetched (3 : Fin 6) rfl (fun _ => rfl) (fun _ _ _ => rfl) (fun _ => rfl) t
  have b4 : ∀ d, (dat4 c V D).before (4 : Fin 6) t d = blkOf 4 c V 4 t :=
    (dat4 c V D).before_in_eq_fetched (4 : Fin 6) rfl (fun _ => rfl) (fun _ _ _ => rfl) (fun _ => rfl) t
  rw [Gen.bigSep_W4, Gen.bigSep_W4]
  rw [show (dat4 c V D).Φ t.succ = (dat4 c V D).Φ t.castSucc from rfl,
    show (dat4 c V D).owesAt () t.succ = (dat4 c V D).owesAt () t.castSucc from rfl]
  iintro ⟨HΦ, HO, ⟨%d0, H0⟩, ⟨%d1, H1⟩, ⟨%d2, H2⟩, ⟨%d3, H3⟩, ⟨%d4, H4⟩, ⟨%d5, H5⟩⟩
  ihave H0 := (Entails.of_eq (congrArg (fun X => (owns (c : Thread nD τ) _ fullShare X : sProp 𝕄)) (b0 d0))) $$ H0
  ihave H1 := (Entails.of_eq (congrArg (fun X => (owns (c : Thread nD τ) _ fullShare X : sProp 𝕄)) (b1 d1))) $$ H1
  ihave H2 := (Entails.of_eq (congrArg (fun X => (owns (c : Thread nD τ) _ fullShare X : sProp 𝕄)) (b2 d2))) $$ H2
  ihave H3 := (Entails.of_eq (congrArg (fun X => (owns (c : Thread nD τ) _ fullShare X : sProp 𝕄)) (b3 d3))) $$ H3
  ihave H4 := (Entails.of_eq (congrArg (fun X => (owns (c : Thread nD τ) _ fullShare X : sProp 𝕄)) (b4 d4))) $$ H4
  iapply (run_then (run4 c (grid4.coords t) _ (Gen.stage_whole4 0 _) _ (Gen.stage_whole4 1 _) _ (Gen.stage_whole4 2 _) _ (Gen.stage_whole4 3 _) _ (Gen.stage_whole4 4 _) _ (Gen.stage_whole4 5 _) _ _ _ _ _ _))
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [HO]; · iexact HO
  isplitl [H0]; · iapply (left_live (dat4 c V D) (0 : Fin 6) t rfl rfl); iexact H0
  isplitl [H1]; · iapply (left_live (dat4 c V D) (1 : Fin 6) t rfl rfl); iexact H1
  isplitl [H2]; · iapply (left_live (dat4 c V D) (2 : Fin 6) t rfl rfl); iexact H2
  isplitl [H3]; · iapply (left_live (dat4 c V D) (3 : Fin 6) t rfl rfl); iexact H3
  isplitl [H4]; · iapply (left_live (dat4 c V D) (4 : Fin 6) t rfl rfl); iexact H4
  iapply (left_live (dat4 c V D) (5 : Fin 6) t rfl rfl); iexact H5

end Cert.KernelIdeal

end
-- ==== Proof.Talk.lean ====
/- The steps of the protocol: a signal of a barrier, a wait, and a copy to another device, each with what it takes and gives. -/
module

public import proofs.«01_k».proof.Proof.Quiet

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (KS VS : Dev nD → C4 F) (SN : Dev nD → C5 F) (K : GSem nD τ sig → ℕ)

/-- The invariants of all the cells of the protocol. -/
def invs : sProp 𝕄 := bigSep Finset.univ fun x : Dev nD × Ck => cellInv ER (Rd KS VS SN) (K (cell x.1 x.2)) (cell x.1 x.2)
instance invs_persistent : BI.Persistent (invs KS VS SN K) := by unfold invs; infer_instance
omit [FloatOps F] in
theorem invs_get (d : Dev nD) (k : Ck) : invs KS VS SN K ⊢ cellInv ER (Rd KS VS SN) (K (cell d k)) (cell d k) := by
  unfold invs; exact bigSep_elim (Φ := fun x : Dev nD × Ck => cellInv ER (Rd KS VS SN) (K (cell x.1 x.2)) (cell x.1 x.2)) (Finset.mem_univ (d, k))

/-- Every barrier is at its first round. -/
def bars : sProp 𝕄 := bigSep Finset.univ fun d : Dev nD => iprop(reached ER (cell d .bar0) 0 ∗ reached ER (cell d .bar1) 0)
instance bars_persistent : BI.Persistent (bars : sProp 𝕄) := by unfold bars; infer_instance
omit [FloatOps F] in
theorem bars_get (d : Dev nD) : (bars : sProp 𝕄) ⊢ iprop(reached ER (cell d .bar0) 0 ∗ reached ER (cell d .bar1) 0) := by
  unfold bars; exact bigSep_elim (Φ := fun d : Dev nD => iprop(reached ER (cell d .bar0) 0 ∗ reached ER (cell d .bar1) 0)) (Finset.mem_univ d)

/-- A finished program continues with what follows it. -/
theorem ret_bind {E : Type → Type} {α β : Type} (a : α) (k : α → Prog E β) : (Prog.ret a).bind k = k a := rfl

variable (c : Dev nD)

/-- A wait on a cell whose level is below those of everything owed is allowed. -/
theorem mayWait (k : Ck) (O : CellTallies nD τ sig Unit) (h : ∀ g i, 0 < O g i → i ∈ L g ∧ lvlOf k < lv g i) :
    (levAts L lv : sProp 𝕄) ⊢ MayWait (c : Thread nD τ) (sem k) () O :=
  MayOwe.of_cut (L := L) (lev := lv) (lvlOf k) (fun q hq => by rw [Finset.mem_singleton.mp hq]; exact mem_L c (sem k)) (fun g u hg => (h g u hg).1)
    (fun q hq => by rw [Finset.mem_singleton.mp hq]; exact le_of_eq (lv_cell c k)) (fun g u hg => (h g u hg).2)

/-- A wait on an own cell: it takes the credit, gives what the cell was paid with, and the cell is closed, its counter at zero. -/
theorem step_wait {α : Type} {Q : α → sProp 𝕄} (k : Ck) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (sem k) (amtOf k) P)
    {cont : PUnit → Prog (TpuEff nD τ sig (Elt F) Λ₀ .tc) α} {O : CellTallies nD τ sig Unit} {W : Waits sig Unit} :
    iprop(invs KS VS SN K ∗ cred (tallyAt (cell c k) () (amtOf k)) ∗ owes (c : Thread nD τ) O W ∗ MayWait (c : Thread nD τ) (sem k) () O
        ∗ atPos ER (cell c k) 0 ∅ 0)
      ⊢ iprop(((owes (c : Thread nD τ) O (insert (sem k, ()) W) ∗ semVal (cell c k) 0 ∗ payOf KS VS SN c k)
            -∗ wp frame (wpE (defs₀ (F := F)) 𝒱₀ (c : Thread nD τ) none) Set.univ (cont ⟨⟩) Q)
          -∗ wp frame (wpE (defs₀ (F := F)) 𝒱₀ (c : Thread nD τ) none) Set.univ (.op w cont) Q) := by
  iintro ⟨#HI, Hc, HO, Hm, Hat⟩ Hk
  ihave #HC := (invs_get KS VS SN K c k) $$ HI
  iapply (Rounds.wp_wait_rest_token 𝒱₀ ER (Rd KS VS SN) (c : Thread nD τ) none (κ := K (cell c k)) hw (Set.mem_univ _) () (O := O) (W := W)
    (R := 0) (m := 0) (T := ∅) ((Nat.zero_add _).trans (expect0 KS VS SN c k).symm)) $$ [Hc HO Hm Hat]
  · isplitr; · iexact HC
    isplitl [Hc]; · iexact Hc
    isplitl [HO]; · iexact HO
    isplitl [Hm] <;> iassumption
  iintro ⟨HO, Hat, -, Hpay⟩
  ihave Hp := (Entails.of_eq (rest0 KS VS SN c k)) $$ Hpay
  imod (Rounds.cell_close ER (Rd KS VS SN) (Set.mem_univ (K (cell c k))) id (duties_later KS VS SN (cell c k))) $$ [Hat] with Hz
  · isplitr; · iexact HC
    iexact Hat
  iapply Hk
  isplitl [HO]; · iexact HO
  isplitl [Hz] <;> iassumption

/-- A signal of another device's barrier: it pays one of the units owed there. -/
theorem step_signal {α : Type} {Q : α → sProp 𝕄} (p : Dev nD) (k : Ck) {s : Sem sig} (hs : sem k = .reg s) (ha : amtOf k = 1)
    {cont : PUnit → Prog (TpuEff nD τ sig (Elt F) Λ₀ .tc) α} {O : CellTallies nD τ sig Unit} {W : Waits sig Unit} :
    iprop(invs KS VS SN K ∗ owes (c : Thread nD τ) (O + tallyAt (cell p k) () 1) W ∗ dutyTok ER (cell p k) 0 () ∗ payOf KS VS SN p k ∗ reached ER (cell p k) 0)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal (p : Thread nD τ) s 1) cont) Q) := by
  have e : cell p k = ((p : Thread nD τ), .reg s) := by unfold cell; rw [hs]
  have hd := duties0 KS VS SN p k
  have hm := amount0 KS VS SN p k ()
  have hp := payload0 KS VS SN p k ()
  have hi := invs_get KS VS SN K p k
  rw [e] at hd hm hp hi
  rw [← hp, e]
  iintro ⟨#HI, HO, Ht, Hp, Hr⟩ Hk
  ihave #HC := hi $$ HI
  iapply (Rounds.wp_signal 𝒱₀ ER (Rd KS VS SN) (c : Thread nD τ) none (dst := (p : Thread nD τ)) (sem := s) (r := 0) (d := ()) (κ := K ((p : Thread nD τ), .reg s))
    (by rw [hd]; exact Finset.mem_singleton_self _) (hm.trans ha) () O rfl) $$ [HO Ht Hp Hr]
  · isplitr; · iexact HC
    isplitl [HO]; · iexact HO
    isplitl [Ht]; · iexact Ht
    isplitl [Hp] <;> iassumption
  iexact Hk

/-- A copy to another device: it pays the copy owed there with the destination rewritten, and its own source cell with the source. -/
theorem step_send {α : Type} {Q : α → sProp 𝕄} (p p' : Dev nD) (hpp : p' = p) (ks kr : Ck) (N : ℕ) (hks : amtOf ks = N) (hkr : amtOf kr = N)
    {sp sp' : Space} {S : Shape} {e : EltTy} {src : Memref sig .tc sp S e} {dst : Memref sig .tc sp' S e} {hsc : dst.view.ref.isScScratch = false}
    {hsrc : src.view.WordExact} {hdst : dst.view.WordExact} {hsem : DmaTarget.Typed (nD := nD) (τ := τ) sp (sem kr) (.remote (p' : Thread nD τ) dst (sem ks) hsc)}
    {fs : Buf (Elt F) (src.view.loc (c : Thread nD τ))} {fd : Buf (Elt F) (dst.view.loc (p : Thread nD τ))}
    (hN : dst.view.amount (sem kr) = N)
    (hpay₁ : (src.view.loc (c : Thread nD τ) ↦[src.view.set]{fullShare} fs : sProp 𝕄) ⊢ payOf KS VS SN c ks)
    (hpay₂ : (dst.view.loc (p : Thread nD τ) ↦[dst.view.set]{fullShare} (dst.view.write (Elt F) fd (src.view.read (Elt F) fs) Finset.univ) : sProp 𝕄)
      ⊢ payOf KS VS SN p kr)
    {cont : PUnit → Prog (TpuEff nD τ sig (Elt F) Λ₀ .tc) α} {O : CellTallies nD τ sig Unit} {W : Waits sig Unit} :
    iprop(invs KS VS SN K ∗ (src.view.loc (c : Thread nD τ) ↦[src.view.set]{fullShare} fs) ∗ (dst.view.loc (p : Thread nD τ) ↦[dst.view.set]{fullShare} fd)
        ∗ owes (c : Thread nD τ) (O + tallyAt (cell p kr) () N) W
        ∗ dutyTok ER (cell c ks) 0 () ∗ reached ER (cell c ks) 0 ∗ dutyTok ER (cell p kr) 0 () ∗ reached ER (cell p kr) 0)
      ⊢ iprop(((cred (tallyAt (cell c ks) () N) ∗ owes (c : Thread nD τ) O W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma src (.remote (p' : Thread nD τ) dst (sem ks) hsc) (sem kr) hsrc hdst hsem) cont) Q) := by
  subst hpp
  iintro ⟨#HI, Hs, Hd, HO, Ht1, Hr1, Ht2, Hr2⟩
  ihave #HC1 := (invs_get KS VS SN K c ks) $$ HI
  ihave #HC2 := (invs_get KS VS SN K p' kr) $$ HI
  iapply (Rounds.wp_send_pointsTo 𝒱₀ ER (Rd KS VS SN) (c : Thread nD τ) none (c' := (p' : Thread nD τ)) (src := src) (dst := dst)
    (sS := sem ks) (sem := sem kr) (q := fullShare) (fs := fs) (κ₁ := K (cell c ks)) (κ₂ := K (cell p' kr)) (r₁ := 0) (r₂ := 0) (d₁ := ()) (d₂ := ()) (fd := fd)
    (by rw [show ((c : Thread nD τ), sem ks) = cell c ks from rfl, duties0]; exact Finset.mem_singleton_self _)
    (by rw [show ((p' : Thread nD τ), sem kr) = cell p' kr from rfl, duties0]; exact Finset.mem_singleton_self _)
    () () N hN ((amount0 KS VS SN c ks ()).trans hks) ((amount0 KS VS SN p' kr ()).trans hkr) O rfl (W := W)
    (hpay₁.trans (Entails.of_eq (payload0 KS VS SN c ks ()).symm)) (hpay₂.trans (Entails.of_eq (payload0 KS VS SN p' kr ()).symm)))
  isplitr; · iexact HC1
  isplitr; · iexact HC2
  isplitl [Hs]; · iexact Hs
  isplitl [Hd]; · iexact Hd
  isplitl [HO]; · iexact HO
  isplitl [Ht1]; · iexact Ht1
  isplitl [Hr1]; · iexact Hr1
  isplitl [Ht2] <;> iassumption

end Cert.KernelIdeal
-- ==== Proof.Out.lean ====
/- The body of the output call: the points that accumulate a block of rows, and the last point, which exchanges the partial
   outputs with the partner. -/
module

public import proofs.«01_k».proof.Proof.Talk

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (KS VS : Dev nD → C4 F) (SN : Dev nD → C5 F) (K : GSem nD τ sig → ℕ) (c : Dev nD)

/-- The body of the output call with the buffers of the call that are not staged. -/
abbrev body5 (i : grid5.Coords) (arg2 : Memref sig .tc .vmem S1024x512 .f32) (harg2 : arg2.IsWhole) (arg3 : Memref sig .tc .vmem S512x4096 .f32) (harg3 : arg3.IsWhole)
    (arg4 : Memref sig .tc .vmem S1024x4096 .f32) (harg4 : arg4.IsWhole) : Prog (TpuEff nD τ sig (Elt F) Λ₀ .tc) PUnit :=
  cc5__outproj_body i (Memref.whole main_v17) (Memref.isWhole_whole _) arg2 harg2 arg3 harg3 arg4 harg4
    (Memref.whole cc5_scratch0) (Memref.isWhole_whole _) (Memref.whole cc5_scratch1) (Memref.isWhole_whole _) cc5_scratch2 cc5_scratch3

/-- What a device holds of the output call's protocol before the exchange. -/
def own5 : sProp 𝕄 :=
  iprop(atPos ER (cell c .bar1) 0 ∅ 0 ∗ cred (tallyAt (cell c .bar1) () 1) ∗ dutyTok ER (cell (py c) .bar1) 0 ()
    ∗ atPos ER (cell c .s5) 0 ∅ 0 ∗ dutyTok ER (cell c .s5) 0 () ∗ atPos ER (cell c .r5) 0 ∅ 0 ∗ dutyTok ER (cell (py c) .r5) 0 ()
    ∗ cred (tallyAt (cell c .r5) () N5))

omit [FloatOps F] in
/-- A store of the whole send buffer leaves it at what was stored. -/
theorem store_snd [∀ e, Nonempty (Elt F e)] (g : C5 F) (inb : ∀ a, (![0, 0] : Fin 2 → ℕ) a + (![1024, 4096] : Fin 2 → ℕ) a ≤ S1024x4096.size a) (w : C5 F) :
    sndM.view.writes (Elt F) g [⟨Rect.unit (s := S1024x4096) ![0, 0] ![1024, 4096] inb, w⟩] = w := by
  have h := read_store sndM.view g off2 inb w []
  rw [View.read_whole] at h
  exact h

omit [FloatOps F] in
theorem amount5 : rcvM.view.amount (sem .r5) = N5 := rfl

omit [FloatOps F] in
theorem snd_set (f : C5 F) : (sndM.view.loc (c : Thread nD τ) ↦{fullShare} f : sProp 𝕄) = (sndM.view.loc (c : Thread nD τ) ↦[sndM.view.set]{fullShare} f) := by
  rw [show sndM.view.set = Finset.univ from View.set_whole _]
omit [FloatOps F] in
theorem rcv_set (f : C5 F) : (pt c cc5_scratch1 f : sProp 𝕄) = (rcvM.view.loc (c : Thread nD τ) ↦[rcvM.view.set]{fullShare} f) := by
  rw [show rcvM.view.set = Finset.univ from View.set_whole _]

/-- The send buffer is what its copy pays the source's semaphore with. -/
theorem sent5 : (sndM.view.loc (c : Thread nD τ) ↦[sndM.view.set]{fullShare} (SN c) : sProp 𝕄) ⊢ payOf KS VS SN c .s5 := by
  unfold payOf
  rw [show sndM.view.set = Finset.univ from View.set_whole _]

/-- The receive buffer, the send buffer copied over it, is what the copy pays the destination's semaphore with. -/
theorem landed5 (g2 : C5 F) :
    (rcvM.view.loc (py c : Thread nD τ) ↦[rcvM.view.set]{fullShare} (rcvM.view.write (Elt F) g2 (sndM.view.read (Elt F) (SN c)) Finset.univ) : sProp 𝕄)
      ⊢ payOf KS VS SN (py c) .r5 := by
  unfold payOf
  rw [py_py, show rcvM.view.set = Finset.univ from View.set_whole _, View.read_whole, View.write_whole_univ]

variable (arg2 : Memref sig .tc .vmem S1024x512 .f32) (harg2 : arg2.IsWhole) (arg3 : Memref sig .tc .vmem S512x4096 .f32) (harg3 : arg3.IsWhole)
    (arg4 : Memref sig .tc .vmem S1024x4096 .f32) (harg4 : arg4.IsWhole)
    (X0 : S1024x512.Idx → Elt F .f32) (X1 : S512x4096.Idx → Elt F .f32) (Y : S1024x4096.Idx → Elt F .f32)

/-- The first point stores the product of the first block. -/
theorem run5_first (i : grid5.Coords) (h1 : k5_cond1 i = 1#1) (h2 : ¬ k5_cond2 i = 1#1) (h3 : ¬ k5_cond3 i = 1#1) :
    iprop(owns (c : Thread nD τ) arg2 fullShare X0 ∗ owns (c : Thread nD τ) arg3 fullShare X1 ∗ owns (c : Thread nD τ) arg4 fullShare Y)
      ⊢ wp frame (wpE (defs₀ (F := F)) 𝒱₀ (c : Thread nD τ) none) Set.univ (body5 i arg2 harg2 arg3 harg3 arg4 harg4)
          (fun _ => (iprop(owns (c : Thread nD τ) arg2 fullShare X0 ∗ owns (c : Thread nD τ) arg3 fullShare X1 ∗ owns (c : Thread nD τ) arg4 fullShare (Gen.k5_pay1 X0 X1)) : sProp 𝕄)) := by
  unfold owns
  iintro ⟨⟨%f0, %h0, H0⟩, ⟨%f1, %h1', H1⟩, ⟨%f2, -, H2⟩⟩
  unfold body5
  rw [Gen.cc5__outproj_body_eq_skeleton]
  unfold Gen.cc5__outproj_body_skel
  simp only [dif_pos h1, dif_neg h2, dif_neg h3, wp_deviceId]
  sl_exec
  sl_step
  isplitl [H0]
  · iapply (own_back c arg2 f0 X0 h0); iexact H0
  isplitl [H1]
  · iapply (own_back c arg3 f1 X1 h1'); iexact H1
  iapply (own_back c arg4 _ _ ?_)
  rotate_left
  · iexact H2
  · rw [read_store _ _ off2]
    simp only [load2]
    subst h0 h1'
    rfl

/-- The next points add the product of their block. -/
theorem run5_mid (i : grid5.Coords) (h1 : ¬ k5_cond1 i = 1#1) (h2 : k5_cond2 i = 1#1) (h3 : ¬ k5_cond3 i = 1#1) :
    iprop(owns (c : Thread nD τ) arg2 fullShare X0 ∗ owns (c : Thread nD τ) arg3 fullShare X1 ∗ owns (c : Thread nD τ) arg4 fullShare Y)
      ⊢ wp frame (wpE (defs₀ (F := F)) 𝒱₀ (c : Thread nD τ) none) Set.univ (body5 i arg2 harg2 arg3 harg3 arg4 harg4)
          (fun _ => (iprop(owns (c : Thread nD τ) arg2 fullShare X0 ∗ owns (c : Thread nD τ) arg3 fullShare X1 ∗ owns (c : Thread nD τ) arg4 fullShare (Gen.k5_pay2 Y X0 X1)) : sProp 𝕄)) := by
  unfold owns
  iintro ⟨⟨%f0, %h0, H0⟩, ⟨%f1, %h1', H1⟩, ⟨%f2, %h2', H2⟩⟩
  unfold body5
  rw [Gen.cc5__outproj_body_eq_skeleton]
  unfold Gen.cc5__outproj_body_skel
  simp only [dif_neg h1, dif_pos h2, dif_neg h3, wp_deviceId]
  sl_exec
  sl_step
  isplitl [H0]
  · iapply (own_back c arg2 f0 X0 h0); iexact H0
  isplitl [H1]
  · iapply (own_back c arg3 f1 X1 h1'); iexact H1
  iapply (own_back c arg4 _ _ ?_)
  rotate_left
  · iexact H2
  · rw [read_store _ _ off2]
    simp only [load2]
    subst h0 h1' h2'
    rfl

/-- The last point rounds the accumulated output, exchanges it with the partner and adds what was received. -/
theorem run5_last (i : grid5.Coords) (h1 : ¬ k5_cond1 i = 1#1) (h2 : ¬ k5_cond2 i = 1#1) (h3 : k5_cond3 i = 1#1)
    (hSN : SN c = Gen.k5_pay3 Y) :
    iprop((owns (c : Thread nD τ) arg2 fullShare X0 ∗ owns (c : Thread nD τ) arg3 fullShare X1 ∗ owns (c : Thread nD τ) arg4 fullShare Y)
        ∗ invs KS VS SN K ∗ levAts L lv ∗ bars ∗ reached ER (cell c .s5) 0 ∗ reached ER (cell c .r5) 0 ∗ own5 c
        ∗ (∃ f, pt c cc5_scratch0 f) ∗ (∃ f, pt c cc5_scratch1 f) ∗ ∃ W, owes (c : Thread nD τ) (oweB c) W)
      ⊢ wp frame (wpE (defs₀ (F := F)) 𝒱₀ (c : Thread nD τ) none) Set.univ (body5 i arg2 harg2 arg3 harg3 arg4 harg4)
          (fun _ => (iprop((owns (c : Thread nD τ) arg2 fullShare X0 ∗ owns (c : Thread nD τ) arg3 fullShare X1 ∗ owns (c : Thread nD τ) arg4 fullShare (Gen.k5_pay4 Y (SN (py c))))
              ∗ semVal (cell c .bar1) 0 ∗ semVal (cell c .s5) 0 ∗ semVal (cell c .r5) 0
              ∗ (∃ f, pt c cc5_scratch0 f) ∗ (∃ f, pt c cc5_scratch1 f) ∗ ∃ W, owes (c : Thread nD τ) 0 W) : sProp 𝕄)) := by
  unfold owns own5
  iintro ⟨⟨⟨%f0, %h0, H0⟩, ⟨%f1, %h1', H1⟩, ⟨%f2, %h2', H2⟩⟩, #HI, #Hlev, #Hbars, #HrS, #HrR, ⟨HatB, HcB, HtB, HatS, HtS, HatR, HtR, HcR⟩, ⟨%g0, Hs⟩, ⟨%g1, Hr⟩, ⟨%W, HO⟩⟩
  unfold body5
  rw [Gen.cc5__outproj_body_eq_skeleton]
  unfold Gen.cc5__outproj_body_skel
  simp only [dif_neg h1, dif_neg h2, dif_pos h3, wp_deviceId, dev5_1, dev5_2]
  ihave Hs := (Entails.of_eq (show pt c cc5_scratch0 g0 = (sndM.view.loc (c : Thread nD τ) ↦{fullShare} g0 : sProp 𝕄) from rfl)) $$ Hs
  sl_exec
  iapply (step_signal KS VS SN K c (py c) .bar1 (s := sig.barrier 1 rfl) rfl rfl (O := tallyAt (cell (py c) .r5) () N5) (W := W)) $$ [HO HtB Hr]
  · isplitr; · iexact HI
    isplitl [HO]; · iexact HO
    isplitl [HtB]; · iexact HtB
    isplitl [Hr]
    · unfold payOf
      rw [py_py]
      isplitl [Hr]; · iexists g1; iexact Hr
      iexact HrR
    · ihave #Hb := (bars_get (py c)) $$ Hbars
      icases Hb with ⟨-, #Hb1⟩
      iexact Hb1
  iintro HO
  sl_exec
  iapply (step_wait KS VS SN K c .bar1 (wpE_semWait_eq 𝒱₀ (c : Thread nD τ) none Set.univ) (O := tallyAt (cell (py c) .r5) () N5) (W := W)) $$ [HcB HO HatB]
  · isplitr; · iexact HI
    isplitl [HcB]; · iexact HcB
    isplitl [HO]; · iexact HO
    isplitr
    · iapply (mayWait c .bar1 _ ?_)
      rotate_left
      · iexact Hlev
      · intro g u h
        rcases eq_or_ne g (cell (py c) .r5) with rfl | hg
        · exact ⟨mem_L _ _, by rw [lv_cell]; decide⟩
        · rw [tallyAt_ne_cell hg] at h; exact absurd h (lt_irrefl _)
    iexact HatB
  unfold payOf
  iintro ⟨HO, HzB, ⟨%g2, HrP⟩, #HrRP⟩
  sl_exec
  rw [load2, h2', store_snd]
  rw [← hSN]
  ihave Hs := (Entails.of_eq (snd_set c (SN c))) $$ Hs
  ihave HrP := (Entails.of_eq (rcv_set (py c) g2)) $$ HrP
  iapply (step_send KS VS SN K c (py c) ⟨k5_dev2 c, k5_dev2_lt i c h3⟩ (dev5_2 c _) .s5 .r5 N5 rfl rfl (src := sndM) (dst := rcvM) (fs := SN c) (fd := g2) amount5
      (sent5 KS VS SN c) (landed5 KS VS SN c g2)
      (O := 0)) $$ [Hs HrP HO HtS HtR]
  · isplitr; · iexact HI
    isplitl [Hs]; · iexact Hs
    isplitl [HrP]; · iexact HrP
    isplitl [HO]; · rw [zero_add]; iexact HO
    isplitl [HtS]; · iexact HtS
    isplitr; · iexact HrS
    isplitl [HtR]; · iexact HtR
    iexact HrRP
  iintro ⟨HcS, HO⟩
  iapply (step_wait KS VS SN K c .s5 (wpE_waitDma2_eq (src := rcvM) (dst := sndM) 𝒱₀ (c : Thread nD τ) none Set.univ) (O := 0)) $$ [HcS HO HatS]
  · isplitr; · iexact HI
    isplitl [HcS]; · iexact HcS
    isplitl [HO]; · iexact HO
    isplitr; · rw [MayWait_zero]; iempintro
    iexact HatS
  iintro ⟨HO, HzS, Hs⟩
  iapply (step_wait KS VS SN K c .r5 (wpE_waitDma2_eq (src := sndM) (dst := rcvM) 𝒱₀ (c : Thread nD τ) none Set.univ) (O := 0)) $$ [HcR HO HatR]
  · isplitr; · iexact HI
    isplitl [HcR]; · iexact HcR
    isplitl [HO]; · iexact HO
    isplitr; · rw [MayWait_zero]; iempintro
    iexact HatR
  iintro ⟨HO, HzR, Hr⟩
  ihave Hs := (Entails.of_eq (show payOf KS VS SN c .s5 = pt c cc5_scratch0 (SN c) from rfl)) $$ Hs
  ihave Hr := (Entails.of_eq (show payOf KS VS SN c .r5 = (rcvM.view.loc (c : Thread nD τ) ↦{fullShare} (SN (py c)) : sProp 𝕄) from rfl)) $$ Hr
  rw [ret_bind]
  sl_exec
  sl_step
  isplitl [H0 H1 H2]
  · isplitl [H0]
    · iapply (own_back c arg2 f0 X0 h0); iexact H0
    isplitl [H1]
    · iapply (own_back c arg3 f1 X1 h1'); iexact H1
    iapply (own_back c arg4 _ _ ?_)
    rotate_left
    · iexact H2
    · rw [read_store _ _ off2]
      simp only [load2]
      rw [h2']
      rfl
  isplitl [HzB]; · iexact HzB
  isplitl [HzS]; · iexact HzS
  isplitl [HzR]; · iexact HzR
  isplitl [Hs]; · iexists _; iexact Hs
  isplitl [Hr]; · iexists _; iexact Hr
  iexists _; iexact HO

end Cert.KernelIdeal
-- ==== Proof.OutData.lean ====
/- Proof data of the output call, and what its body does at every point. -/
module

public import proofs.«01_k».proof.Proof.Calm
public import proofs.«01_k».proof.Proof.Out
public import Idealize.ShloMosaic.Lib.Pipeline.TableIdle

@[expose] public section

noncomputable section

namespace Cert.KernelIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat Cfg BodyObligationLoose arrRef prefHeld scopedRest scopedRestBut)
open Idealize.ShloMosaic.Rounds
open Facts₀ Facts

variable {F : FTy → Type} [FloatOps F]

local notation "𝕄" => MT nD τ sig Unit (Elt F) ℕ UU ℕ

omit [FloatOps F] in
/-- An output window with one block for the whole grid is written back after the last point only. -/
theorem flush_const {G : Pipeline.Grid} (w : Pipeline.Window sig G) (ho : w.isOut = true) (h : ∀ t t', w.index t = w.index t') (t : Fin G.N) :
    w.flush t = decide (t.val + 1 = G.N) := by
  rw [Pipeline.Window.flush_eq_flushF]
  unfold Pipeline.Window.flushF
  have h' : ¬ ∃ h : t.val + 1 < G.N, ∃ a, w.index ⟨t.val + 1, h⟩ a ≠ w.index t a := fun ⟨hl, a, ha⟩ => ha (congrFun (h _ _) a)
  rw [ho, Bool.true_and, decide_eq_false h', Bool.or_false]

theorem flush_5_2 (c : Dev nD) (t : Fin (cfgAt (F := F) c 5).N) : ((cfgAt (F := F) c 5).win (2 : Fin 3)).flush t = decide (t.val + 1 = 5) :=
  (flush_const _ rfl (fun _ _ => rfl) t).trans (decide_eq_decide.mpr (by have h : (cfgAt (F := F) c 5).grid.N = 5 := Gen.N_5; omega))

/-- A window written at the first point and written back after the last only holds something of the body's at every later point. -/
theorem fresh_const {cfg : Cfg sig Λ₀} (w : Fin cfg.W) (hf : ∀ t : Fin cfg.N, t.val + 1 < cfg.N → (cfg.win w).flush t = false)
    (hi : ∀ t : Fin cfg.N, t.val = 0 → cfg.idle w (cfg.grid.coords t) = false) : ∀ n, 0 < n → n < cfg.N → cfg.fresh w n = false
  | 0, h, _ => absurd h (Nat.lt_irrefl 0)
  | n + 1, _, hn => by
    rw [cfg.fresh_succ w n (Nat.lt_of_succ_lt hn), hf _ hn, Bool.false_or]
    by_cases h0 : n = 0
    · rw [hi _ h0, Bool.false_and]
    · rw [fresh_const w hf hi n (Nat.pos_of_ne_zero h0) (Nat.lt_of_succ_lt hn), Bool.and_false]

theorem conds5 : ∀ t : Fin grid5.N, (k5_cond1 (grid5.coords t) = 1#1 ↔ t.val = 0) ∧ (k5_cond2 (grid5.coords t) = 1#1 ↔ 0 < t.val ∧ t.val < 4)
    ∧ (k5_cond3 (grid5.coords t) = 1#1 ↔ t.val = 4) := by decide
theorem idle_5_2 : ∀ t : Fin grid5.N, idle5 2 (grid5.coords t) = false := by decide

/-- The point numbered `n`. -/
def at5 (c : Dev nD) (n : ℕ) : Fin (cfgAt (F := F) c 5).N := ⟨n % 5, by rw [show (cfgAt (F := F) c 5).N = 5 from Gen.N_5]; exact Nat.mod_lt _ (by decide)⟩
theorem at5_val (c : Dev nD) (t : Fin (cfgAt (F := F) c 5).N) : at5 c t.val = t := by
  have h : t.val < 5 := lt_of_lt_of_eq t.isLt Gen.N_5
  exact Fin.ext (Nat.mod_eq_of_lt h)

/-- The partial output after the points up to `n`: the sum of the products of the blocks. -/
def acc5 (c : Dev nD) (V : Valuation τ sig (Elt F)) : ℕ → FVec F S1024x4096 .f32
  | 0 => Gen.k5_pay1 (blkOf 5 c V (0 : Fin 3) (at5 c 0)) (blkOf 5 c V (1 : Fin 3) (at5 c 0))
  | n + 1 => Gen.k5_pay2 (acc5 c V n) (blkOf 5 c V (0 : Fin 3) (at5 c (n + 1))) (blkOf 5 c V (1 : Fin 3) (at5 c (n + 1)))

variable (KS VS : Dev nD → C4 F) (SN : Dev nD → C5 F)

/-- Before the exchange. -/
def pend5 (c : Dev nD) : sProp 𝕄 :=
  iprop((∃ K, invs KS VS SN K) ∗ levAts L lv ∗ bars ∗ reached ER (cell c .s5) 0 ∗ reached ER (cell c .r5) 0 ∗ own5 c
    ∗ prefHeld (pcfgs (F := F) 5).pre c (fun _ => fullShare) (adm (F := F) c 5).1 ∗ scopedRest (pcfgs (F := F) 5).spec c)

/-- After it. -/
def past5 (c : Dev nD) : sProp 𝕄 :=
  iprop((semVal (cell c .bar1) 0 ∗ semVal (cell c .s5) 0 ∗ semVal (cell c .r5) 0)
    ∗ prefHeld (pcfgs (F := F) 5).pre c (fun _ => fullShare) (adm (F := F) c 5).1 ∗ scopedRest (pcfgs (F := F) 5).spec c)

/-- The data of the output call: four points accumulate, the fifth exchanges and adds. -/
def dat5 (c : Dev nD) (V : Valuation τ sig (Elt F)) : Dat τ (Elt F) Unit ℕ UU ℕ (cfgAt (F := F) c 5) c where
  A w := V (Proc.devRef .tc (arrRef (pcfgs (F := F) 5).spec w))
  after := fun
    | ⟨0, _⟩, t => blkOf 5 c V (0 : Fin 3) t
    | ⟨1, _⟩, t => blkOf 5 c V (1 : Fin 3) t
    | ⟨2, _⟩, t => if t.val = 4 then Gen.k5_pay4 (acc5 c V 3) (SN (py c)) else acc5 c V t.val
  Φ t := if t.val = 5 then past5 c else pend5 KS VS SN c
  q _ := fullShare
  owed t := if t.val = 5 then 0 else oweB c

theorem before5_2 (c : Dev nD) (V : Valuation τ sig (Elt F)) (t : Fin (cfgAt (F := F) c 5).N) (ht : t.val ≠ 0) (d : S1024x4096.Idx → Elt F .f32) :
    (dat5 KS VS SN c V).before (2 : Fin 3) t d = acc5 c V (t.val - 1) := by
  have h5 : t.val < 5 := lt_of_lt_of_eq t.isLt Gen.N_5
  rw [(dat5 KS VS SN c V).before_of_pos (2 : Fin 3) t ht rfl d, flush_5_2, if_neg (by simp only [decide_eq_true_eq]; omega)]
  unfold Dat.left
  rw [show (cfgAt (F := F) c 5).idle (2 : Fin 3) ((cfgAt (F := F) c 5).grid.coords ⟨t.val - 1, _⟩) = false from idle_5_2 _]
  exact if_neg (by show ¬ t.val - 1 = 4; omega)

/-- Its body does at every point what the data say. -/
theorem body_5 (c : Dev nD) (V : Valuation τ sig (Elt F)) (hSN : SN c = Gen.k5_pay3 (acc5 c V 3)) :
    BodyObligationLoose (dat5 KS VS SN c V) (defs₀ (F := F)) 𝒱₀ () Set.univ := fun t => by
  have h5 : t.val < 5 := lt_of_lt_of_eq t.isLt Gen.N_5
  have b0 : ∀ d, (dat5 KS VS SN c V).before (0 : Fin 3) t d = blkOf 5 c V (0 : Fin 3) t :=
    (dat5 KS VS SN c V).before_in_eq_fetched (0 : Fin 3) rfl (fun _ => rfl) (fun _ _ _ => rfl) (fun _ => rfl) t
  have b1 : ∀ d, (dat5 KS VS SN c V).before (1 : Fin 3) t d = blkOf 5 c V (1 : Fin 3) t :=
    (dat5 KS VS SN c V).before_in_eq_fetched (1 : Fin 3) rfl (fun _ => rfl) (fun _ _ _ => rfl) (fun _ => rfl) t
  have ea : t.val ≠ 4 → (dat5 KS VS SN c V).after (2 : Fin 3) t = acc5 c V t.val := fun h => if_neg h
  have el : t.val = 4 → (dat5 KS VS SN c V).after (2 : Fin 3) t = Gen.k5_pay4 (acc5 c V 3) (SN (py c)) := fun h => if_pos h
  obtain ⟨k1, k2, k3⟩ := conds5 t
  rw [Gen.bigSep_W5, Gen.bigSep_W5]
  rw [show (dat5 KS VS SN c V).Φ t.castSucc = pend5 KS VS SN c from if_neg (by show ¬ t.val = 5; omega)]
  by_cases h4 : t.val = 4
  · rw [show (dat5 KS VS SN c V).Φ t.succ = past5 c from if_pos (by show t.val + 1 = 5; omega)]
    iintro ⟨HΦ, HO, ⟨%d0, H0⟩, ⟨%d1, H1⟩, ⟨%d2, H2⟩⟩
    ihave H0 := (Entails.of_eq (congrArg (fun X => (owns (c : Thread nD τ) _ fullShare X : sProp 𝕄)) (b0 d0))) $$ H0
    ihave H1 := (Entails.of_eq (congrArg (fun X => (owns (c : Thread nD τ) _ fullShare X : sProp 𝕄)) (b1 d1))) $$ H1
    ihave H2 := (Entails.of_eq (congrArg (fun X => (owns (c : Thread nD τ) _ fullShare X : sProp 𝕄)) ((before5_2 KS VS SN c V t (by omega) d2).trans (congrArg (acc5 c V) (show t.val - 1 = 3 by omega))))) $$ H2
    ihave HO := (owesAt_out (dat5 KS VS SN c V) t.castSucc (O := oweB c) (if_neg (by show ¬ t.val = 5; omega))) $$ HO
    unfold pend5 past5
    icases HΦ with ⟨⟨%K, HI⟩, Hlev, Hbar, HrS, HrR, Hown, Hpre, Hsc⟩
    ihave Hsc := (Entails.of_eq (Gen.scopedRest5_split c)) $$ Hsc
    icases Hsc with ⟨⟨Hs0, Hs1⟩, Hrest⟩
    iapply (run_then (run5_last KS VS SN K c _ (Gen.stage_whole5 0 _) _ (Gen.stage_whole5 1 _) _ (Gen.stage_whole5 2 _) _ _ _ (grid5.coords t)
      (fun h => by have := k1.mp h; omega) (fun h => by have := k2.mp h; omega) (k3.mpr h4) hSN))
    isplitl [H0 H1 H2 HI Hlev Hbar HrS HrR Hown Hs0 Hs1 HO]
    · isplitl [H0 H1 H2]
      · isplitl [H0]; · iexact H0
        isplitl [H1]; · iexact H1
        iexact H2
      isplitl [HI]; · iexact HI
      isplitl [Hlev]; · iexact Hlev
      isplitl [Hbar]; · iexact Hbar
      isplitl [HrS]; · iexact HrS
      isplitl [HrR]; · iexact HrR
      isplitl [Hown]; · iexact Hown
      isplitl [Hs0]; · iexact Hs0
      isplitl [Hs1]; · iexact Hs1
      iexact HO
    iintro ⟨⟨H0, H1, H2⟩, Hb, Hs, Hr, Hs0, Hs1, HO⟩
    isplitl [Hb Hs Hr Hs0 Hs1 Hrest Hpre]
    · isplitl [Hb Hs Hr]
      · isplitl [Hb]; · iexact Hb
        isplitl [Hs]; · iexact Hs
        iexact Hr
      isplitl [Hpre]; · iexact Hpre
      iapply (Entails.of_eq (Gen.scopedRest5_split c).symm)
      isplitl [Hs0 Hs1]
      · isplitl [Hs0]; · iexact Hs0
        iexact Hs1
      iexact Hrest
    isplitl [HO]; · iapply (owesAt_in (dat5 KS VS SN c V) t.succ rfl (O := 0) (if_pos (by show t.val + 1 = 5; omega))); iexact HO
    isplitl [H0]; · iapply (left_live (dat5 KS VS SN c V) (0 : Fin 3) t rfl rfl); iexact H0
    isplitl [H1]; · iapply (left_live (dat5 KS VS SN c V) (1 : Fin 3) t rfl rfl); iexact H1
    iapply (left_live (dat5 KS VS SN c V) (2 : Fin 3) t (idle_5_2 t) rfl)
    iapply (Entails.of_eq (congrArg (fun X => (owns (c : Thread nD τ) _ fullShare X : sProp 𝕄)) (el h4)).symm); iexact H2
  · rw [show (dat5 KS VS SN c V).Φ t.succ = pend5 KS VS SN c from if_neg (by show ¬ t.val + 1 = 5; omega)]
    iintro ⟨HΦ, HO, ⟨%d0, H0⟩, ⟨%d1, H1⟩, ⟨%d2, H2⟩⟩
    ihave H0 := (Entails.of_eq (congrArg (fun X => (owns (c : Thread nD τ) _ fullShare X : sProp 𝕄)) (b0 d0))) $$ H0
    ihave H1 := (Entails.of_eq (congrArg (fun X => (owns (c : Thread nD τ) _ fullShare X : sProp 𝕄)) (b1 d1))) $$ H1
    ihave HO := (owesAt_out (dat5 KS VS SN c V) t.castSucc (O := oweB c) (if_neg (by show ¬ t.val = 5; omega))) $$ HO
    ihave HO := (owesAt_in (dat5 KS VS SN c V) t.succ rfl (O := oweB c) (if_neg (by show ¬ t.val + 1 = 5; omega))) $$ HO
    by_cases h0 : t.val = 0
    · have e0 : acc5 c V t.val = Gen.k5_pay1 (blkOf 5 c V (0 : Fin 3) t) (blkOf 5 c V (1 : Fin 3) t) := by
        rw [h0]; unfold acc5; rw [show at5 c 0 = t from h0 ▸ at5_val c t]
      iapply (run_then (run5_first c _ (Gen.stage_whole5 0 _) _ (Gen.stage_whole5 1 _) _ (Gen.stage_whole5 2 _) _ _ _ (grid5.coords t)
        (k1.mpr h0) (fun h => by have := k2.mp h; omega) (fun h => h4 (k3.mp h))))
      isplitl [H0 H1 H2]
      · isplitl [H0]; · iexact H0
        isplitl [H1]; · iexact H1
        iexact H2
      iintro ⟨H0, H1, H2⟩
      isplitl [HΦ]; · iexact HΦ
      isplitl [HO]; · iexact HO
      isplitl [H0]; · iapply (left_live (dat5 KS VS SN c V) (0 : Fin 3) t rfl rfl); iexact H0
      isplitl [H1]; · iapply (left_live (dat5 KS VS SN c V) (1 : Fin 3) t rfl rfl); iexact H1
      iapply (left_live (dat5 KS VS SN c V) (2 : Fin 3) t (idle_5_2 t) rfl)
      iapply (Entails.of_eq (congrArg (fun X => (owns (c : Thread nD τ) _ fullShare X : sProp 𝕄)) ((ea h4).trans e0)).symm); iexact H2
    · have e0 : acc5 c V t.val = Gen.k5_pay2 (acc5 c V (t.val - 1)) (blkOf 5 c V (0 : Fin 3) t) (blkOf 5 c V (1 : Fin 3) t) := by
        obtain ⟨n, hn⟩ : ∃ n, t.val = n + 1 := ⟨t.val - 1, by omega⟩
        rw [hn, Nat.add_sub_cancel, show acc5 c V (n + 1) = Gen.k5_pay2 (acc5 c V n) (blkOf 5 c V (0 : Fin 3) (at5 c (n + 1))) (blkOf 5 c V (1 : Fin 3) (at5 c (n + 1))) from rfl,
          show at5 c (n + 1) = t from hn ▸ at5_val c t]
      ihave H2 := (Entails.of_eq (congrArg (fun X => (owns (c : Thread nD τ) _ fullShare X : sProp 𝕄)) (before5_2 KS VS SN c V t h0 d2))) $$ H2
      iapply (run_then (run5_mid c _ (Gen.stage_whole5 0 _) _ (Gen.stage_whole5 1 _) _ (Gen.stage_whole5 2 _) _ _ _ (grid5.coords t)
        (fun h => h0 (k1.mp h)) (k2.mpr (by omega)) (fun h => h4 (k3.mp h))))
      isplitl [H0 H1 H2]
      · isplitl [H0]; · iexact H0
        isplitl [H1]; · iexact H1
        iexact H2
      iintro ⟨H0, H1, H2⟩
      isplitl [HΦ]; · iexact HΦ
      isplitl [HO]; · iexact HO
      isplitl [H0]; · iapply (left_live (dat5 KS VS SN c V) (0 : Fin 3) t rfl rfl); iexact H0
      isplitl [H1]; · iapply (left_live (dat5 KS VS SN c V) (1 : Fin 3) t rfl rfl); iexact H1
      iapply (left_live (dat5 KS VS SN c V) (2 : Fin 3) t (idle_5_2 t) rfl)
      iapply (Entails.of_eq (congrArg (fun X => (owns (c : Thread nD τ) _ fullShare X : sProp 𝕄)) ((ea h4).trans e0)).symm); iexact H2

end Cert.KernelIdeal

end
-- ==== Proof.Proj.lean ====
/- The body of the projection call: the first point computes k and v, sends them to the partner in blocks, and every point computes
   a block of the queries; the last point takes what was received and adds it. -/
module

public import proofs.«01_k».proof.Proof.Talk
public import Idealize.ShloMosaic.Lib.Pointwise
public import Idealize.ShloMosaic.Lib.Pipeline.ValueKit.Geometry

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

/-! ## The copies -/

section Copies
variable (KS VS : Dev nD → C4 F) (SN : Dev nD → C5 F) (K : GSem nD τ sig → ℕ) (c : Dev nD) (i : Fin 4)

theorem amount_k : (blk rkM i).view.amount (sem (.rk i)) = N1 := by fin_cases i <;> rfl
theorem amount_v : (blk rvM i).view.amount (sem (.rv i)) = N1 := by fin_cases i <;> rfl

theorem sent_k : ((blk skM i).view.loc (c : Thread nD τ) ↦[(blk skM i).view.set]{fullShare} (KS c) : sProp 𝕄) ⊢ payOf KS VS SN c (.sk i) := by
  rw [blk_set_sk]; exact Entails.refl _
theorem sent_v : ((blk svM i).view.loc (c : Thread nD τ) ↦[(blk svM i).view.set]{fullShare} (VS c) : sProp 𝕄) ⊢ payOf KS VS SN c (.sv i) := by
  rw [blk_set_sv]; exact Entails.refl _

omit [FloatOps F] in
/-- Copying block `i` of the send buffer over the same block of the receive buffer leaves that block as it was in the first. -/
theorem copied_k (f fd : C4 F) : ∀ x ∈ (blk rkM i).view.set,
    (blk rkM i).view.write (Elt F) fd ((blk skM i).view.read (Elt F) f) Finset.univ x = f x := fun x hx => by
  obtain ⟨y, -, rfl⟩ := Finset.mem_map.mp hx
  rw [View.write_emb_of_mem _ _ (Finset.mem_univ y), View.read_apply]
  rfl
omit [FloatOps F] in
theorem copied_v (f fd : C4 F) : ∀ x ∈ (blk rvM i).view.set,
    (blk rvM i).view.write (Elt F) fd ((blk svM i).view.read (Elt F) f) Finset.univ x = f x := fun x hx => by
  obtain ⟨y, -, rfl⟩ := Finset.mem_map.mp hx
  rw [View.write_emb_of_mem _ _ (Finset.mem_univ y), View.read_apply]
  rfl

theorem landed_k (fd : C4 F) :
    ((blk rkM i).view.loc (px c : Thread nD τ) ↦[(blk rkM i).view.set]{fullShare} ((blk rkM i).view.write (Elt F) fd ((blk skM i).view.read (Elt F) (KS c)) Finset.univ) : sProp 𝕄)
      ⊢ payOf KS VS SN (px c) (.rk i) := by
  rw [pointsTo_congr (copied_k i (KS c) fd), blk_set_rk]
  refine Entails.of_eq ?_
  unfold payOf
  rw [px_px]
theorem landed_v (fd : C4 F) :
    ((blk rvM i).view.loc (px c : Thread nD τ) ↦[(blk rvM i).view.set]{fullShare} ((blk rvM i).view.write (Elt F) fd ((blk svM i).view.read (Elt F) (VS c)) Finset.univ) : sProp 𝕄)
      ⊢ payOf KS VS SN (px c) (.rv i) := by
  rw [pointsTo_congr (copied_v i (VS c) fd), blk_set_rv]
  refine Entails.of_eq ?_
  unfold payOf
  rw [px_px]

/-- The copy of block `i` of k to the partner. -/
theorem send_k {α : Type} {Q : α → sProp 𝕄} {p' : Dev nD} (hpp : p' = px c) (fd : C4 F) {hsc : (blk rkM i).view.ref.isScScratch = false}
    {hsrc : (blk skM i).view.WordExact} {hdst : (blk rkM i).view.WordExact}
    {hsem : DmaTarget.Typed (nD := nD) (τ := τ) .vmem (sem (.rk i)) (.remote (p' : Thread nD τ) (blk rkM i) (sem (.sk i)) hsc)}
    {cont : PUnit → Prog (TpuEff nD τ sig (Elt F) Λ₀ .tc) α} {O : CellTallies nD τ sig Unit} {W : Waits sig Unit} :
    iprop(invs KS VS SN K ∗ skP c i (KS c) ∗ rkP (px c) i fd ∗ owes (c : Thread nD τ) (O + tallyAt (cell (px c) (.rk i)) () N1) W
        ∗ dutyTok ER (cell c (.sk i)) 0 () ∗ reached ER (cell c (.sk i)) 0 ∗ dutyTok ER (cell (px c) (.rk i)) 0 () ∗ reached ER (cell (px c) (.rk i)) 0)
      ⊢ iprop(((cred (tallyAt (cell c (.sk i)) () N1) ∗ owes (c : Thread nD τ) O W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (blk skM i) (.remote (p' : Thread nD τ) (blk rkM i) (sem (.sk i)) hsc) (sem (.rk i)) hsrc hdst hsem) cont) Q) := by
  have h := step_send KS VS SN K c (Q := Q) (px c) p' hpp (.sk i) (.rk i) N1 rfl rfl (hsc := hsc) (hsrc := hsrc) (hdst := hdst) (hsem := hsem) (fs := KS c) (fd := fd)
    (amount_k i) (sent_k KS VS SN c i) (landed_k KS VS SN c i fd) (cont := cont) (O := O) (W := W)
  rw [blk_set_sk, blk_set_rk] at h
  exact h

/-- The copy of block `i` of v to the partner. -/
theorem send_v {α : Type} {Q : α → sProp 𝕄} {p' : Dev nD} (hpp : p' = px c) (fd : C4 F) {hsc : (blk rvM i).view.ref.isScScratch = false}
    {hsrc : (blk svM i).view.WordExact} {hdst : (blk rvM i).view.WordExact}
    {hsem : DmaTarget.Typed (nD := nD) (τ := τ) .vmem (sem (.rv i)) (.remote (p' : Thread nD τ) (blk rvM i) (sem (.sv i)) hsc)}
    {cont : PUnit → Prog (TpuEff nD τ sig (Elt F) Λ₀ .tc) α} {O : CellTallies nD τ sig Unit} {W : Waits sig Unit} :
    iprop(invs KS VS SN K ∗ svP c i (VS c) ∗ rvP (px c) i fd ∗ owes (c : Thread nD τ) (O + tallyAt (cell (px c) (.rv i)) () N1) W
        ∗ dutyTok ER (cell c (.sv i)) 0 () ∗ reached ER (cell c (.sv i)) 0 ∗ dutyTok ER (cell (px c) (.rv i)) 0 () ∗ reached ER (cell (px c) (.rv i)) 0)
      ⊢ iprop(((cred (tallyAt (cell c (.sv i)) () N1) ∗ owes (c : Thread nD τ) O W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (blk svM i) (.remote (p' : Thread nD τ) (blk rvM i) (sem (.sv i)) hsc) (sem (.rv i)) hsrc hdst hsem) cont) Q) := by
  have h := step_send KS VS SN K c (Q := Q) (px c) p' hpp (.sv i) (.rv i) N1 rfl rfl (hsc := hsc) (hsrc := hsrc) (hdst := hdst) (hsem := hsem) (fs := VS c) (fd := fd)
    (amount_v i) (sent_v KS VS SN c i) (landed_v KS VS SN c i fd) (cont := cont) (O := O) (W := W)
  rw [blk_set_sv, blk_set_rv] at h
  exact h
end Copies

/-! ## What is sent -/

/-- The product of a device's block of latent rows, rounded and cut in four blocks of columns. -/
def halfOf (P : FVec F S1024x2048 .f32) : C4 F :=
  fun x => (truncf .bf16 P bitsLt_bf16_f32 : FVec F S1024x2048 .bf16)
    (Idealize.ShloMosaic.ix2 (n0 := 1024) (n1 := 2048) (x 1) ⟨512 * (x 0).val + (x 2).val, by
      have h0 : (x 0).val < 4 := (x 0).isLt
      have h2 : (x 2).val < 512 := (x 2).isLt
      show 512 * (x 0).val + (x 2).val < 2048
      omega⟩)

omit [FloatOps F] in
/-- Contents stored in four blocks, each agreeing with `G`, are `G`. -/
theorem stored4 [∀ e, Nonempty (Elt F e)] (v : View sig .tc .vmem S4x1024x512 .bf16) (g : v.ty.Contents (Elt F)) (G : C4 F)
    (w0 w1 w2 w3 : S1x1024x512.Idx → Elt F .bf16) (i0 : ∀ a, (![0, 0, 0] : Fin 3 → ℕ) a + S1x1024x512.size a ≤ S4x1024x512.size a)
    (i1 : ∀ a, (![1, 0, 0] : Fin 3 → ℕ) a + S1x1024x512.size a ≤ S4x1024x512.size a)
    (i2 : ∀ a, (![2, 0, 0] : Fin 3 → ℕ) a + S1x1024x512.size a ≤ S4x1024x512.size a)
    (i3 : ∀ a, (![3, 0, 0] : Fin 3 → ℕ) a + S1x1024x512.size a ≤ S4x1024x512.size a)
    (h0 : ∀ x, w0 x = G ((Rect.unit (s := S4x1024x512) ![0, 0, 0] S1x1024x512.size i0).emb x))
    (h1 : ∀ x, w1 x = G ((Rect.unit (s := S4x1024x512) ![1, 0, 0] S1x1024x512.size i1).emb x))
    (h2 : ∀ x, w2 x = G ((Rect.unit (s := S4x1024x512) ![2, 0, 0] S1x1024x512.size i2).emb x))
    (h3 : ∀ x, w3 x = G ((Rect.unit (s := S4x1024x512) ![3, 0, 0] S1x1024x512.size i3).emb x)) :
    v.read (Elt F) (v.writes (Elt F) g [⟨Rect.unit (s := S4x1024x512) ![3, 0, 0] S1x1024x512.size i3, w3⟩, ⟨Rect.unit (s := S4x1024x512) ![2, 0, 0] S1x1024x512.size i2, w2⟩,
      ⟨Rect.unit (s := S4x1024x512) ![1, 0, 0] S1x1024x512.size i1, w1⟩, ⟨Rect.unit (s := S4x1024x512) ![0, 0, 0] S1x1024x512.size i0, w0⟩]) = G := by
  have hc : ∀ y : S4x1024x512.Idx, ∃ p ∈ ([⟨Rect.unit (s := S4x1024x512) ![3, 0, 0] S1x1024x512.size i3, w3⟩, ⟨Rect.unit (s := S4x1024x512) ![2, 0, 0] S1x1024x512.size i2, w2⟩,
      ⟨Rect.unit (s := S4x1024x512) ![1, 0, 0] S1x1024x512.size i1, w1⟩, ⟨Rect.unit (s := S4x1024x512) ![0, 0, 0] S1x1024x512.size i0, w0⟩] :
        List (View.Piece (Elt F) S4x1024x512 .bf16)), y ∈ p.1.set := fun y => by
    have hy : y ∈ plane 0 ∪ (plane 1 ∪ (plane 2 ∪ plane 3)) := plane_univ ▸ Finset.mem_univ y
    rcases Finset.mem_union.mp hy with h | h
    · exact ⟨_, List.mem_cons_of_mem _ (List.mem_cons_of_mem _ (List.mem_cons_of_mem _ List.mem_cons_self)), by rw [← unit_set] at h; exact h⟩
    rcases Finset.mem_union.mp h with h | h
    · exact ⟨_, List.mem_cons_of_mem _ (List.mem_cons_of_mem _ List.mem_cons_self), by rw [← unit_set] at h; exact h⟩
    rcases Finset.mem_union.mp h with h | h
    · exact ⟨_, List.mem_cons_of_mem _ List.mem_cons_self, by rw [← unit_set] at h; exact h⟩
    · exact ⟨_, List.mem_cons_self, by rw [← unit_set] at h; exact h⟩
  rw [View.read_writes_eq_canon _ _ _ hc]
  funext y
  refine View.canon_apply_of_pieces G _ ?_ y (hc y)
  intro p hp
  simp only [List.mem_cons, List.not_mem_nil, _root_.or_false] at hp
  rcases hp with rfl | rfl | rfl | rfl
  · exact h3
  · exact h2
  · exact h1
  · exact h0

/-- The four stores of the rounded blocks of k leave the send buffer at them. -/
theorem stored_k (g : C4 F) (X0 : FVec F S1024x128 .f32) (X1 : FVec F S128x2048 .f32)
    (i0 : ∀ a, (![0, 0, 0] : Fin 3 → ℕ) a + S1x1024x512.size a ≤ S4x1024x512.size a)
    (i1 : ∀ a, (![1, 0, 0] : Fin 3 → ℕ) a + S1x1024x512.size a ≤ S4x1024x512.size a)
    (i2 : ∀ a, (![2, 0, 0] : Fin 3 → ℕ) a + S1x1024x512.size a ≤ S4x1024x512.size a)
    (i3 : ∀ a, (![3, 0, 0] : Fin 3 → ℕ) a + S1x1024x512.size a ≤ S4x1024x512.size a) :
    skM.view.writes (Elt F) g [⟨Rect.unit (s := S4x1024x512) ![3, 0, 0] S1x1024x512.size i3, Gen.k1_pay11 (Gen.k1_pay2 X0 X1)⟩,
      ⟨Rect.unit (s := S4x1024x512) ![2, 0, 0] S1x1024x512.size i2, Gen.k1_pay9 (Gen.k1_pay2 X0 X1)⟩,
      ⟨Rect.unit (s := S4x1024x512) ![1, 0, 0] S1x1024x512.size i1, Gen.k1_pay6 X0 X1⟩, ⟨Rect.unit (s := S4x1024x512) ![0, 0, 0] S1x1024x512.size i0, Gen.k1_pay4 X0 X1⟩]
      = halfOf (Gen.k1_pay2 X0 X1) := by
  have h := stored4 (F := F) skM.view g (halfOf (Gen.k1_pay2 X0 X1)) (Gen.k1_pay4 X0 X1) (Gen.k1_pay6 X0 X1) (Gen.k1_pay9 (Gen.k1_pay2 X0 X1)) (Gen.k1_pay11 (Gen.k1_pay2 X0 X1))
    i0 i1 i2 i3 ?_ ?_ ?_ ?_
  · rw [View.read_whole] at h; exact h
  all_goals
    intro x
    idx_vars x
    first | unfold Gen.k1_pay4 | unfold Gen.k1_pay6 | unfold Gen.k1_pay9 | unfold Gen.k1_pay11
    generalize Gen.k1_pay2 X0 X1 = P
    pointwise [halfOf]
    refine congrArg (fun y => FloatOps.truncf .bf16 bitsLt_bf16_f32 (P y)) ?_
    refine congrArg₂ Idealize.ShloMosaic.ix2 (Fin.ext ?_) (Fin.ext ?_)
    · show x1.val = _
      rw [ValueKit.rect_emb_unit_val]
      show x1.val = 0 + x1.val
      omega
    · show _ = 512 * _ + _
      rw [ValueKit.rect_emb_unit_val, ValueKit.rect_emb_unit_val]
      have h0 : x0.val = 0 := by omega
      first
        | (show x2.val = 512 * (0 + x0.val) + (0 + x2.val); omega)
        | (show 512 + x2.val = 512 * (1 + x0.val) + (0 + x2.val); omega)
        | (show 1024 + x2.val = 512 * (2 + x0.val) + (0 + x2.val); omega)
        | (show 1536 + x2.val = 512 * (3 + x0.val) + (0 + x2.val); omega)

/-- The four stores of the rounded blocks of v leave the send buffer at them. -/
theorem stored_v (g : C4 F) (X0 : FVec F S1024x128 .f32) (X1 : FVec F S128x2048 .f32)
    (i0 : ∀ a, (![0, 0, 0] : Fin 3 → ℕ) a + S1x1024x512.size a ≤ S4x1024x512.size a)
    (i1 : ∀ a, (![1, 0, 0] : Fin 3 → ℕ) a + S1x1024x512.size a ≤ S4x1024x512.size a)
    (i2 : ∀ a, (![2, 0, 0] : Fin 3 → ℕ) a + S1x1024x512.size a ≤ S4x1024x512.size a)
    (i3 : ∀ a, (![3, 0, 0] : Fin 3 → ℕ) a + S1x1024x512.size a ≤ S4x1024x512.size a) :
    svM.view.writes (Elt F) g [⟨Rect.unit (s := S4x1024x512) ![3, 0, 0] S1x1024x512.size i3, Gen.k1_pay12 (Gen.k1_pay3 X0 X1)⟩,
      ⟨Rect.unit (s := S4x1024x512) ![2, 0, 0] S1x1024x512.size i2, Gen.k1_pay10 (Gen.k1_pay3 X0 X1)⟩,
      ⟨Rect.unit (s := S4x1024x512) ![1, 0, 0] S1x1024x512.size i1, Gen.k1_pay8 (Gen.k1_pay7 X0 X1)⟩, ⟨Rect.unit (s := S4x1024x512) ![0, 0, 0] S1x1024x512.size i0, Gen.k1_pay5 X0 X1⟩]
      = halfOf (Gen.k1_pay3 X0 X1) := by
  have h := stored4 (F := F) svM.view g (halfOf (Gen.k1_pay3 X0 X1)) (Gen.k1_pay5 X0 X1) (Gen.k1_pay8 (Gen.k1_pay7 X0 X1)) (Gen.k1_pay10 (Gen.k1_pay3 X0 X1)) (Gen.k1_pay12 (Gen.k1_pay3 X0 X1))
    i0 i1 i2 i3 ?_ ?_ ?_ ?_
  · rw [View.read_whole] at h; exact h
  all_goals
    intro x
    idx_vars x
    first | unfold Gen.k1_pay5 | unfold Gen.k1_pay8 Gen.k1_pay7 | unfold Gen.k1_pay10 | unfold Gen.k1_pay12
    generalize Gen.k1_pay3 X0 X1 = P
    pointwise [halfOf]
    refine congrArg (fun y => FloatOps.truncf .bf16 bitsLt_bf16_f32 (P y)) ?_
    refine congrArg₂ Idealize.ShloMosaic.ix2 (Fin.ext ?_) (Fin.ext ?_)
    · show x1.val = _
      rw [ValueKit.rect_emb_unit_val]
      show x1.val = 0 + x1.val
      omega
    · show _ = 512 * _ + _
      rw [ValueKit.rect_emb_unit_val, ValueKit.rect_emb_unit_val]
      have h0 : x0.val = 0 := by omega
      first
        | (show x2.val = 512 * (0 + x0.val) + (0 + x2.val); omega)
        | (show 512 + x2.val = 512 * (1 + x0.val) + (0 + x2.val); omega)
        | (show 1024 + x2.val = 512 * (2 + x0.val) + (0 + x2.val); omega)
        | (show 1536 + x2.val = 512 * (3 + x0.val) + (0 + x2.val); omega)

end Cert.KernelIdeal
-- ==== Proof.ProjRun.lean ====
/- The runs of the projection call's body: the first point, the points between, and the last. -/
module

public import proofs.«01_k».proof.Proof.Proj

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (KS VS : Dev nD → C4 F) (SN : Dev nD → C5 F) (K : GSem nD τ sig → ℕ) (c : Dev nD)

/-- What a device holds of one block's copies before they start: for k and for v, its place at the two semaphores, the right to pay
    the source's and the partner's, and the credit of what it will receive. -/
def blk1 (i : Fin 4) : sProp 𝕄 :=
  iprop((atPos ER (cell c (.sk i)) 0 ∅ 0 ∗ dutyTok ER (cell c (.sk i)) 0 () ∗ atPos ER (cell c (.rk i)) 0 ∅ 0 ∗ dutyTok ER (cell (px c) (.rk i)) 0 ()
      ∗ cred (tallyAt (cell c (.rk i)) () N1))
    ∗ (atPos ER (cell c (.sv i)) 0 ∅ 0 ∗ dutyTok ER (cell c (.sv i)) 0 () ∗ atPos ER (cell c (.rv i)) 0 ∅ 0 ∗ dutyTok ER (cell (px c) (.rv i)) 0 ()
      ∗ cred (tallyAt (cell c (.rv i)) () N1)))
/-- What it holds of them while they are under way. -/
def fly1 (i : Fin 4) : sProp 𝕄 :=
  iprop((atPos ER (cell c (.sk i)) 0 ∅ 0 ∗ cred (tallyAt (cell c (.sk i)) () N1) ∗ atPos ER (cell c (.rk i)) 0 ∅ 0 ∗ cred (tallyAt (cell c (.rk i)) () N1))
    ∗ (atPos ER (cell c (.sv i)) 0 ∅ 0 ∗ cred (tallyAt (cell c (.sv i)) () N1) ∗ atPos ER (cell c (.rv i)) 0 ∅ 0 ∗ cred (tallyAt (cell c (.rv i)) () N1)))
/-- What it holds of them after: the four counters at zero. -/
def done1 (i : Fin 4) : sProp 𝕄 :=
  iprop(semVal (cell c (.sk i)) 0 ∗ semVal (cell c (.rk i)) 0 ∗ semVal (cell c (.sv i)) 0 ∗ semVal (cell c (.rv i)) 0)
/-- The source semaphores of a block are at their first round. -/
def reachS (i : Fin 4) : sProp 𝕄 := iprop(reached ER (cell c (.sk i)) 0 ∗ reached ER (cell c (.sv i)) 0)
instance reach0_persistent : BI.Persistent (reach0 c : sProp 𝕄) := by unfold reach0; infer_instance
instance reachS_persistent (i : Fin 4) : BI.Persistent (reachS c i : sProp 𝕄) := by unfold reachS; infer_instance

/-- What a device holds of the projection call's protocol before its first point. -/
def own1 : sProp 𝕄 :=
  iprop(atPos ER (cell c .bar0) 0 ∅ 0 ∗ cred (tallyAt (cell c .bar0) () 1) ∗ dutyTok ER (cell (px c) .bar0) 0 ()
    ∗ blk1 c 0 ∗ blk1 c 1 ∗ blk1 c 2 ∗ blk1 c 3)

/-- The body of the projection call with the buffers of the call that are not staged. -/
abbrev body1 (i : grid1.Coords) (arg2 : Memref sig .tc .vmem S1024x128 .f32) (harg2 : arg2.IsWhole) (arg3 : Memref sig .tc .vmem S128x2048 .f32) (harg3 : arg3.IsWhole)
    (arg4 : Memref sig .tc .vmem S128x2048 .f32) (harg4 : arg4.IsWhole) (arg5 : Memref sig .tc .vmem S1024x4096 .f32) (harg5 : arg5.IsWhole)
    (arg6 : Memref sig .tc .vmem S4096x256 .f32) (harg6 : arg6.IsWhole) (arg7 : Memref sig .tc .vmem S1024x2048 .f32) (harg7 : arg7.IsWhole)
    (arg8 : Memref sig .tc .vmem S1024x2048 .f32) (harg8 : arg8.IsWhole) (arg9 : Memref sig .tc .vmem S1024x256 .f32) (harg9 : arg9.IsWhole) :
    Prog (TpuEff nD τ sig (Elt F) Λ₀ .tc) PUnit :=
  cc1__proj_body i (Memref.whole main_v7) (Memref.isWhole_whole _) arg2 harg2 arg3 harg3 arg4 harg4 arg5 harg5 arg6 harg6 arg7 harg7 arg8 harg8 arg9 harg9
    (Memref.whole cc1_scratch0) (Memref.isWhole_whole _) (Memref.whole cc1_scratch1) (Memref.isWhole_whole _) (Memref.whole cc1_scratch2) (Memref.isWhole_whole _)
    (Memref.whole cc1_scratch3) (Memref.isWhole_whole _) cc1_scratch4 cc1_scratch5 cc1_scratch6 cc1_scratch7

variable (arg2 : Memref sig .tc .vmem S1024x128 .f32) (harg2 : arg2.IsWhole) (arg3 : Memref sig .tc .vmem S128x2048 .f32) (harg3 : arg3.IsWhole)
    (arg4 : Memref sig .tc .vmem S128x2048 .f32) (harg4 : arg4.IsWhole) (arg5 : Memref sig .tc .vmem S1024x4096 .f32) (harg5 : arg5.IsWhole)
    (arg6 : Memref sig .tc .vmem S4096x256 .f32) (harg6 : arg6.IsWhole) (arg7 : Memref sig .tc .vmem S1024x2048 .f32) (harg7 : arg7.IsWhole)
    (arg8 : Memref sig .tc .vmem S1024x2048 .f32) (harg8 : arg8.IsWhole) (arg9 : Memref sig .tc .vmem S1024x256 .f32) (harg9 : arg9.IsWhole)
    (X0 : S1024x128.Idx → Elt F .f32) (X1 X2 : S128x2048.Idx → Elt F .f32) (X3 : S1024x4096.Idx → Elt F .f32) (X4 : S4096x256.Idx → Elt F .f32)
    (X5 X6 : S1024x2048.Idx → Elt F .f32) (X7 : S1024x256.Idx → Elt F .f32)

/-- The staging buffers of the projection call at given contents. -/
def bufs1 (Y5 Y6 : S1024x2048.Idx → Elt F .f32) (Y7 : S1024x256.Idx → Elt F .f32) : sProp 𝕄 :=
  iprop(owns (c : Thread nD τ) arg2 fullShare X0 ∗ owns (c : Thread nD τ) arg3 fullShare X1 ∗ owns (c : Thread nD τ) arg4 fullShare X2
    ∗ owns (c : Thread nD τ) arg5 fullShare X3 ∗ owns (c : Thread nD τ) arg6 fullShare X4
    ∗ owns (c : Thread nD τ) arg7 fullShare Y5 ∗ owns (c : Thread nD τ) arg8 fullShare Y6 ∗ owns (c : Thread nD τ) arg9 fullShare Y7)

/-- The unit at the partner's barrier. -/
theorem signal0 {α : Type} {Q : α → sProp 𝕄} {p' : Dev nD} (hpp : p' = px c)
    {cont : PUnit → Prog (TpuEff nD τ sig (Elt F) Λ₀ .tc) α} {O : CellTallies nD τ sig Unit} {W : Waits sig Unit} :
    iprop(invs KS VS SN K ∗ owes (c : Thread nD τ) (O + tallyAt (cell (px c) .bar0) () 1) W ∗ dutyTok ER (cell (px c) .bar0) 0 () ∗ payOf KS VS SN (px c) .bar0
        ∗ reached ER (cell (px c) .bar0) 0)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal (p' : Thread nD τ) (sig.barrier 0 rfl) 1) cont) Q) := by
  subst hpp
  exact step_signal KS VS SN K c (px c) .bar0 rfl rfl

/-- A point between computes its block of the queries. -/
theorem run1_mid (i : grid1.Coords) (h1 : ¬ k1_cond1 i = 1#1) (h2 : ¬ k1_cond2 i = 1#1) :
    bufs1 c arg2 arg3 arg4 arg5 arg6 arg7 arg8 arg9 X0 X1 X2 X3 X4 X5 X6 X7
      ⊢ wp frame (wpE (defs₀ (F := F)) 𝒱₀ (c : Thread nD τ) none) Set.univ (body1 i arg2 harg2 arg3 harg3 arg4 harg4 arg5 harg5 arg6 harg6 arg7 harg7 arg8 harg8 arg9 harg9)
          (fun _ => bufs1 c arg2 arg3 arg4 arg5 arg6 arg7 arg8 arg9 X0 X1 X2 X3 X4 X5 X6 (Gen.k1_pay1 X3 X4)) := by
  unfold bufs1 owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, -, H7⟩⟩
  unfold body1
  rw [Gen.cc1__proj_body_eq_skeleton]
  unfold Gen.cc1__proj_body_skel
  simp only [dif_neg h1, dif_neg h2, wp_deviceId]
  sl_exec
  sl_step
  isplitl [H0]; · iapply (own_back c arg2 f0 X0 e0); iexact H0
  isplitl [H1]; · iapply (own_back c arg3 f1 X1 e1); iexact H1
  isplitl [H2]; · iapply (own_back c arg4 f2 X2 e2); iexact H2
  isplitl [H3]; · iapply (own_back c arg5 f3 X3 e3); iexact H3
  isplitl [H4]; · iapply (own_back c arg6 f4 X4 e4); iexact H4
  isplitl [H5]; · iapply (own_back c arg7 f5 X5 e5); iexact H5
  isplitl [H6]; · iapply (own_back c arg8 f6 X6 e6); iexact H6
  iapply (own_back c arg9 _ _ ?_)
  rotate_left
  · iexact H7
  · rw [read_store _ _ off2]
    simp only [load2]
    subst e3 e4
    rfl

set_option maxHeartbeats 1000000 in
/-- The first point: k and v of the device's latent rows, their rounded blocks sent to the partner, and the first block of the queries. -/
theorem run1_first (i : grid1.Coords) (h1 : k1_cond1 i = 1#1) (h2 : ¬ k1_cond2 i = 1#1)
    (hKS : KS c = halfOf (Gen.k1_pay2 X0 X1)) (hVS : VS c = halfOf (Gen.k1_pay3 X0 X2)) :
    iprop(bufs1 c arg2 arg3 arg4 arg5 arg6 arg7 arg8 arg9 X0 X1 X2 X3 X4 X5 X6 X7
        ∗ invs KS VS SN K ∗ levAts L lv ∗ bars ∗ reach0 c ∗ reachS c 0 ∗ reachS c 1 ∗ reachS c 2 ∗ reachS c 3 ∗ own1 c
        ∗ (∃ f, pt c cc1_scratch0 f) ∗ (∃ f, pt c cc1_scratch1 f) ∗ (∃ f, pt c cc1_scratch2 f) ∗ (∃ f, pt c cc1_scratch3 f)
        ∗ ∃ W, owes (c : Thread nD τ) (oweT c) W)
      ⊢ wp frame (wpE (defs₀ (F := F)) 𝒱₀ (c : Thread nD τ) none) Set.univ (body1 i arg2 harg2 arg3 harg3 arg4 harg4 arg5 harg5 arg6 harg6 arg7 harg7 arg8 harg8 arg9 harg9)
          (fun _ => iprop(bufs1 c arg2 arg3 arg4 arg5 arg6 arg7 arg8 arg9 X0 X1 X2 X3 X4 (Gen.k1_pay2 X0 X1) (Gen.k1_pay3 X0 X2) (Gen.k1_pay1 X3 X4)
              ∗ semVal (cell c .bar0) 0 ∗ fly1 c 0 ∗ fly1 c 1 ∗ fly1 c 2 ∗ fly1 c 3 ∗ ∃ W, owes (c : Thread nD τ) (oweB c) W)) := by
  unfold bufs1 owns own1 blk1 fly1 reachS reach0
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, -, H7⟩⟩, #HI, #Hlev, #Hbars,
    #Hre, ⟨#Hsk0, #Hsv0⟩, ⟨#Hsk1, #Hsv1⟩, ⟨#Hsk2, #Hsv2⟩, ⟨#Hsk3, #Hsv3⟩,
    ⟨HatB, HcB, HtB, ⟨⟨Aka0, Akt0, Akb0, Aku0, Akc0⟩, ⟨Ava0, Avt0, Avb0, Avu0, Avc0⟩⟩, ⟨⟨Aka1, Akt1, Akb1, Aku1, Akc1⟩, ⟨Ava1, Avt1, Avb1, Avu1, Avc1⟩⟩,
      ⟨⟨Aka2, Akt2, Akb2, Aku2, Akc2⟩, ⟨Ava2, Avt2, Avb2, Avu2, Avc2⟩⟩, ⟨⟨Aka3, Akt3, Akb3, Aku3, Akc3⟩, ⟨Ava3, Avt3, Avb3, Avu3, Avc3⟩⟩⟩,
    ⟨%g0, S0⟩, ⟨%g1, S1⟩, ⟨%g2, R0⟩, ⟨%g3, R1⟩, ⟨%W, HO⟩⟩
  unfold body1
  rw [Gen.cc1__proj_body_eq_skeleton]
  unfold Gen.cc1__proj_body_skel
  simp only [dif_pos h1, dif_neg h2, wp_deviceId, Gen.k1_part1_eq_skeleton, Gen.k1_part2_eq_skeleton, Gen.k1_part3_eq_skeleton, Gen.k1_part4_eq_skeleton, Gen.k1_part5_eq_skeleton]
  unfold Gen.k1_part1_skel Gen.k1_part2_skel Gen.k1_part3_skel Gen.k1_part4_skel Gen.k1_part5_skel
  ihave S0 := (Entails.of_eq (show pt c cc1_scratch0 g0 = (skM.view.loc (c : Thread nD τ) ↦{fullShare} g0 : sProp 𝕄) from rfl)) $$ S0
  ihave S1 := (Entails.of_eq (show pt c cc1_scratch1 g1 = (svM.view.loc (c : Thread nD τ) ↦{fullShare} g1 : sProp 𝕄) from rfl)) $$ S1
  sl_exec
  iapply (signal0 KS VS SN K c (dev1_1 c _) (O := owe8 c) (W := W)) $$ [HO HtB R0 R1]
  · isplitr; · iexact HI
    isplitl [HO]; · iexact HO
    isplitl [HtB]; · iexact HtB
    isplitl [R0 R1]
    · unfold payOf
      rw [px_px]
      isplitl [R0]; · iexists g2; iexact R0
      isplitl [R1]; · iexists g3; iexact R1
      unfold reach0
      iexact Hre
    · ihave #Hb := (bars_get (px c)) $$ Hbars
      icases Hb with ⟨#Hb0, -⟩
      iexact Hb0
  iintro HO
  sl_exec
  iapply (step_wait KS VS SN K c .bar0 (wpE_semWait_eq 𝒱₀ (c : Thread nD τ) none Set.univ) (O := owe8 c) (W := W)) $$ [HcB HO HatB]
  · isplitr; · iexact HI
    isplitl [HcB]; · iexact HcB
    isplitl [HO]; · iexact HO
    isplitr
    · iapply (mayWait c .bar0 _ ?_)
      rotate_left
      · iexact Hlev
      · exact cut8 c 1 (le_refl _)
    iexact HatB
  unfold payOf
  iintro ⟨HO, HzB, ⟨%h2, P0⟩, ⟨%h3, P1⟩, #HrP⟩
  unfold reach0
  icases HrP with ⟨#Prk0, #Prv0, #Prk1, #Prv1, #Prk2, #Prv2, #Prk3, #Prv3⟩
  sl_exec
  dsimp only
  rw [load2 arg2.view]
  rw [load2 arg3.view, load2 arg4.view]
  rw [e0, e1, e2]
  ihave S0 := (Entails.of_eq (congrArg (fun f => (skM.view.loc (c : Thread nD τ) ↦{fullShare} f : sProp 𝕄)) ((stored_k g0 X0 X1 _ _ _ _).trans hKS.symm))) $$ S0
  ihave S1 := (Entails.of_eq (congrArg (fun f => (svM.view.loc (c : Thread nD τ) ↦{fullShare} f : sProp 𝕄)) ((stored_v g1 X0 X2 _ _ _ _).trans hVS.symm))) $$ S1
  ihave S0 := (Entails.of_eq (show (skM.view.loc (c : Thread nD τ) ↦{fullShare} (KS c) : sProp 𝕄) = pt c cc1_scratch0 (KS c) from rfl)) $$ S0
  ihave S1 := (Entails.of_eq (show (svM.view.loc (c : Thread nD τ) ↦{fullShare} (VS c) : sProp 𝕄) = pt c cc1_scratch1 (VS c) from rfl)) $$ S1
  ihave S0 := (Entails.of_eq (sk_split c (KS c))) $$ S0
  ihave S1 := (Entails.of_eq (sv_split c (VS c))) $$ S1
  ihave P0 := (Entails.of_eq (rk_split (px c) h2)) $$ P0
  ihave P1 := (Entails.of_eq (rv_split (px c) h3)) $$ P1
  icases S0 with ⟨Sk0, Sk1, Sk2, Sk3⟩
  icases S1 with ⟨Sv0, Sv1, Sv2, Sv3⟩
  icases P0 with ⟨Pk0, Pk1, Pk2, Pk3⟩
  icases P1 with ⟨Pv0, Pv1, Pv2, Pv3⟩
  unfold owe8
  iapply (send_k KS VS SN K c 0 (dev1_2 c _) h2 (O := oweB c + tallyAt (cell (px c) (.rv 3)) () N1 + tallyAt (cell (px c) (.rk 3)) () N1 + tallyAt (cell (px c) (.rv 2)) () N1 + tallyAt (cell (px c) (.rk 2)) () N1 + tallyAt (cell (px c) (.rv 1)) () N1 + tallyAt (cell (px c) (.rk 1)) () N1 + tallyAt (cell (px c) (.rv 0)) () N1)) $$ [Sk0 Pk0 HO Akt0 Aku0]
  · isplitr; · iexact HI
    isplitl [Sk0]; · iexact Sk0
    isplitl [Pk0]; · iexact Pk0
    isplitl [HO]; · iexact HO
    isplitl [Akt0]; · iexact Akt0
    isplitr; · iexact Hsk0
    isplitl [Aku0]; · iexact Aku0
    iexact Prk0
  iintro ⟨Csk0, HO⟩
  iapply (send_v KS VS SN K c 0 (dev1_3 c _) h3 (O := oweB c + tallyAt (cell (px c) (.rv 3)) () N1 + tallyAt (cell (px c) (.rk 3)) () N1 + tallyAt (cell (px c) (.rv 2)) () N1 + tallyAt (cell (px c) (.rk 2)) () N1 + tallyAt (cell (px c) (.rv 1)) () N1 + tallyAt (cell (px c) (.rk 1)) () N1)) $$ [Sv0 Pv0 HO Avt0 Avu0]
  · isplitr; · iexact HI
    isplitl [Sv0]; · iexact Sv0
    isplitl [Pv0]; · iexact Pv0
    isplitl [HO]; · iexact HO
    isplitl [Avt0]; · iexact Avt0
    isplitr; · iexact Hsv0
    isplitl [Avu0]; · iexact Avu0
    iexact Prv0
  iintro ⟨Csv0, HO⟩
  iapply (send_k KS VS SN K c 1 (dev1_4 c _) h2 (O := oweB c + tallyAt (cell (px c) (.rv 3)) () N1 + tallyAt (cell (px c) (.rk 3)) () N1 + tallyAt (cell (px c) (.rv 2)) () N1 + tallyAt (cell (px c) (.rk 2)) () N1 + tallyAt (cell (px c) (.rv 1)) () N1)) $$ [Sk1 Pk1 HO Akt1 Aku1]
  · isplitr; · iexact HI
    isplitl [Sk1]; · iexact Sk1
    isplitl [Pk1]; · iexact Pk1
    isplitl [HO]; · iexact HO
    isplitl [Akt1]; · iexact Akt1
    isplitr; · iexact Hsk1
    isplitl [Aku1]; · iexact Aku1
    iexact Prk1
  iintro ⟨Csk1, HO⟩
  iapply (send_v KS VS SN K c 1 (dev1_5 c _) h3 (O := oweB c + tallyAt (cell (px c) (.rv 3)) () N1 + tallyAt (cell (px c) (.rk 3)) () N1 + tallyAt (cell (px c) (.rv 2)) () N1 + tallyAt (cell (px c) (.rk 2)) () N1)) $$ [Sv1 Pv1 HO Avt1 Avu1]
  · isplitr; · iexact HI
    isplitl [Sv1]; · iexact Sv1
    isplitl [Pv1]; · iexact Pv1
    isplitl [HO]; · iexact HO
    isplitl [Avt1]; · iexact Avt1
    isplitr; · iexact Hsv1
    isplitl [Avu1]; · iexact Avu1
    iexact Prv1
  iintro ⟨Csv1, HO⟩
  iapply (send_k KS VS SN K c 2 (dev1_6 c _) h2 (O := oweB c + tallyAt (cell (px c) (.rv 3)) () N1 + tallyAt (cell (px c) (.rk 3)) () N1 + tallyAt (cell (px c) (.rv 2)) () N1)) $$ [Sk2 Pk2 HO Akt2 Aku2]
  · isplitr; · iexact HI
    isplitl [Sk2]; · iexact Sk2
    isplitl [Pk2]; · iexact Pk2
    isplitl [HO]; · iexact HO
    isplitl [Akt2]; · iexact Akt2
    isplitr; · iexact Hsk2
    isplitl [Aku2]; · iexact Aku2
    iexact Prk2
  iintro ⟨Csk2, HO⟩
  iapply (send_v KS VS SN K c 2 (dev1_7 c _) h3 (O := oweB c + tallyAt (cell (px c) (.rv 3)) () N1 + tallyAt (cell (px c) (.rk 3)) () N1)) $$ [Sv2 Pv2 HO Avt2 Avu2]
  · isplitr; · iexact HI
    isplitl [Sv2]; · iexact Sv2
    isplitl [Pv2]; · iexact Pv2
    isplitl [HO]; · iexact HO
    isplitl [Avt2]; · iexact Avt2
    isplitr; · iexact Hsv2
    isplitl [Avu2]; · iexact Avu2
    iexact Prv2
  iintro ⟨Csv2, HO⟩
  iapply (send_k KS VS SN K c 3 (dev1_8 c _) h2 (O := oweB c + tallyAt (cell (px c) (.rv 3)) () N1)) $$ [Sk3 Pk3 HO Akt3 Aku3]
  · isplitr; · iexact HI
    isplitl [Sk3]; · iexact Sk3
    isplitl [Pk3]; · iexact Pk3
    isplitl [HO]; · iexact HO
    isplitl [Akt3]; · iexact Akt3
    isplitr; · iexact Hsk3
    isplitl [Aku3]; · iexact Aku3
    iexact Prk3
  iintro ⟨Csk3, HO⟩
  iapply (send_v KS VS SN K c 3 (dev1_9 c _) h3 (O := oweB c)) $$ [Sv3 Pv3 HO Avt3 Avu3]
  · isplitr; · iexact HI
    isplitl [Sv3]; · iexact Sv3
    isplitl [Pv3]; · iexact Pv3
    isplitl [HO]; · iexact HO
    isplitl [Avt3]; · iexact Avt3
    isplitr; · iexact Hsv3
    isplitl [Avu3]; · iexact Avu3
    iexact Prv3
  iintro ⟨Csv3, HO⟩
  rw [ret_bind]
  sl_exec
  sl_step
  isplitl [H0 H1 H2 H3 H4 H5 H6 H7]
  · isplitl [H0]; · iapply (own_back c arg2 f0 X0 e0); iexact H0
    isplitl [H1]; · iapply (own_back c arg3 f1 X1 e1); iexact H1
    isplitl [H2]; · iapply (own_back c arg4 f2 X2 e2); iexact H2
    isplitl [H3]; · iapply (own_back c arg5 f3 X3 e3); iexact H3
    isplitl [H4]; · iapply (own_back c arg6 f4 X4 e4); iexact H4
    isplitl [H5]
    · iapply (own_back c arg7 _ _ ?_)
      rotate_left
      · iexact H5
      · rw [read_store _ _ off2]
    isplitl [H6]
    · iapply (own_back c arg8 _ _ ?_)
      rotate_left
      · iexact H6
      · rw [read_store _ _ off2]
    iapply (own_back c arg9 _ _ ?_)
    rotate_left
    · iexact H7
    · rw [read_store _ _ off2, load2, load2, e3, e4]
  isplitl [HzB]; · iexact HzB
  isplitl [Aka0 Csk0 Akb0 Akc0 Ava0 Csv0 Avb0 Avc0]
  · isplitl [Aka0 Csk0 Akb0 Akc0]
    · isplitl [Aka0]; · iexact Aka0
      isplitl [Csk0]; · iexact Csk0
      isplitl [Akb0]; · iexact Akb0
      iexact Akc0
    · isplitl [Ava0]; · iexact Ava0
      isplitl [Csv0]; · iexact Csv0
      isplitl [Avb0]; · iexact Avb0
      iexact Avc0
  isplitl [Aka1 Csk1 Akb1 Akc1 Ava1 Csv1 Avb1 Avc1]
  · isplitl [Aka1 Csk1 Akb1 Akc1]
    · isplitl [Aka1]; · iexact Aka1
      isplitl [Csk1]; · iexact Csk1
      isplitl [Akb1]; · iexact Akb1
      iexact Akc1
    · isplitl [Ava1]; · iexact Ava1
      isplitl [Csv1]; · iexact Csv1
      isplitl [Avb1]; · iexact Avb1
      iexact Avc1
  isplitl [Aka2 Csk2 Akb2 Akc2 Ava2 Csv2 Avb2 Avc2]
  · isplitl [Aka2 Csk2 Akb2 Akc2]
    · isplitl [Aka2]; · iexact Aka2
      isplitl [Csk2]; · iexact Csk2
      isplitl [Akb2]; · iexact Akb2
      iexact Akc2
    · isplitl [Ava2]; · iexact Ava2
      isplitl [Csv2]; · iexact Csv2
      isplitl [Avb2]; · iexact Avb2
      iexact Avc2
  isplitl [Aka3 Csk3 Akb3 Akc3 Ava3 Csv3 Avb3 Avc3]
  · isplitl [Aka3 Csk3 Akb3 Akc3]
    · isplitl [Aka3]; · iexact Aka3
      isplitl [Csk3]; · iexact Csk3
      isplitl [Akb3]; · iexact Akb3
      iexact Akc3
    · isplitl [Ava3]; · iexact Ava3
      isplitl [Csv3]; · iexact Csv3
      isplitl [Avb3]; · iexact Avb3
      iexact Avc3
  iexists _; iexact HO

end Cert.KernelIdeal
-- ==== Proof.Added.lean ====
/- The sum of a block and the four pieces that arrived. -/
module

public import proofs.«01_k».proof.Proof.Proj

@[expose] public section

noncomputable section

open Idealize.ShloMosaic Idealize.ShloMosaic.TcCoe

namespace Cert.KernelIdeal
section
open Facts₀ Facts
variable {F : FTy → Type} [FloatOps F]

/-- A block of 1024x2048 with the four 512-wide pieces of `R`, rounded before, added. -/
def plus (P : FVec F S1024x2048 .f32) (R : C4 F) : FVec F S1024x2048 .f32 :=
  addf P (extf .f32 (fun y => R (Idealize.ShloMosaic.ix3 (n0 := 4) (n1 := 1024) (n2 := 512) ⟨(y 1).val / 512, Nat.div_lt_of_lt_mul (show (y 1).val < 512 * 4 from (y 1).isLt)⟩ (y 0)
    ⟨(y 1).val % 512, Nat.mod_lt _ (by decide)⟩) : FVec F S1024x2048 .bf16) bitsLt_bf16_f32)

/-- Two indices of a rank-3 array with the same coordinates are the same. -/
theorem idx3_ext {n0 n1 n2 : ℕ} {x y : Shape.Idx ⟨3, ![n0, n1, n2]⟩} (h0 : (x 0).val = (y 0).val) (h1 : (x 1).val = (y 1).val) (h2 : (x 2).val = (y 2).val) : x = y := by
  funext a
  fin_cases a
  · exact Fin.ext h0
  · exact Fin.ext h1
  · exact Fin.ext h2

end
end Cert.KernelIdeal

namespace Cert.Own
section
open Cert.KernelIdeal hiding ix2
open Cert.KernelIdeal.Facts₀ Cert.KernelIdeal.Facts
variable {F : FTy → Type} [FloatOps F]

/-- One piece of the sum: the block's lanes from `512 * k` on, with piece `k` of what arrived. -/
theorem added_piece (P : FVec F S1024x2048 .f32) (R : C4 F) (k : ℕ) (hk : k < 4) (o : Fin 2 → ℕ) (ho : o = ![0, 512 * k])
    (ia : ∀ a, o a + S1024x512.size a ≤ S1024x2048.size a)
    (ir : ∀ a, (![k, 0, 0] : Fin 3 → ℕ) a + S1x1024x512.size a ≤ S4x1024x512.size a) (x : S1024x512.Idx) :
    Gen.k1_pay13 (F := F) (fun x => P ((Rect.unit (s := S1024x2048) o S1024x512.size ia).emb x)) (fun x => R ((Rect.unit (s := S4x1024x512) ![k, 0, 0] S1x1024x512.size ir).emb x)) x
      = plus P R ((Rect.unit (s := S1024x2048) o S1024x512.size ia).emb x) := by
  subst ho
  unfold Gen.k1_pay13 plus
  idx_vars x
  pointwise []
  refine congrArg₂ _ rfl (congrArg _ (congrArg R (idx3_ext ?_ ?_ ?_)))
  · rw [ValueKit.rect_emb_unit_val]
    show _ = (((Rect.unit (s := S1024x2048) ![0, 512 * k] S1024x512.size ia).emb _) 1).val / 512
    rw [ValueKit.rect_emb_unit_val]
    show k + 0 = (512 * k + x1.val) / 512
    have := x1.isLt
    omega
  · rw [ValueKit.rect_emb_unit_val]
    show _ = (((Rect.unit (s := S1024x2048) ![0, 512 * k] S1024x512.size ia).emb _) 0).val
    rw [ValueKit.rect_emb_unit_val]
    rfl
  · rw [ValueKit.rect_emb_unit_val]
    show _ = (((Rect.unit (s := S1024x2048) ![0, 512 * k] S1024x512.size ia).emb _) 1).val % 512
    rw [ValueKit.rect_emb_unit_val]
    show 0 + x1.val = (512 * k + x1.val) % 512
    have := x1.isLt
    omega

end
end Cert.Own

namespace Cert.KernelIdeal
section
open Cert.Own
variable {F : FTy → Type} [FloatOps F]

/-- After the four stores of the sums the block holds what it held plus what arrived. -/
theorem added (v : View sig .tc .vmem S1024x2048 .f32) (f : v.ty.Contents (Elt F)) (w : View sig .tc .vmem S4x1024x512 .bf16) (g : w.ty.Contents (Elt F)) (R : C4 F)
    (hR : w.read (Elt F) g = R)
    (i0 : ∀ a, (![0, 0] : Fin 2 → ℕ) a + S1024x512.size a ≤ S1024x2048.size a) (i1 : ∀ a, (![0, 512] : Fin 2 → ℕ) a + S1024x512.size a ≤ S1024x2048.size a)
    (i2 : ∀ a, (![0, 1024] : Fin 2 → ℕ) a + S1024x512.size a ≤ S1024x2048.size a) (i3 : ∀ a, (![0, 1536] : Fin 2 → ℕ) a + S1024x512.size a ≤ S1024x2048.size a)
    (j0 : ∀ a, (![0, 0, 0] : Fin 3 → ℕ) a + S1x1024x512.size a ≤ S4x1024x512.size a) (j1 : ∀ a, (![1, 0, 0] : Fin 3 → ℕ) a + S1x1024x512.size a ≤ S4x1024x512.size a)
    (j2 : ∀ a, (![2, 0, 0] : Fin 3 → ℕ) a + S1x1024x512.size a ≤ S4x1024x512.size a) (j3 : ∀ a, (![3, 0, 0] : Fin 3 → ℕ) a + S1x1024x512.size a ≤ S4x1024x512.size a) :
    v.read (Elt F) (v.writes (Elt F) f [
      ⟨Rect.unit (s := S1024x2048) ![0, 1536] S1024x512.size i3, Gen.k1_pay13 (View.readAt (Elt F) v (Rect.unit (s := S1024x2048) ![0, 1536] S1024x512.size i3).toLoadRect f)
        (View.readAt (Elt F) w (Rect.unit (s := S4x1024x512) ![3, 0, 0] S1x1024x512.size j3).toLoadRect g)⟩,
      ⟨Rect.unit (s := S1024x2048) ![0, 1024] S1024x512.size i2, Gen.k1_pay13 (View.readAt (Elt F) v (Rect.unit (s := S1024x2048) ![0, 1024] S1024x512.size i2).toLoadRect f)
        (View.readAt (Elt F) w (Rect.unit (s := S4x1024x512) ![2, 0, 0] S1x1024x512.size j2).toLoadRect g)⟩,
      ⟨Rect.unit (s := S1024x2048) ![0, 512] S1024x512.size i1, Gen.k1_pay13 (View.readAt (Elt F) v (Rect.unit (s := S1024x2048) ![0, 512] S1024x512.size i1).toLoadRect f)
        (View.readAt (Elt F) w (Rect.unit (s := S4x1024x512) ![1, 0, 0] S1x1024x512.size j1).toLoadRect g)⟩,
      ⟨Rect.unit (s := S1024x2048) ![0, 0] S1024x512.size i0, Gen.k1_pay13 (View.readAt (Elt F) v (Rect.unit (s := S1024x2048) ![0, 0] S1024x512.size i0).toLoadRect f)
        (View.readAt (Elt F) w (Rect.unit (s := S4x1024x512) ![0, 0, 0] S1x1024x512.size j0).toLoadRect g)⟩])
      = plus (v.read (Elt F) f) R := by
  subst hR
  funext y
  refine View.read_writes_apply_of_pieces v f _ _ ?_ y ?_
  · intro p hp
    simp only [List.mem_cons, List.not_mem_nil, _root_.or_false] at hp
    rcases hp with rfl | rfl | rfl | rfl
    · exact added_piece (v.read (Elt F) f) (w.read (Elt F) g) 3 (by decide) _ rfl i3 j3
    · exact added_piece (v.read (Elt F) f) (w.read (Elt F) g) 2 (by decide) _ rfl i2 j2
    · exact added_piece (v.read (Elt F) f) (w.read (Elt F) g) 1 (by decide) _ rfl i1 j1
    · exact added_piece (v.read (Elt F) f) (w.read (Elt F) g) 0 (by decide) _ rfl i0 j0
  · have b0 : (y 0).val < 1024 := (y 0).isLt
    have b1 : (y 1).val < 2048 := (y 1).isLt
    have hm : ∀ (o : Fin 2 → ℕ) (io : ∀ a, o a + S1024x512.size a ≤ S1024x2048.size a), o 0 = 0 → o 1 ≤ (y 1).val → (y 1).val < o 1 + 512 →
        y ∈ (Rect.unit (s := S1024x2048) o S1024x512.size io).set := fun o io h0 h1 h2 => by
      rw [Rect.mem_set_unit]
      intro a
      fin_cases a
      · exact ⟨h0.le.trans (Nat.zero_le _), by show (y 0).val < o 0 + 1024; omega⟩
      · exact ⟨h1, h2⟩
    by_cases c3 : 1536 ≤ (y 1).val
    · exact ⟨_, List.mem_cons_self, hm ![0, 1536] i3 rfl c3 (by show _ < 1536 + 512; omega)⟩
    by_cases c2 : 1024 ≤ (y 1).val
    · exact ⟨_, List.mem_cons_of_mem _ List.mem_cons_self, hm ![0, 1024] i2 rfl c2 (by show _ < 1024 + 512; omega)⟩
    by_cases c1 : 512 ≤ (y 1).val
    · exact ⟨_, List.mem_cons_of_mem _ (List.mem_cons_of_mem _ List.mem_cons_self), hm ![0, 512] i1 rfl c1 (by show _ < 512 + 512; omega)⟩
    · exact ⟨_, List.mem_cons_of_mem _ (List.mem_cons_of_mem _ (List.mem_cons_of_mem _ List.mem_cons_self)), hm ![0, 0] i0 rfl (Nat.zero_le _) (by show _ < 0 + 512; omega)⟩

end
end Cert.KernelIdeal
-- ==== Proof.ProjLast.lean ====
/- The runs of the projection call's body: the last point. -/
module

public import proofs.«01_k».proof.Proof.ProjRun
public import proofs.«01_k».proof.Proof.Added
public import proofs.«01_k».proof.Proof.Added

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (KS VS : Dev nD → C4 F) (SN : Dev nD → C5 F) (K : GSem nD τ sig → ℕ) (c : Dev nD)

theorem as_bind {E : Type → Type} {α β : Type} (p : Prog E α) (k : α → Prog E β) : p.bind k = (p >>= k) := rfl

omit [FloatOps F] in
theorem credit_sk (i : Fin 4) : (blk skM i).view.dmaCredit = N1 := by fin_cases i <;> rfl
omit [FloatOps F] in
theorem credit_rk (i : Fin 4) : (blk rkM i).view.dmaCredit = N1 := by fin_cases i <;> rfl
omit [FloatOps F] in
theorem credit_sv (i : Fin 4) : (blk svM i).view.dmaCredit = N1 := by fin_cases i <;> rfl
omit [FloatOps F] in
theorem credit_rv (i : Fin 4) : (blk rvM i).view.dmaCredit = N1 := by fin_cases i <;> rfl

/-- The wait for the sending of block `i` of k. -/
theorem wait_sk {α : Type} {Q : α → sProp 𝕄} (i : Fin 4) {s : DmaSem sig} (hs' : SemLoc.dma s = sem (.sk i)) {hs : (blk rkM i).view.WordExact} {hd : (blk skM i).view.WordExact}
    {cont : PUnit → Prog (TpuEff nD τ sig (Elt F) Λ₀ .tc) α} {W : Waits sig Unit} :
    iprop(invs KS VS SN K ∗ levAts L lv ∗ cred (tallyAt (cell c (.sk i)) () N1) ∗ owes (c : Thread nD τ) (oweB c) W ∗ atPos ER (cell c (.sk i)) 0 ∅ 0)
      ⊢ iprop(((owes (c : Thread nD τ) (oweB c) (insert (sem (.sk i), ()) W) ∗ semVal (cell c (.sk i)) 0 ∗ payOf KS VS SN c (.sk i))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 s (blk rkM i) (blk skM i) hs hd) cont) Q) := by
  iintro ⟨#HI, #Hl, Hc, HO, Ha⟩
  iapply (step_wait KS VS SN K c (.sk i) (fun P => (wpE_waitDma2_eq (src := blk rkM i) (dst := blk skM i) 𝒱₀ (c : Thread nD τ) none Set.univ P).trans (by rw [hs', credit_sk]; rfl)) (O := oweB c) (W := W))
  isplitr; · iexact HI
  isplitl [Hc]; · iexact Hc
  isplitl [HO]; · iexact HO
  isplitr
  · iapply (mayWait c (.sk i) _ ?_)
    rotate_left
    · iexact Hl
    · exact cutB c 0 (by omega)
  iexact Ha

/-- The wait for the arrival of block `i` of k. -/
theorem wait_rk {α : Type} {Q : α → sProp 𝕄} (i : Fin 4) {s : DmaSem sig} (hs' : SemLoc.dma s = sem (.rk i)) {hs : (blk skM i).view.WordExact} {hd : (blk rkM i).view.WordExact}
    {cont : PUnit → Prog (TpuEff nD τ sig (Elt F) Λ₀ .tc) α} {W : Waits sig Unit} :
    iprop(invs KS VS SN K ∗ levAts L lv ∗ cred (tallyAt (cell c (.rk i)) () N1) ∗ owes (c : Thread nD τ) (oweB c) W ∗ atPos ER (cell c (.rk i)) 0 ∅ 0)
      ⊢ iprop(((owes (c : Thread nD τ) (oweB c) (insert (sem (.rk i), ()) W) ∗ semVal (cell c (.rk i)) 0 ∗ payOf KS VS SN c (.rk i))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 s (blk skM i) (blk rkM i) hs hd) cont) Q) := by
  iintro ⟨#HI, #Hl, Hc, HO, Ha⟩
  iapply (step_wait KS VS SN K c (.rk i) (fun P => (wpE_waitDma2_eq (src := blk skM i) (dst := blk rkM i) 𝒱₀ (c : Thread nD τ) none Set.univ P).trans (by rw [hs', credit_rk]; rfl)) (O := oweB c) (W := W))
  isplitr; · iexact HI
  isplitl [Hc]; · iexact Hc
  isplitl [HO]; · iexact HO
  isplitr
  · iapply (mayWait c (.rk i) _ ?_)
    rotate_left
    · iexact Hl
    · exact cutB c 2 (by omega)
  iexact Ha

/-- The wait for the sending of block `i` of v. -/
theorem wait_sv {α : Type} {Q : α → sProp 𝕄} (i : Fin 4) {s : DmaSem sig} (hs' : SemLoc.dma s = sem (.sv i)) {hs : (blk rvM i).view.WordExact} {hd : (blk svM i).view.WordExact}
    {cont : PUnit → Prog (TpuEff nD τ sig (Elt F) Λ₀ .tc) α} {W : Waits sig Unit} :
    iprop(invs KS VS SN K ∗ levAts L lv ∗ cred (tallyAt (cell c (.sv i)) () N1) ∗ owes (c : Thread nD τ) (oweB c) W ∗ atPos ER (cell c (.sv i)) 0 ∅ 0)
      ⊢ iprop(((owes (c : Thread nD τ) (oweB c) (insert (sem (.sv i), ()) W) ∗ semVal (cell c (.sv i)) 0 ∗ payOf KS VS SN c (.sv i))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 s (blk rvM i) (blk svM i) hs hd) cont) Q) := by
  iintro ⟨#HI, #Hl, Hc, HO, Ha⟩
  iapply (step_wait KS VS SN K c (.sv i) (fun P => (wpE_waitDma2_eq (src := blk rvM i) (dst := blk svM i) 𝒱₀ (c : Thread nD τ) none Set.univ P).trans (by rw [hs', credit_sv]; rfl)) (O := oweB c) (W := W))
  isplitr; · iexact HI
  isplitl [Hc]; · iexact Hc
  isplitl [HO]; · iexact HO
  isplitr
  · iapply (mayWait c (.sv i) _ ?_)
    rotate_left
    · iexact Hl
    · exact cutB c 0 (by omega)
  iexact Ha

/-- The wait for the arrival of block `i` of v. -/
theorem wait_rv {α : Type} {Q : α → sProp 𝕄} (i : Fin 4) {s : DmaSem sig} (hs' : SemLoc.dma s = sem (.rv i)) {hs : (blk svM i).view.WordExact} {hd : (blk rvM i).view.WordExact}
    {cont : PUnit → Prog (TpuEff nD τ sig (Elt F) Λ₀ .tc) α} {W : Waits sig Unit} :
    iprop(invs KS VS SN K ∗ levAts L lv ∗ cred (tallyAt (cell c (.rv i)) () N1) ∗ owes (c : Thread nD τ) (oweB c) W ∗ atPos ER (cell c (.rv i)) 0 ∅ 0)
      ⊢ iprop(((owes (c : Thread nD τ) (oweB c) (insert (sem (.rv i), ()) W) ∗ semVal (cell c (.rv i)) 0 ∗ payOf KS VS SN c (.rv i))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 s (blk svM i) (blk rvM i) hs hd) cont) Q) := by
  iintro ⟨#HI, #Hl, Hc, HO, Ha⟩
  iapply (step_wait KS VS SN K c (.rv i) (fun P => (wpE_waitDma2_eq (src := blk svM i) (dst := blk rvM i) 𝒱₀ (c : Thread nD τ) none Set.univ P).trans (by rw [hs', credit_rv]; rfl)) (O := oweB c) (W := W))
  isplitr; · iexact HI
  isplitl [Hc]; · iexact Hc
  isplitl [HO]; · iexact HO
  isplitr
  · iapply (mayWait c (.rv i) _ ?_)
    rotate_left
    · iexact Hl
    · exact cutB c 2 (by omega)
  iexact Ha

variable (arg2 : Memref sig .tc .vmem S1024x128 .f32) (harg2 : arg2.IsWhole) (arg3 : Memref sig .tc .vmem S128x2048 .f32) (harg3 : arg3.IsWhole)
    (arg4 : Memref sig .tc .vmem S128x2048 .f32) (harg4 : arg4.IsWhole) (arg5 : Memref sig .tc .vmem S1024x4096 .f32) (harg5 : arg5.IsWhole)
    (arg6 : Memref sig .tc .vmem S4096x256 .f32) (harg6 : arg6.IsWhole) (arg7 : Memref sig .tc .vmem S1024x2048 .f32) (harg7 : arg7.IsWhole)
    (arg8 : Memref sig .tc .vmem S1024x2048 .f32) (harg8 : arg8.IsWhole) (arg9 : Memref sig .tc .vmem S1024x256 .f32) (harg9 : arg9.IsWhole)
    (X0 : S1024x128.Idx → Elt F .f32) (X1 X2 : S128x2048.Idx → Elt F .f32) (X3 : S1024x4096.Idx → Elt F .f32) (X4 : S4096x256.Idx → Elt F .f32)
    (X5 X6 : S1024x2048.Idx → Elt F .f32) (X7 : S1024x256.Idx → Elt F .f32)

set_option maxHeartbeats 1600000 in
/-- The last point: all copies are waited for, the partner's blocks are added to k and v, and the last block of the queries is computed. -/
theorem run1_last (i : grid1.Coords) (h1 : ¬ k1_cond1 i = 1#1) (h2 : k1_cond2 i = 1#1) :
    iprop(bufs1 c arg2 arg3 arg4 arg5 arg6 arg7 arg8 arg9 X0 X1 X2 X3 X4 X5 X6 X7
        ∗ invs KS VS SN K ∗ levAts L lv ∗ fly1 c 0 ∗ fly1 c 1 ∗ fly1 c 2 ∗ fly1 c 3 ∗ ∃ W, owes (c : Thread nD τ) (oweB c) W)
      ⊢ wp frame (wpE (defs₀ (F := F)) 𝒱₀ (c : Thread nD τ) none) Set.univ (body1 i arg2 harg2 arg3 harg3 arg4 harg4 arg5 harg5 arg6 harg6 arg7 harg7 arg8 harg8 arg9 harg9)
          (fun _ => iprop(bufs1 c arg2 arg3 arg4 arg5 arg6 arg7 arg8 arg9 X0 X1 X2 X3 X4 (plus X5 (KS (px c))) (plus X6 (VS (px c))) (Gen.k1_pay1 X3 X4)
              ∗ done1 c 0 ∗ done1 c 1 ∗ done1 c 2 ∗ done1 c 3
              ∗ (∃ f, pt c cc1_scratch0 f) ∗ (∃ f, pt c cc1_scratch1 f) ∗ (∃ f, pt c cc1_scratch2 f) ∗ (∃ f, pt c cc1_scratch3 f)
              ∗ ∃ W, owes (c : Thread nD τ) (oweB c) W)) := by
  unfold bufs1 owns fly1 done1
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, -, H7⟩⟩, #HI, #Hlev,
    ⟨⟨Aks0, Cks0, Akr0, Ckr0⟩, ⟨Avs0, Cvs0, Avr0, Cvr0⟩⟩, ⟨⟨Aks1, Cks1, Akr1, Ckr1⟩, ⟨Avs1, Cvs1, Avr1, Cvr1⟩⟩, ⟨⟨Aks2, Cks2, Akr2, Ckr2⟩, ⟨Avs2, Cvs2, Avr2, Cvr2⟩⟩, ⟨⟨Aks3, Cks3, Akr3, Ckr3⟩, ⟨Avs3, Cvs3, Avr3, Cvr3⟩⟩, ⟨%W, HO⟩⟩
  unfold body1
  rw [Gen.cc1__proj_body_eq_skeleton]
  unfold Gen.cc1__proj_body_skel
  simp only [dif_neg h1, dif_pos h2, wp_deviceId, Gen.k1_part6_eq_skeleton, Gen.k1_part7_eq_skeleton, Gen.k1_part8_eq_skeleton, Gen.k1_part9_eq_skeleton,
    Gen.k1_part10_eq_skeleton, Gen.k1_part11_eq_skeleton, Gen.k1_part12_eq_skeleton]
  unfold Gen.k1_part6_skel Gen.k1_part7_skel Gen.k1_part8_skel Gen.k1_part9_skel Gen.k1_part10_skel Gen.k1_part11_skel Gen.k1_part12_skel
  sl_exec
  iapply (wait_sk KS VS SN K c 0 rfl) $$ [Cks0 HO Aks0]
  · isplitr; · iexact HI
    isplitr; · iexact Hlev
    isplitl [Cks0]; · iexact Cks0
    isplitl [HO]; · iexact HO
    iexact Aks0
  iintro ⟨HO, Zks0, Pks0⟩
  iapply (wait_rk KS VS SN K c 0 rfl) $$ [Ckr0 HO Akr0]
  · isplitr; · iexact HI
    isplitr; · iexact Hlev
    isplitl [Ckr0]; · iexact Ckr0
    isplitl [HO]; · iexact HO
    iexact Akr0
  iintro ⟨HO, Zkr0, Pkr0⟩
  iapply (wait_sv KS VS SN K c 0 rfl) $$ [Cvs0 HO Avs0]
  · isplitr; · iexact HI
    isplitr; · iexact Hlev
    isplitl [Cvs0]; · iexact Cvs0
    isplitl [HO]; · iexact HO
    iexact Avs0
  iintro ⟨HO, Zvs0, Pvs0⟩
  iapply (wait_rv KS VS SN K c 0 rfl) $$ [Cvr0 HO Avr0]
  · isplitr; · iexact HI
    isplitr; · iexact Hlev
    isplitl [Cvr0]; · iexact Cvr0
    isplitl [HO]; · iexact HO
    iexact Avr0
  iintro ⟨HO, Zvr0, Pvr0⟩
  iapply (wait_sk KS VS SN K c 1 rfl) $$ [Cks1 HO Aks1]
  · isplitr; · iexact HI
    isplitr; · iexact Hlev
    isplitl [Cks1]; · iexact Cks1
    isplitl [HO]; · iexact HO
    iexact Aks1
  iintro ⟨HO, Zks1, Pks1⟩
  iapply (wait_rk KS VS SN K c 1 rfl) $$ [Ckr1 HO Akr1]
  · isplitr; · iexact HI
    isplitr; · iexact Hlev
    isplitl [Ckr1]; · iexact Ckr1
    isplitl [HO]; · iexact HO
    iexact Akr1
  iintro ⟨HO, Zkr1, Pkr1⟩
  iapply (wait_sv KS VS SN K c 1 rfl) $$ [Cvs1 HO Avs1]
  · isplitr; · iexact HI
    isplitr; · iexact Hlev
    isplitl [Cvs1]; · iexact Cvs1
    isplitl [HO]; · iexact HO
    iexact Avs1
  iintro ⟨HO, Zvs1, Pvs1⟩
  iapply (wait_rv KS VS SN K c 1 rfl) $$ [Cvr1 HO Avr1]
  · isplitr; · iexact HI
    isplitr; · iexact Hlev
    isplitl [Cvr1]; · iexact Cvr1
    isplitl [HO]; · iexact HO
    iexact Avr1
  iintro ⟨HO, Zvr1, Pvr1⟩
  iapply (wait_sk KS VS SN K c 2 rfl) $$ [Cks2 HO Aks2]
  · isplitr; · iexact HI
    isplitr; · iexact Hlev
    isplitl [Cks2]; · iexact Cks2
    isplitl [HO]; · iexact HO
    iexact Aks2
  iintro ⟨HO, Zks2, Pks2⟩
  iapply (wait_rk KS VS SN K c 2 rfl) $$ [Ckr2 HO Akr2]
  · isplitr; · iexact HI
    isplitr; · iexact Hlev
    isplitl [Ckr2]; · iexact Ckr2
    isplitl [HO]; · iexact HO
    iexact Akr2
  iintro ⟨HO, Zkr2, Pkr2⟩
  iapply (wait_sv KS VS SN K c 2 rfl) $$ [Cvs2 HO Avs2]
  · isplitr; · iexact HI
    isplitr; · iexact Hlev
    isplitl [Cvs2]; · iexact Cvs2
    isplitl [HO]; · iexact HO
    iexact Avs2
  iintro ⟨HO, Zvs2, Pvs2⟩
  iapply (wait_rv KS VS SN K c 2 rfl) $$ [Cvr2 HO Avr2]
  · isplitr; · iexact HI
    isplitr; · iexact Hlev
    isplitl [Cvr2]; · iexact Cvr2
    isplitl [HO]; · iexact HO
    iexact Avr2
  iintro ⟨HO, Zvr2, Pvr2⟩
  iapply (wait_sk KS VS SN K c 3 rfl) $$ [Cks3 HO Aks3]
  · isplitr; · iexact HI
    isplitr; · iexact Hlev
    isplitl [Cks3]; · iexact Cks3
    isplitl [HO]; · iexact HO
    iexact Aks3
  iintro ⟨HO, Zks3, Pks3⟩
  iapply (wait_rk KS VS SN K c 3 rfl) $$ [Ckr3 HO Akr3]
  · isplitr; · iexact HI
    isplitr; · iexact Hlev
    isplitl [Ckr3]; · iexact Ckr3
    isplitl [HO]; · iexact HO
    iexact Akr3
  iintro ⟨HO, Zkr3, Pkr3⟩
  iapply (wait_sv KS VS SN K c 3 rfl) $$ [Cvs3 HO Avs3]
  · isplitr; · iexact HI
    isplitr; · iexact Hlev
    isplitl [Cvs3]; · iexact Cvs3
    isplitl [HO]; · iexact HO
    iexact Avs3
  iintro ⟨HO, Zvs3, Pvs3⟩
  iapply (wait_rv KS VS SN K c 3 rfl) $$ [Cvr3 HO Avr3]
  · isplitr; · iexact HI
    isplitr; · iexact Hlev
    isplitl [Cvr3]; · iexact Cvr3
    isplitl [HO]; · iexact HO
    iexact Avr3
  iintro ⟨HO, Zvr3, Pvr3⟩
  ihave Pks := (Entails.of_eq (show iprop(payOf KS VS SN c (.sk 0) ∗ payOf KS VS SN c (.sk 1) ∗ payOf KS VS SN c (.sk 2) ∗ payOf KS VS SN c (.sk 3))
      = (skM.view.loc (c : Thread nD τ) ↦{fullShare} KS c : sProp 𝕄) from (sk_split c _).symm)) $$ [Pks0 Pks1 Pks2 Pks3]
  · isplitl [Pks0]; · iexact Pks0
    isplitl [Pks1]; · iexact Pks1
    isplitl [Pks2]; · iexact Pks2
    iexact Pks3
  ihave Pkr := (Entails.of_eq (show iprop(payOf KS VS SN c (.rk 0) ∗ payOf KS VS SN c (.rk 1) ∗ payOf KS VS SN c (.rk 2) ∗ payOf KS VS SN c (.rk 3))
      = (rkM.view.loc (c : Thread nD τ) ↦{fullShare} KS (px c) : sProp 𝕄) from (rk_split c _).symm)) $$ [Pkr0 Pkr1 Pkr2 Pkr3]
  · isplitl [Pkr0]; · iexact Pkr0
    isplitl [Pkr1]; · iexact Pkr1
    isplitl [Pkr2]; · iexact Pkr2
    iexact Pkr3
  ihave Pvs := (Entails.of_eq (show iprop(payOf KS VS SN c (.sv 0) ∗ payOf KS VS SN c (.sv 1) ∗ payOf KS VS SN c (.sv 2) ∗ payOf KS VS SN c (.sv 3))
      = (svM.view.loc (c : Thread nD τ) ↦{fullShare} VS c : sProp 𝕄) from (sv_split c _).symm)) $$ [Pvs0 Pvs1 Pvs2 Pvs3]
  · isplitl [Pvs0]; · iexact Pvs0
    isplitl [Pvs1]; · iexact Pvs1
    isplitl [Pvs2]; · iexact Pvs2
    iexact Pvs3
  ihave Pvr := (Entails.of_eq (show iprop(payOf KS VS SN c (.rv 0) ∗ payOf KS VS SN c (.rv 1) ∗ payOf KS VS SN c (.rv 2) ∗ payOf KS VS SN c (.rv 3))
      = (rvM.view.loc (c : Thread nD τ) ↦{fullShare} VS (px c) : sProp 𝕄) from (rv_split c _).symm)) $$ [Pvr0 Pvr1 Pvr2 Pvr3]
  · isplitl [Pvr0]; · iexact Pvr0
    isplitl [Pvr1]; · iexact Pvr1
    isplitl [Pvr2]; · iexact Pvr2
    iexact Pvr3
  beta_reduce
  rw [ret_bind, as_bind]
  sl_exec
  sl_step
  isplitl [H0 H1 H2 H3 H4 H5 H6 H7]
  · isplitl [H0]; · iapply (own_back c arg2 f0 X0 e0); iexact H0
    isplitl [H1]; · iapply (own_back c arg3 f1 X1 e1); iexact H1
    isplitl [H2]; · iapply (own_back c arg4 f2 X2 e2); iexact H2
    isplitl [H3]; · iapply (own_back c arg5 f3 X3 e3); iexact H3
    isplitl [H4]; · iapply (own_back c arg6 f4 X4 e4); iexact H4
    isplitl [H5]
    · iapply (own_back c arg7 _ _ ?_)
      rotate_left
      · iexact H5
      · unfold run1_last.sl.v161 run1_last.sl.v175 run1_last.sl.v189
        subst e5
        exact added arg7.view f5 rkM.view (KS (px c)) (KS (px c)) (View.read_whole _ _) _ _ _ _ _ _ _ _
    isplitl [H6]
    · iapply (own_back c arg8 _ _ ?_)
      rotate_left
      · iexact H6
      · unfold run1_last.sl.v168 run1_last.sl.v182 run1_last.sl.v196
        subst e6
        exact added arg8.view f6 rvM.view (VS (px c)) (VS (px c)) (View.read_whole _ _) _ _ _ _ _ _ _ _
    iapply (own_back c arg9 _ _ ?_)
    rotate_left
    · iexact H7
    · rw [read_store _ _ off2, load2, load2, e3, e4]
  isplitl [Zks0 Zkr0 Zvs0 Zvr0]
  · isplitl [Zks0]; · iexact Zks0
    isplitl [Zkr0]; · iexact Zkr0
    isplitl [Zvs0]; · iexact Zvs0
    iexact Zvr0
  isplitl [Zks1 Zkr1 Zvs1 Zvr1]
  · isplitl [Zks1]; · iexact Zks1
    isplitl [Zkr1]; · iexact Zkr1
    isplitl [Zvs1]; · iexact Zvs1
    iexact Zvr1
  isplitl [Zks2 Zkr2 Zvs2 Zvr2]
  · isplitl [Zks2]; · iexact Zks2
    isplitl [Zkr2]; · iexact Zkr2
    isplitl [Zvs2]; · iexact Zvs2
    iexact Zvr2
  isplitl [Zks3 Zkr3 Zvs3 Zvr3]
  · isplitl [Zks3]; · iexact Zks3
    isplitl [Zkr3]; · iexact Zkr3
    isplitl [Zvs3]; · iexact Zvs3
    iexact Zvr3
  isplitl [Pks]; · iexists _; iexact Pks
  isplitl [Pvs]; · iexists _; iexact Pvs
  isplitl [Pkr]; · iexists _; iexact Pkr
  isplitl [Pvr]; · iexists _; iexact Pvr
  iexists _; iexact HO

end Cert.KernelIdeal
-- ==== Proof.ProjData.lean ====
/- Proof data of the projection call, and what its body does at every point. -/
module

public import proofs.«01_k».proof.Proof.OutData
public import proofs.«01_k».proof.Proof.ProjLast

@[expose] public section

noncomputable section

namespace Cert.KernelIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat Cfg BodyObligationLoose arrRef prefHeld scopedRest scopedRestBut)
open Idealize.ShloMosaic.Rounds
open Facts₀ Facts

variable {F : FTy → Type} [FloatOps F]

local notation "𝕄" => MT nD τ sig Unit (Elt F) ℕ UU ℕ

theorem flush_1_5 (c : Dev nD) (t : Fin (cfgAt (F := F) c 1).N) : ((cfgAt (F := F) c 1).win (5 : Fin 8)).flush t = decide (t.val + 1 = 8) :=
  (flush_const _ rfl (fun _ _ => rfl) t).trans (decide_eq_decide.mpr (by have h : (cfgAt (F := F) c 1).grid.N = 8 := Gen.N_1; omega))
theorem flush_1_6 (c : Dev nD) (t : Fin (cfgAt (F := F) c 1).N) : ((cfgAt (F := F) c 1).win (6 : Fin 8)).flush t = decide (t.val + 1 = 8) :=
  (flush_const _ rfl (fun _ _ => rfl) t).trans (decide_eq_decide.mpr (by have h : (cfgAt (F := F) c 1).grid.N = 8 := Gen.N_1; omega))

theorem conds1 : ∀ t : Fin grid1.N, (k1_cond1 (grid1.coords t) = 1#1 ↔ t.val = 0) ∧ (k1_cond2 (grid1.coords t) = 1#1 ↔ t.val = 7) := by decide
theorem idle_1_5 : ∀ t : Fin grid1.N, idle1 5 (grid1.coords t) = decide (t.val ≠ 0 ∧ t.val ≠ 7) := by decide
theorem idle_1_6 : ∀ t : Fin grid1.N, idle1 6 (grid1.coords t) = decide (t.val ≠ 0 ∧ t.val ≠ 7) := by decide

/-- A window the body leaves alone at a point that does not write it back is left as found. -/
theorem left_idle {cfg : Cfg sig Λ₀} {c : Dev nD} (dat : Dat τ (Elt F) Unit ℕ UU ℕ cfg c) (w : Fin cfg.W) (t : Fin cfg.N)
    (hi : cfg.idle w (cfg.grid.coords t) = true) (hf : (cfg.win w).flush t = false) :
    iprop(∃ d, owns (c : Thread nD τ) ((cfg.win w).stage (cfg.slots t w)) fullShare (dat.before w t d) : sProp 𝕄) ⊢
      match cfg.idle w (cfg.grid.coords t) with
      | true =>
        match (cfg.win w).flush t with
        | false => iprop(∃ d, owns c ((cfg.win w).stage (cfg.slots t w)) fullShare (dat.before w t d))
        | true =>
          match cfg.loose w with
          | true => iprop(∃ d, owns c ((cfg.win w).stage (cfg.slots t w)) fullShare ((cfg.win w).fill (cfg.grid.coords t) d ((cfg.win w).cut (cfg.grid.coords t) (dat.after w t))))
          | false => owns c ((cfg.win w).stage (cfg.slots t w)) fullShare (dat.after w t)
      | false =>
        match cfg.loose w with
        | true => iprop(∃ d, owns c ((cfg.win w).stage (cfg.slots t w)) fullShare ((cfg.win w).fill (cfg.grid.coords t) d ((cfg.win w).cut (cfg.grid.coords t) (dat.after w t))))
        | false => owns c ((cfg.win w).stage (cfg.slots t w)) fullShare (dat.after w t) := by
  rw [hi, hf]

/-- The first point. -/
def p1 (c : Dev nD) : Fin (cfgAt (F := F) c 1).N := ⟨0, by rw [show (cfgAt (F := F) c 1).N = 8 from Gen.N_1]; decide⟩

/-- The device's partial k and v. -/
def kOf (c : Dev nD) (V : Valuation τ sig (Elt F)) : FVec F S1024x2048 .f32 := Gen.k1_pay2 (blkOf 1 c V (0 : Fin 8) (p1 c)) (blkOf 1 c V (1 : Fin 8) (p1 c))
def vOf (c : Dev nD) (V : Valuation τ sig (Elt F)) : FVec F S1024x2048 .f32 := Gen.k1_pay3 (blkOf 1 c V (0 : Fin 8) (p1 c)) (blkOf 1 c V (2 : Fin 8) (p1 c))

variable (KS VS : Dev nD → C4 F) (SN : Dev nD → C5 F)

/-- Before the first point. -/
def start1 (c : Dev nD) : sProp 𝕄 :=
  iprop((∃ K, invs KS VS SN K) ∗ levAts L lv ∗ bars ∗ reach0 c ∗ reachS c 0 ∗ reachS c 1 ∗ reachS c 2 ∗ reachS c 3 ∗ own1 c
    ∗ prefHeld (pcfgs (F := F) 1).pre c (fun _ => fullShare) (adm (F := F) c 1).1 ∗ scopedRest (pcfgs (F := F) 1).spec c)

/-- While the transfers are under way. -/
def mid1 (c : Dev nD) : sProp 𝕄 :=
  iprop((∃ K, invs KS VS SN K) ∗ levAts L lv ∗ semVal (cell c .bar0) 0 ∗ fly1 c 0 ∗ fly1 c 1 ∗ fly1 c 2 ∗ fly1 c 3
    ∗ prefHeld (pcfgs (F := F) 1).pre c (fun _ => fullShare) (adm (F := F) c 1).1
    ∗ scopedRestBut (pcfgs (F := F) 1).spec c [cc1_scratch0, cc1_scratch1, cc1_scratch2, cc1_scratch3])

/-- After the last point. -/
def end1 (c : Dev nD) : sProp 𝕄 :=
  iprop((semVal (cell c .bar0) 0 ∗ done1 c 0 ∗ done1 c 1 ∗ done1 c 2 ∗ done1 c 3)
    ∗ prefHeld (pcfgs (F := F) 1).pre c (fun _ => fullShare) (adm (F := F) c 1).1 ∗ scopedRest (pcfgs (F := F) 1).spec c)

/-- The data of the projection call: every point leaves a block of the queries; the first makes the partial k and v and sends
    them, the last adds the partner's. -/
def dat1 (c : Dev nD) (V : Valuation τ sig (Elt F)) : Dat τ (Elt F) Unit ℕ UU ℕ (cfgAt (F := F) c 1) c where
  A w := V (Proc.devRef .tc (arrRef (pcfgs (F := F) 1).spec w))
  after := fun
    | ⟨0, _⟩, t => blkOf 1 c V (0 : Fin 8) t
    | ⟨1, _⟩, t => blkOf 1 c V (1 : Fin 8) t
    | ⟨2, _⟩, t => blkOf 1 c V (2 : Fin 8) t
    | ⟨3, _⟩, t => blkOf 1 c V (3 : Fin 8) t
    | ⟨4, _⟩, t => blkOf 1 c V (4 : Fin 8) t
    | ⟨5, _⟩, t => if t.val = 7 then plus (kOf c V) (KS (px c)) else kOf c V
    | ⟨6, _⟩, t => if t.val = 7 then plus (vOf c V) (VS (px c)) else vOf c V
    | ⟨7, _⟩, t => Gen.k1_pay1 (blkOf 1 c V (3 : Fin 8) t) (blkOf 1 c V (4 : Fin 8) t)
  Φ t := if t.val = 0 then start1 KS VS SN c else if t.val = 8 then end1 c else mid1 KS VS SN c
  q _ := fullShare
  owed t := if t.val = 0 then oweT c else oweB c

theorem phi1_mid (c : Dev nD) (V : Valuation τ sig (Elt F)) (t : Fin ((cfgAt (F := F) c 1).N + 1)) (h0 : t.val ≠ 0) (h8 : t.val ≠ 8) : (dat1 KS VS SN c V).Φ t = mid1 KS VS SN c :=
  (if_neg h0).trans (if_neg h8)
theorem phi1_end (c : Dev nD) (V : Valuation τ sig (Elt F)) (t : Fin ((cfgAt (F := F) c 1).N + 1)) (h0 : t.val ≠ 0) (h8 : t.val = 8) : (dat1 KS VS SN c V).Φ t = end1 c :=
  (if_neg h0).trans (if_pos h8)
theorem owed1_later (c : Dev nD) (V : Valuation τ sig (Elt F)) (t : Fin ((cfgAt (F := F) c 1).N + 1)) (h0 : t.val ≠ 0) : (dat1 KS VS SN c V).owed t = oweB c := if_neg h0

theorem before1_5 (c : Dev nD) (V : Valuation τ sig (Elt F)) (t : Fin (cfgAt (F := F) c 1).N) (ht : t.val ≠ 0) (d : S1024x2048.Idx → Elt F .f32) :
    (dat1 KS VS SN c V).before (5 : Fin 8) t d = kOf c V := by
  have hN : (cfgAt (F := F) c 1).N = 8 := Gen.N_1
  have h8 : t.val < 8 := lt_of_lt_of_eq t.isLt hN
  refine ((dat1 KS VS SN c V).before_out_traj (5 : Fin 8) rfl (fun _ _ => rfl) (fun t ht hi _ => ?_) t.val t rfl d).trans ?_
  · have hi' : ¬ t.val = 7 := fun h => by
      have := (idle_1_5 t).symm.trans hi
      simp only [decide_eq_true_eq] at this; exact this.2 h
    have h8 : t.val < 8 := lt_of_lt_of_eq t.isLt hN
    exact (if_neg hi').trans (if_neg (by show ¬ t.val - 1 = 7; omega)).symm
  · rw [fresh_const (cfg := cfgAt (F := F) c 1) (5 : Fin 8) (fun t h => (flush_1_5 c t).trans (decide_eq_false (by omega)))
      (fun t h => (idle_1_5 t).trans (decide_eq_false (fun h' => h'.1 h))) t.val (Nat.pos_of_ne_zero ht) t.isLt]
    exact (if_neg Bool.false_ne_true).trans (if_neg (by show ¬ t.val - 1 = 7; omega))

theorem before1_6 (c : Dev nD) (V : Valuation τ sig (Elt F)) (t : Fin (cfgAt (F := F) c 1).N) (ht : t.val ≠ 0) (d : S1024x2048.Idx → Elt F .f32) :
    (dat1 KS VS SN c V).before (6 : Fin 8) t d = vOf c V := by
  have hN : (cfgAt (F := F) c 1).N = 8 := Gen.N_1
  have h8 : t.val < 8 := lt_of_lt_of_eq t.isLt hN
  refine ((dat1 KS VS SN c V).before_out_traj (6 : Fin 8) rfl (fun _ _ => rfl) (fun t ht hi _ => ?_) t.val t rfl d).trans ?_
  · have hi' : ¬ t.val = 7 := fun h => by
      have := (idle_1_6 t).symm.trans hi
      simp only [decide_eq_true_eq] at this; exact this.2 h
    have h8 : t.val < 8 := lt_of_lt_of_eq t.isLt hN
    exact (if_neg hi').trans (if_neg (by show ¬ t.val - 1 = 7; omega)).symm
  · rw [fresh_const (cfg := cfgAt (F := F) c 1) (6 : Fin 8) (fun t h => (flush_1_6 c t).trans (decide_eq_false (by omega)))
      (fun t h => (idle_1_6 t).trans (decide_eq_false (fun h' => h'.1 h))) t.val (Nat.pos_of_ne_zero ht) t.isLt]
    exact (if_neg Bool.false_ne_true).trans (if_neg (by show ¬ t.val - 1 = 7; omega))

/-- Its body does at every point what the data say. -/
theorem body_1 (c : Dev nD) (V : Valuation τ sig (Elt F)) (hKS : KS c = halfOf (kOf c V)) (hVS : VS c = halfOf (vOf c V)) :
    BodyObligationLoose (dat1 KS VS SN c V) (defs₀ (F := F)) 𝒱₀ () Set.univ := fun t => by
  have h8 : t.val < 8 := lt_of_lt_of_eq t.isLt Gen.N_1
  have b0 : ∀ d, (dat1 KS VS SN c V).before (0 : Fin 8) t d = blkOf 1 c V (0 : Fin 8) t :=
    (dat1 KS VS SN c V).before_in_eq_fetched (0 : Fin 8) rfl (fun _ => rfl) (fun _ _ _ => rfl) (fun _ => rfl) t
  have b1 : ∀ d, (dat1 KS VS SN c V).before (1 : Fin 8) t d = blkOf 1 c V (1 : Fin 8) t :=
    (dat1 KS VS SN c V).before_in_eq_fetched (1 : Fin 8) rfl (fun _ => rfl) (fun _ _ _ => rfl) (fun _ => rfl) t
  have b2 : ∀ d, (dat1 KS VS SN c V).before (2 : Fin 8) t d = blkOf 1 c V (2 : Fin 8) t :=
    (dat1 KS VS SN c V).before_in_eq_fetched (2 : Fin 8) rfl (fun _ => rfl) (fun _ _ _ => rfl) (fun _ => rfl) t
  have b3 : ∀ d, (dat1 KS VS SN c V).before (3 : Fin 8) t d = blkOf 1 c V (3 : Fin 8) t :=
    (dat1 KS VS SN c V).before_in_eq_fetched (3 : Fin 8) rfl (fun _ => rfl) (fun _ _ _ => rfl) (fun _ => rfl) t
  have b4 : ∀ d, (dat1 KS VS SN c V).before (4 : Fin 8) t d = blkOf 1 c V (4 : Fin 8) t :=
    (dat1 KS VS SN c V).before_in_eq_fetched (4 : Fin 8) rfl (fun _ => rfl) (fun _ _ _ => rfl) (fun _ => rfl) t
  obtain ⟨k1, k2⟩ := conds1 t
  rw [Gen.bigSep_W1, Gen.bigSep_W1]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (Entails.of_eq (congrArg (fun X => (owns (c : Thread nD τ) _ fullShare X : sProp 𝕄)) (b0 d0))) $$ H0
  ihave H1 := (Entails.of_eq (congrArg (fun X => (owns (c : Thread nD τ) _ fullShare X : sProp 𝕄)) (b1 d1))) $$ H1
  ihave H2 := (Entails.of_eq (congrArg (fun X => (owns (c : Thread nD τ) _ fullShare X : sProp 𝕄)) (b2 d2))) $$ H2
  ihave H3 := (Entails.of_eq (congrArg (fun X => (owns (c : Thread nD τ) _ fullShare X : sProp 𝕄)) (b3 d3))) $$ H3
  ihave H4 := (Entails.of_eq (congrArg (fun X => (owns (c : Thread nD τ) _ fullShare X : sProp 𝕄)) (b4 d4))) $$ H4
  by_cases h0 : t.val = 0
  · have et : t = p1 c := Fin.ext h0
    have ek : kOf c V = Gen.k1_pay2 (blkOf 1 c V (0 : Fin 8) t) (blkOf 1 c V (1 : Fin 8) t) := by rw [et]; rfl
    have ev : vOf c V = Gen.k1_pay3 (blkOf 1 c V (0 : Fin 8) t) (blkOf 1 c V (2 : Fin 8) t) := by rw [et]; rfl
    ihave HΦ := (Entails.of_eq (show (dat1 KS VS SN c V).Φ t.castSucc = start1 KS VS SN c from if_pos h0)) $$ HΦ
    ihave HO := (owesAt_out (dat1 KS VS SN c V) t.castSucc (O := oweT c) (if_pos h0)) $$ HO
    unfold start1
    icases HΦ with ⟨⟨%K, #HI⟩, #Hlev, Hbar, Hre, Hr0, Hr1, Hr2, Hr3, Hown, Hpre, Hsc⟩
    ihave Hsc := (Entails.of_eq (Gen.scopedRest1_split c)) $$ Hsc
    icases Hsc with ⟨⟨Hs0, Hs1, Hs2, Hs3⟩, Hrest⟩
    iapply (run_then (run1_first KS VS SN K c _ (Gen.stage_whole1 0 _) _ (Gen.stage_whole1 1 _) _ (Gen.stage_whole1 2 _) _ (Gen.stage_whole1 3 _) _ (Gen.stage_whole1 4 _) _ (Gen.stage_whole1 5 _) _ (Gen.stage_whole1 6 _) _ (Gen.stage_whole1 7 _) _ _ _ _ _ _ _ _ (grid1.coords t)
      (k1.mpr h0) (fun h => by have := k2.mp h; omega) (hKS.trans (congrArg halfOf ek)) (hVS.trans (congrArg halfOf ev))))
    isplitl [H0 H1 H2 H3 H4 H5 H6 H7 Hbar Hre Hr0 Hr1 Hr2 Hr3 Hown Hs0 Hs1 Hs2 Hs3 HO]
    · isplitl [H0 H1 H2 H3 H4 H5 H6 H7]
      · unfold bufs1
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitr; · iexact HI
      isplitr; · iexact Hlev
      isplitl [Hbar]; · iexact Hbar
      isplitl [Hre]; · iexact Hre
      isplitl [Hr0]; · iexact Hr0
      isplitl [Hr1]; · iexact Hr1
      isplitl [Hr2]; · iexact Hr2
      isplitl [Hr3]; · iexact Hr3
      isplitl [Hown]; · iexact Hown
      isplitl [Hs0]; · iexact Hs0
      isplitl [Hs1]; · iexact Hs1
      isplitl [Hs2]; · iexact Hs2
      isplitl [Hs3]; · iexact Hs3
      iexact HO
    unfold bufs1
    iintro ⟨⟨H0, H1, H2, H3, H4, H5, H6, H7⟩, Hb, Hf0, Hf1, Hf2, Hf3, HO⟩
    isplitl [Hb Hf0 Hf1 Hf2 Hf3 Hpre Hrest]
    · iapply (Entails.of_eq (phi1_mid KS VS SN c V t.succ (Nat.succ_ne_zero _) (by show ¬ t.val + 1 = 8; omega)).symm)
      unfold mid1
      isplitr; · iexists K; iexact HI
      isplitr; · iexact Hlev
      isplitl [Hb]; · iexact Hb
      isplitl [Hf0]; · iexact Hf0
      isplitl [Hf1]; · iexact Hf1
      isplitl [Hf2]; · iexact Hf2
      isplitl [Hf3]; · iexact Hf3
      isplitl [Hpre]; · iexact Hpre
      iexact Hrest
    isplitl [HO]; · iapply (owesAt_in (dat1 KS VS SN c V) t.succ rfl (O := oweB c) (owed1_later KS VS SN c V t.succ (Nat.succ_ne_zero _))); iexact HO
    isplitl [H0]; · iapply (left_live (dat1 KS VS SN c V) (0 : Fin 8) t rfl rfl); iexact H0
    isplitl [H1]; · iapply (left_live (dat1 KS VS SN c V) (1 : Fin 8) t rfl rfl); iexact H1
    isplitl [H2]; · iapply (left_live (dat1 KS VS SN c V) (2 : Fin 8) t rfl rfl); iexact H2
    isplitl [H3]; · iapply (left_live (dat1 KS VS SN c V) (3 : Fin 8) t rfl rfl); iexact H3
    isplitl [H4]; · iapply (left_live (dat1 KS VS SN c V) (4 : Fin 8) t rfl rfl); iexact H4
    isplitl [H5]
    · iapply (left_live (dat1 KS VS SN c V) (5 : Fin 8) t ((idle_1_5 t).trans (decide_eq_false (by omega))) rfl)
      iapply (Entails.of_eq (congrArg (fun X => (owns (c : Thread nD τ) _ fullShare X : sProp 𝕄)) ((show (dat1 KS VS SN c V).after (5 : Fin 8) t = kOf c V from if_neg (by omega)).trans ek)).symm); iexact H5
    isplitl [H6]
    · iapply (left_live (dat1 KS VS SN c V) (6 : Fin 8) t ((idle_1_6 t).trans (decide_eq_false (by omega))) rfl)
      iapply (Entails.of_eq (congrArg (fun X => (owns (c : Thread nD τ) _ fullShare X : sProp 𝕄)) ((show (dat1 KS VS SN c V).after (6 : Fin 8) t = vOf c V from if_neg (by omega)).trans ev)).symm); iexact H6
    iapply (left_live (dat1 KS VS SN c V) (7 : Fin 8) t rfl rfl); iexact H7
  by_cases h7 : t.val = 7
  · ihave HΦ := (Entails.of_eq (show (dat1 KS VS SN c V).Φ t.castSucc = mid1 KS VS SN c from (if_neg h0).trans (if_neg (by show ¬ t.val = 8; omega)))) $$ HΦ
    ihave HO := (owesAt_out (dat1 KS VS SN c V) t.castSucc (O := oweB c) (if_neg h0)) $$ HO
    ihave H5 := (Entails.of_eq (congrArg (fun X => (owns (c : Thread nD τ) _ fullShare X : sProp 𝕄)) (before1_5 KS VS SN c V t h0 d5))) $$ H5
    ihave H6 := (Entails.of_eq (congrArg (fun X => (owns (c : Thread nD τ) _ fullShare X : sProp 𝕄)) (before1_6 KS VS SN c V t h0 d6))) $$ H6
    unfold mid1
    icases HΦ with ⟨⟨%K, HI⟩, Hlev, Hb, Hf0, Hf1, Hf2, Hf3, Hpre, Hrest⟩
    iapply (run_then (run1_last KS VS SN K c _ (Gen.stage_whole1 0 _) _ (Gen.stage_whole1 1 _) _ (Gen.stage_whole1 2 _) _ (Gen.stage_whole1 3 _) _ (Gen.stage_whole1 4 _) _ (Gen.stage_whole1 5 _) _ (Gen.stage_whole1 6 _) _ (Gen.stage_whole1 7 _) _ _ _ _ _ _ _ _ (grid1.coords t) (fun h => h0 (k1.mp h)) (k2.mpr h7)))
    isplitl [H0 H1 H2 H3 H4 H5 H6 H7 HI Hlev Hf0 Hf1 Hf2 Hf3 HO]
    · isplitl [H0 H1 H2 H3 H4 H5 H6 H7]
      · unfold bufs1
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [HI]; · iexact HI
      isplitl [Hlev]; · iexact Hlev
      isplitl [Hf0]; · iexact Hf0
      isplitl [Hf1]; · iexact Hf1
      isplitl [Hf2]; · iexact Hf2
      isplitl [Hf3]; · iexact Hf3
      iexact HO
    unfold bufs1
    iintro ⟨⟨H0, H1, H2, H3, H4, H5, H6, H7⟩, Hf0, Hf1, Hf2, Hf3, Hs0, Hs1, Hs2, Hs3, HO⟩
    isplitl [Hb Hf0 Hf1 Hf2 Hf3 Hpre Hrest Hs0 Hs1 Hs2 Hs3]
    · iapply (Entails.of_eq (phi1_end KS VS SN c V t.succ (Nat.succ_ne_zero _) (by show t.val + 1 = 8; omega)).symm)
      unfold end1
      isplitl [Hb Hf0 Hf1 Hf2 Hf3]
      · isplitl [Hb]; · iexact Hb
        isplitl [Hf0]; · iexact Hf0
        isplitl [Hf1]; · iexact Hf1
        isplitl [Hf2]; · iexact Hf2
        iexact Hf3
      isplitl [Hpre]; · iexact Hpre
      iapply (Entails.of_eq (Gen.scopedRest1_split c).symm)
      isplitr [Hrest]
      · isplitl [Hs0]; · iexact Hs0
        isplitl [Hs1]; · iexact Hs1
        isplitl [Hs2]; · iexact Hs2
        iexact Hs3
      iexact Hrest
    isplitl [HO]; · iapply (owesAt_in (dat1 KS VS SN c V) t.succ rfl (O := oweB c) (owed1_later KS VS SN c V t.succ (Nat.succ_ne_zero _))); iexact HO
    isplitl [H0]; · iapply (left_live (dat1 KS VS SN c V) (0 : Fin 8) t rfl rfl); iexact H0
    isplitl [H1]; · iapply (left_live (dat1 KS VS SN c V) (1 : Fin 8) t rfl rfl); iexact H1
    isplitl [H2]; · iapply (left_live (dat1 KS VS SN c V) (2 : Fin 8) t rfl rfl); iexact H2
    isplitl [H3]; · iapply (left_live (dat1 KS VS SN c V) (3 : Fin 8) t rfl rfl); iexact H3
    isplitl [H4]; · iapply (left_live (dat1 KS VS SN c V) (4 : Fin 8) t rfl rfl); iexact H4
    isplitl [H5]
    · iapply (left_live (dat1 KS VS SN c V) (5 : Fin 8) t ((idle_1_5 t).trans (decide_eq_false (by omega))) rfl)
      iapply (Entails.of_eq (congrArg (fun X => (owns (c : Thread nD τ) _ fullShare X : sProp 𝕄)) (show (dat1 KS VS SN c V).after (5 : Fin 8) t = plus (kOf c V) (KS (px c)) from if_pos h7)).symm); iexact H5
    isplitl [H6]
    · iapply (left_live (dat1 KS VS SN c V) (6 : Fin 8) t ((idle_1_6 t).trans (decide_eq_false (by omega))) rfl)
      iapply (Entails.of_eq (congrArg (fun X => (owns (c : Thread nD τ) _ fullShare X : sProp 𝕄)) (show (dat1 KS VS SN c V).after (6 : Fin 8) t = plus (vOf c V) (VS (px c)) from if_pos h7)).symm); iexact H6
    iapply (left_live (dat1 KS VS SN c V) (7 : Fin 8) t rfl rfl); iexact H7
  ihave HΦ := (Entails.of_eq ((show (dat1 KS VS SN c V).Φ t.castSucc = mid1 KS VS SN c from (if_neg h0).trans (if_neg (by show ¬ t.val = 8; omega))).trans
    (phi1_mid KS VS SN c V t.succ (Nat.succ_ne_zero _) (by show ¬ t.val + 1 = 8; omega)).symm)) $$ HΦ
  ihave HO := (owesAt_out (dat1 KS VS SN c V) t.castSucc (O := oweB c) (if_neg h0)) $$ HO
  ihave HO := (owesAt_in (dat1 KS VS SN c V) t.succ rfl (O := oweB c) (owed1_later KS VS SN c V t.succ (Nat.succ_ne_zero _))) $$ HO
  iapply (run_then (run1_mid c _ (Gen.stage_whole1 0 _) _ (Gen.stage_whole1 1 _) _ (Gen.stage_whole1 2 _) _ (Gen.stage_whole1 3 _) _ (Gen.stage_whole1 4 _) _ (Gen.stage_whole1 5 _) _ (Gen.stage_whole1 6 _) _ (Gen.stage_whole1 7 _) _ _ _ _ _ _ _ _ (grid1.coords t) (fun h => h0 (k1.mp h)) (fun h => h7 (k2.mp h))))
  isplitl [H0 H1 H2 H3 H4 H5 H6 H7]
  · unfold bufs1
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  unfold bufs1
  iintro ⟨H0, H1, H2, H3, H4, H5, H6, H7⟩
  isplitl [HΦ]; · iexact HΦ
  isplitl [HO]; · iexact HO
  isplitl [H0]; · iapply (left_live (dat1 KS VS SN c V) (0 : Fin 8) t rfl rfl); iexact H0
  isplitl [H1]; · iapply (left_live (dat1 KS VS SN c V) (1 : Fin 8) t rfl rfl); iexact H1
  isplitl [H2]; · iapply (left_live (dat1 KS VS SN c V) (2 : Fin 8) t rfl rfl); iexact H2
  isplitl [H3]; · iapply (left_live (dat1 KS VS SN c V) (3 : Fin 8) t rfl rfl); iexact H3
  isplitl [H4]; · iapply (left_live (dat1 KS VS SN c V) (4 : Fin 8) t rfl rfl); iexact H4
  isplitl [H5]
  · iapply (left_idle (dat1 KS VS SN c V) (5 : Fin 8) t ((idle_1_5 t).trans (decide_eq_true ⟨h0, h7⟩)) ((flush_1_5 c t).trans (decide_eq_false (by omega))))
    iexists d5; iexact H5
  isplitl [H6]
  · iapply (left_idle (dat1 KS VS SN c V) (6 : Fin 8) t ((idle_1_6 t).trans (decide_eq_true ⟨h0, h7⟩)) ((flush_1_6 c t).trans (decide_eq_false (by omega))))
    iexists d6; iexact H6
  iapply (left_live (dat1 KS VS SN c V) (7 : Fin 8) t rfl rfl); iexact H7

end Cert.KernelIdeal

end
-- ==== Proof.Start.lean ====
/- What the launch gives each device of the protocol, and how the two exchanging calls take it up. -/
module

public import proofs.«01_k».proof.Proof.ProjData
public import proofs.«01_k».proof.Proof.OutData
public import Idealize.ShloMosaic.Lib.Pipeline.Kit

@[expose] public section

noncomputable section

namespace Cert.KernelIdeal

open Idealize.ShloMosaic Idealize.ShloMosaic.TcCoe
open Idealize.SL Idealize.SL.RA
open Idealize.SL.BI (sProp bigSep bigSepL bigSep_map bigSep_mono bigSep_congr bigSep_univ_prod bigSep_univ_comm bigSep_univ_equiv bigSep_subset bigSep_univ_eq_bigSepL bigSep_elim)
open scoped Idealize.SL.BI
open Idealize.SL.BI.BIBase Idealize.SL.BI.Laws Idealize.SL.ProofMode Idealize.SL.Sem
open Idealize.ShloMosaic.Pipeline (Dat Cfg BodyObligationLoose arrRef prefHeld scopedRest scopedRestBut ownSems0)
open Idealize.ShloMosaic.Rounds
open Facts₀ Facts

variable {F : FTy → Type} [FloatOps F]

local notation "𝕄" => MT nD τ sig Unit (Elt F) ℕ UU ℕ

/-! ## Lists of the semaphores -/

/-- The two barriers; the semaphores that belong to one call; those of them whose payment another device owes at the start. -/
def barK : Fin 2 → Ck := ![.bar0, .bar1]
def scK : Fin 18 → Ck := ![.sk 0, .rk 0, .sv 0, .rv 0, .sk 1, .rk 1, .sv 1, .rv 1, .sk 2, .rk 2, .sv 2, .rv 2, .sk 3, .rk 3, .sv 3, .rv 3, .s5, .r5]
def crK : Fin 11 → Ck := ![.bar0, .rk 0, .rv 0, .rk 1, .rv 1, .rk 2, .rv 2, .rk 3, .rv 3, .bar1, .r5]
theorem barK_inj : Function.Injective barK := by decide
theorem scK_inj : Function.Injective scK := by decide
theorem crK_inj : Function.Injective crK := by decide
theorem kinds : ∀ k : Ck, (∃ j, barK j = k) ∨ ∃ j, scK j = k := by decide
theorem kinds_disjoint : ∀ i j, barK i ≠ scK j := by decide

/-- The semaphores of all devices among a list of names. -/
def cellEmb {I : Type} (f : I → Ck) (hf : Function.Injective f) : Dev nD × I ↪ GSem nD τ sig :=
  ⟨fun x => cell x.1 (f x.2), fun _ _ h => Prod.ext (congrArg (fun g : GSem nD τ sig => g.1.1) h) (hf (sem_inj _ _ (congrArg Prod.snd h)))⟩
abbrev barCells : Finset (GSem nD τ sig) := Finset.univ.map (cellEmb barK barK_inj)
abbrev scCells : Finset (GSem nD τ sig) := Finset.univ.map (cellEmb scK scK_inj)
abbrev allCells : Finset (GSem nD τ sig) := Finset.univ.map (cellEmb id Function.injective_id)
theorem disjoint_cells : Disjoint (barCells : Finset (GSem nD τ sig)) scCells := by
  rw [Finset.disjoint_left]
  rintro g h₁ h₂
  obtain ⟨x, -, rfl⟩ := Finset.mem_map.mp h₁
  obtain ⟨y, -, h⟩ := Finset.mem_map.mp h₂
  exact kinds_disjoint x.2 y.2 (sem_inj _ _ (congrArg Prod.snd h)).symm
theorem all_sub : (allCells : Finset (GSem nD τ sig)) ⊆ barCells ∪ scCells := by
  intro g h
  obtain ⟨⟨c, k⟩, -, rfl⟩ := Finset.mem_map.mp h
  rcases kinds k with ⟨j, rfl⟩ | ⟨j, rfl⟩
  · exact Finset.mem_union_left _ (Finset.mem_map_of_mem (cellEmb barK barK_inj) (Finset.mem_univ (c, j)))
  · exact Finset.mem_union_right _ (Finset.mem_map_of_mem (cellEmb scK scK_inj) (Finset.mem_univ (c, j)))
/-- A token per semaphore: each takes one payment. -/
def talkToks : Finset (GSem nD τ sig × ℕ × Unit) :=
  Finset.univ.map ⟨fun x : Dev nD × Ck => (cell x.1 x.2, 0, ()), fun _ _ h =>
    (cellEmb id Function.injective_id).injective (congrArg (fun t : GSem nD τ sig × ℕ × Unit => t.1) h)⟩

/-- Whose semaphore of each name a device pays. -/
def tgt (k : Ck) : Dev nD ≃ Dev nD :=
  match k with
  | .bar0 | .rk _ | .rv _ => ⟨px, px, px_px, px_px⟩
  | .bar1 | .r5 => ⟨py, py, py_py, py_py⟩
  | _ => Equiv.refl _

/-! ## The holdings -/

section
variable (KS VS : Dev nD → C4 F) (SN : Dev nD → C5 F) (c : Dev nD)

/-- Of the output call's protocol, before the call. -/
def q5 : sProp 𝕄 :=
  iprop(atPos ER (cell c .bar1) 0 ∅ 0 ∗ cred (tallyAt (cell c .bar1) () 1) ∗ dutyTok ER (cell (py c) .bar1) 0 ()
    ∗ (openTok ER (cell c .s5) ∗ openTok ER (cell c .r5)) ∗ dutyTok ER (cell c .s5) 0 () ∗ dutyTok ER (cell (py c) .r5) 0 ()
    ∗ cred (tallyAt (cell c .r5) () N5))
/-- Of one block of the projection call, before the call. -/
def qb (i : Fin 4) : sProp 𝕄 :=
  iprop((openTok ER (cell c (.sk i)) ∗ openTok ER (cell c (.rk i)) ∗ openTok ER (cell c (.sv i)) ∗ openTok ER (cell c (.rv i)))
    ∗ (dutyTok ER (cell c (.sk i)) 0 () ∗ dutyTok ER (cell (px c) (.rk i)) 0 () ∗ dutyTok ER (cell c (.sv i)) 0 () ∗ dutyTok ER (cell (px c) (.rv i)) 0 ())
    ∗ cred (tallyAt (cell c (.rk i)) () N1) ∗ cred (tallyAt (cell c (.rv i)) () N1))
/-- Of the projection call's protocol, before the call. -/
def q1 : sProp 𝕄 :=
  iprop((atPos ER (cell c .bar0) 0 ∅ 0 ∗ cred (tallyAt (cell c .bar0) () 1) ∗ dutyTok ER (cell (px c) .bar0) 0 ())
    ∗ qb c 0 ∗ qb c 1 ∗ qb c 2 ∗ qb c 3)

/-- What a device keeps before the projection call, between the two, and after both. -/
def T1 : sProp 𝕄 := iprop((∃ K, invs KS VS SN K) ∗ bars ∗ q1 c ∗ q5 c)
def T2 : sProp 𝕄 := iprop((∃ K, invs KS VS SN K) ∗ bars ∗ semVal (cell c .bar0) 0 ∗ q5 c)
def T3 : sProp 𝕄 := iprop(semVal (cell c .bar0) 0 ∗ semVal (cell c .bar1) 0)

/-- A semaphore of a call is taken up when the call begins. -/
theorem open_one (K : GSem nD τ sig → ℕ) (k : Ck) :
    iprop(invs KS VS SN K ∗ openTok ER (cell c k) ∗ semVal (cell c k) 0) ⊢ |={Set.univ}=> iprop(atPos ER (cell c k) 0 ∅ 0 ∗ reached ER (cell c k) 0) := by
  iintro ⟨#HI, Ho, Hv⟩
  iapply (Rounds.cell_open ER (Rd KS VS SN) (κ := K (cell c k)) (g := cell c k) (Set.mem_univ _))
  isplitr; · iapply (invs_get KS VS SN K c k); iexact HI
  isplitl [Ho] <;> iassumption

/-- The four semaphores of one block are taken up. -/
theorem open_block (K : GSem nD τ sig → ℕ) (i : Fin 4) :
    iprop(invs KS VS SN K ∗ qb c i ∗ done1 c i)
      ⊢ |={Set.univ}=> iprop(blk1 c i ∗ reachS c i ∗ reached ER (cell c (.rk i)) 0 ∗ reached ER (cell c (.rv i)) 0) := by
  unfold qb done1 blk1 reachS
  iintro ⟨#HI, ⟨⟨O1, O2, O3, O4⟩, ⟨D1, D2, D3, D4⟩, C1, C2⟩, V1, V2, V3, V4⟩
  imod (open_one KS VS SN c K (.sk i)) $$ [O1 V1] with ⟨A1, R1⟩
  · isplitr; · iexact HI
    isplitl [O1] <;> iassumption
  imod (open_one KS VS SN c K (.rk i)) $$ [O2 V2] with ⟨A2, R2⟩
  · isplitr; · iexact HI
    isplitl [O2] <;> iassumption
  imod (open_one KS VS SN c K (.sv i)) $$ [O3 V3] with ⟨A3, R3⟩
  · isplitr; · iexact HI
    isplitl [O3] <;> iassumption
  imod (open_one KS VS SN c K (.rv i)) $$ [O4 V4] with ⟨A4, R4⟩
  · isplitr; · iexact HI
    isplitl [O4] <;> iassumption
  imodintro
  isplitl [A1 D1 A2 D2 C1 A3 D3 A4 D4 C2]
  · isplitl [A1 D1 A2 D2 C1]
    · isplitl [A1]; · iexact A1
      isplitl [D1]; · iexact D1
      isplitl [A2]; · iexact A2
      isplitl [D2] <;> iassumption
    · isplitl [A3]; · iexact A3
      isplitl [D3]; · iexact D3
      isplitl [A4]; · iexact A4
      isplitl [D4] <;> iassumption
  isplitl [R1 R3]
  · isplitl [R1] <;> iassumption
  isplitl [R2] <;> iassumption

/-- The semaphores of the projection call, by block and kind; those of the output call. -/
def osem1 : Fin 4 × Fin 4 → SemLoc sig := fun x => sem (![Ck.sk x.1, Ck.rk x.1, Ck.sv x.1, Ck.rv x.1] x.2)
def osem5 : Fin 2 → SemLoc sig := fun j => sem (![Ck.s5, Ck.r5] j)
theorem own1_sems : (ownSems0 osem1 c : sProp 𝕄) = iprop(done1 c 0 ∗ done1 c 1 ∗ done1 c 2 ∗ done1 c 3) := by
  unfold ownSems0
  rw [bigSep_univ_prod, bigSep_univ_eq_bigSepL [(0 : Fin 4), 1, 2, 3] (by decide) (by decide),
    show (fun i : Fin 4 => bigSep Finset.univ fun j : Fin 4 => (semVal ((c.tc : Thread nD τ), osem1 (i, j)) 0 : sProp 𝕄)) = fun i => done1 c i from
      funext fun i => bigSep_univ_eq_bigSepL [(0 : Fin 4), 1, 2, 3] (by decide) (by decide) _]
  rfl
theorem own5_sems : (ownSems0 osem5 c : sProp 𝕄) = iprop(semVal (cell c .s5) 0 ∗ semVal (cell c .r5) 0) :=
  BI.bigSep_fin_two (fun j : Fin 2 => (semVal ((c : Thread nD τ), osem5 j) 0 : sProp 𝕄))

/-- What the projection call's first point wants of the protocol. -/
def x1 : sProp 𝕄 :=
  iprop((∃ K, invs KS VS SN K) ∗ levAts L lv ∗ bars ∗ reach0 c ∗ reachS c 0 ∗ reachS c 1 ∗ reachS c 2 ∗ reachS c 3 ∗ own1 c)
/-- What the output call's first point wants of it. -/
def x5 : sProp 𝕄 :=
  iprop((∃ K, invs KS VS SN K) ∗ levAts L lv ∗ bars ∗ reached ER (cell c .s5) 0 ∗ reached ER (cell c .r5) 0 ∗ own5 c)

theorem open1 : iprop(T1 KS VS SN c ∗ ownSems0 osem1 c ∗ levAts L lv)
    ⊢ |={Set.univ}=> iprop(x1 KS VS SN c ∗ ((∃ K, invs KS VS SN K) ∗ bars ∗ q5 c)) := by
  rw [own1_sems]
  unfold T1 q1 x1 own1 reach0
  iintro ⟨⟨⟨%K, #HI⟩, #HB, ⟨⟨A, C, D⟩, Q0, Q1, Q2, Q3⟩, H5⟩, ⟨V0, V1, V2, V3⟩, #Hl⟩
  imod (open_block KS VS SN c K 0) $$ [Q0 V0] with ⟨B0, #S0, #P0, #R0⟩
  · isplitr; · iexact HI
    isplitl [Q0] <;> iassumption
  imod (open_block KS VS SN c K 1) $$ [Q1 V1] with ⟨B1, #S1, #P1, #R1⟩
  · isplitr; · iexact HI
    isplitl [Q1] <;> iassumption
  imod (open_block KS VS SN c K 2) $$ [Q2 V2] with ⟨B2, #S2, #P2, #R2⟩
  · isplitr; · iexact HI
    isplitl [Q2] <;> iassumption
  imod (open_block KS VS SN c K 3) $$ [Q3 V3] with ⟨B3, #S3, #P3, #R3⟩
  · isplitr; · iexact HI
    isplitl [Q3] <;> iassumption
  imodintro
  isplitr [H5]
  · isplitr; · iexists K; iexact HI
    isplitr; · iexact Hl
    isplitr; · iexact HB
    isplitr
    · isplitr; · iexact P0
      isplitr; · iexact R0
      isplitr; · iexact P1
      isplitr; · iexact R1
      isplitr; · iexact P2
      isplitr; · iexact R2
      isplitr; · iexact P3
      iexact R3
    isplitr; · iexact S0
    isplitr; · iexact S1
    isplitr; · iexact S2
    isplitr; · iexact S3
    isplitl [A]; · iexact A
    isplitl [C]; · iexact C
    isplitl [D]; · iexact D
    isplitl [B0]; · iexact B0
    isplitl [B1]; · iexact B1
    isplitl [B2] <;> iassumption
  · isplitr; · iexists K; iexact HI
    isplitr; · iexact HB
    iexact H5

theorem open5 : iprop(T2 KS VS SN c ∗ ownSems0 osem5 c ∗ levAts L lv)
    ⊢ |={Set.univ}=> iprop(x5 KS VS SN c ∗ semVal (cell c .bar0) 0) := by
  rw [own5_sems]
  unfold T2 q5 x5 own5
  iintro ⟨⟨⟨%K, #HI⟩, #HB, Hz, ⟨A, C, D, ⟨O1, O2⟩, D1, D2, C2⟩⟩, ⟨V1, V2⟩, #Hl⟩
  imod (open_one KS VS SN c K .s5) $$ [O1 V1] with ⟨A1, #R1⟩
  · isplitr; · iexact HI
    isplitl [O1] <;> iassumption
  imod (open_one KS VS SN c K .r5) $$ [O2 V2] with ⟨A2, #R2⟩
  · isplitr; · iexact HI
    isplitl [O2] <;> iassumption
  imodintro
  isplitr [Hz]
  · isplitr; · iexists K; iexact HI
    isplitr; · iexact Hl
    isplitr; · iexact HB
    isplitr; · iexact R1
    isplitr; · iexact R2
    isplitl [A]; · iexact A
    isplitl [C]; · iexact C
    isplitl [D]; · iexact D
    isplitl [A1]; · iexact A1
    isplitl [D1]; · iexact D1
    isplitl [A2]; · iexact A2
    isplitl [D2] <;> iassumption
  · iexact Hz
end

end Cert.KernelIdeal

end
-- ==== Proof.Chain.lean ====
/- The contents of the buffers of a device between the items of the program. -/
module

public import proofs.«01_k».proof.Proof.ProjData
public import Idealize.ShloMosaic.Lib.Pipeline.FrameTail
public import Idealize.ShloMosaic.Lib.Pipeline.RegionArraysS
public import proofs.«01_k».proof.Proof.Gen.KernelIdeal.Regions

@[expose] public section

noncomputable section

namespace Cert.KernelIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat Cfg BodyObligationLoose arrRef prefHeld scopedRest scopedRestBut afterRegion)
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (c : Dev nD)

/-- At the start: the memory's. -/
def U0 : Valuation τ sig (Elt F) := fun b => m (c, b)
def U1 : Valuation τ sig (Elt F) := StableHlo.after (Gen.hostOps0 c) (U0 m c)
def U2 : Valuation τ sig (Elt F) := afterRegion (dat0 c (U1 m c) (oweT c)) (U1 m c)
def U3 : Valuation τ sig (Elt F) := StableHlo.after Gen.hostOps1 (U2 m c)
/-- The blocks of k and of v that a device sends. -/
def ksOf : C4 F := halfOf (kOf c (U3 m c))
def vsOf : C4 F := halfOf (vOf c (U3 m c))
/-- Contents for a schedule whose last entry does not matter. -/
def sn0 : C5 F := Gen.k5_pay3 (acc5 c (U3 m c) 3)
def U4 : Valuation τ sig (Elt F) := afterRegion (dat1 (ksOf m) (vsOf m) (sn0 m) c (U3 m c)) (U3 m c)
def U5 : Valuation τ sig (Elt F) := StableHlo.after Gen.hostOps2 (U4 m c)
def U6 : Valuation τ sig (Elt F) := afterRegion (dat2 c (U5 m c) (oweB c)) (U5 m c)
def U7 : Valuation τ sig (Elt F) := afterRegion (dat3 c (U6 m c) (oweB c)) (U6 m c)
def U8 : Valuation τ sig (Elt F) := StableHlo.after Gen.hostOps4 (U7 m c)
def U9 : Valuation τ sig (Elt F) := StableHlo.after Gen.hostOps4_1 (U8 m c)
def U10 : Valuation τ sig (Elt F) := StableHlo.after Gen.hostOps4_2 (U9 m c)
def U11 : Valuation τ sig (Elt F) := StableHlo.after Gen.hostOps4_3 (U10 m c)
def U12 : Valuation τ sig (Elt F) := afterRegion (dat4 c (U11 m c) (oweB c)) (U11 m c)
def U13 : Valuation τ sig (Elt F) := StableHlo.after Gen.hostOps5 (U12 m c)
/-- The partial output that a device sends. -/
def snOf : C5 F := Gen.k5_pay3 (acc5 c (U13 m c) 3)
def U14 : Valuation τ sig (Elt F) := afterRegion (dat5 (ksOf m) (vsOf m) (snOf m) c (U13 m c)) (U13 m c)
def U15 : Valuation τ sig (Elt F) := StableHlo.after Gen.hostOps6 (U14 m c)

/-- What an array holds at the end of a call depends on what its data say of the arrays alone. -/
theorem arrAt_same {cfg : Cfg sig Λ₀} {c : Dev nD} (d d' : Dat τ (Elt F) Unit ℕ UU ℕ cfg c) (hA : d.A = d'.A) (ha : d.after = d'.after) (w : Fin cfg.W) :
    ∀ n, d.arrAt w n = d'.arrAt w n := by
  cases d; cases d'
  simp only at hA ha
  subst hA; subst ha
  intro n
  induction n with
  | zero => rfl
  | succ n ih => unfold Dat.arrAt; rw [ih]

/-- The same of all its buffers. -/
theorem afterRegion_same {cfg : Cfg sig Λ₀} {c : Dev nD} (d d' : Dat τ (Elt F) Unit ℕ UU ℕ cfg c) (hA : d.A = d'.A) (ha : d.after = d'.after)
    (V : Valuation τ sig (Elt F)) : afterRegion d V = afterRegion d' V := by
  have h := fun w => arrAt_same d d' hA ha w cfg.N
  funext b
  unfold afterRegion
  split
  · rw [h]
  · rfl

/-- A buffer that no output window of a call writes is as before it. -/
theorem keeps {cfg : Cfg sig Λ₀} {c : Dev nD} (d : Dat τ (Elt F) Unit ℕ UU ℕ cfg c) (V : Valuation τ sig (Elt F)) (hinj : Function.Injective (arrRef cfg.spec))
    (hA : ∀ w, d.A w = V (Proc.devRef .tc (arrRef cfg.spec w))) (l : List (Ref sig .tc)) (hl : ∀ w, (cfg.win w).isOut = true → arrRef cfg.spec w ∈ l)
    (r : Ref sig .tc) (h : r ∉ l) : afterRegion d V r = V r :=
  Pipeline.afterRegion_keeps d V hinj hA r fun w e => by
    by_contra ho
    exact h (e ▸ hl w (by simpa using ho))

theorem U1_of (r : Ref sig .tc) (h : r ∉ Gen.hostOps0_W) : U1 m c r = U0 m c r :=
  StableHlo.after_of_writes_sub (Gen.hostOps0 c) _ (Gen.hostOps0_writes c) h
theorem U2_of (r : Ref sig .tc) (h : r ∉ ([main_v6] : List (Ref sig .tc))) : U2 m c r = U1 m c r :=
  keeps (dat0 c (U1 m c) (oweT c)) (U1 m c) Gen.winFacts0.arr_inj (fun _ => rfl) _ (show ∀ w : Fin 3, (spec0 w).isOut = true → arrRef spec0 w ∈ _ from by decide) r h
theorem U3_of (r : Ref sig .tc) (h : r ∉ Gen.hostOps1_W) : U3 m c r = U2 m c r :=
  StableHlo.after_of_writes_sub Gen.hostOps1 _ Gen.hostOps1_writes h
theorem U4_of (r : Ref sig .tc) (h : r ∉ ([main_v8_0, main_v8_1, main_v8_2] : List (Ref sig .tc))) : U4 m c r = U3 m c r :=
  keeps (dat1 (ksOf m) (vsOf m) (sn0 m) c (U3 m c)) (U3 m c) Gen.winFacts1.arr_inj (fun _ => rfl) _ (show ∀ w : Fin 8, (spec1 w).isOut = true → arrRef spec1 w ∈ _ from by decide) r h
theorem U5_of (r : Ref sig .tc) (h : r ∉ Gen.hostOps2_W) : U5 m c r = U4 m c r :=
  StableHlo.after_of_writes_sub Gen.hostOps2 _ Gen.hostOps2_writes h
theorem U6_of (r : Ref sig .tc) (h : r ∉ ([main_v10] : List (Ref sig .tc))) : U6 m c r = U5 m c r :=
  keeps (dat2 c (U5 m c) (oweB c)) (U5 m c) Gen.winFacts2.arr_inj (fun _ => rfl) _ (show ∀ w : Fin 3, (spec2 w).isOut = true → arrRef spec2 w ∈ _ from by decide) r h
theorem U7_of (r : Ref sig .tc) (h : r ∉ ([main_v11] : List (Ref sig .tc))) : U7 m c r = U6 m c r :=
  keeps (dat3 c (U6 m c) (oweB c)) (U6 m c) Gen.winFacts3.arr_inj (fun _ => rfl) _ (show ∀ w : Fin 3, (spec3 w).isOut = true → arrRef spec3 w ∈ _ from by decide) r h
theorem U8_of (r : Ref sig .tc) (h : r ∉ Gen.hostOps4_W) : U8 m c r = U7 m c r :=
  StableHlo.after_of_writes_sub Gen.hostOps4 _ Gen.hostOps4_writes h
theorem U9_of (r : Ref sig .tc) (h : r ∉ Gen.hostOps4_1_W) : U9 m c r = U8 m c r :=
  StableHlo.after_of_writes_sub Gen.hostOps4_1 _ Gen.hostOps4_1_writes h
theorem U10_of (r : Ref sig .tc) (h : r ∉ Gen.hostOps4_2_W) : U10 m c r = U9 m c r :=
  StableHlo.after_of_writes_sub Gen.hostOps4_2 _ Gen.hostOps4_2_writes h
theorem U11_of (r : Ref sig .tc) (h : r ∉ Gen.hostOps4_3_W) : U11 m c r = U10 m c r :=
  StableHlo.after_of_writes_sub Gen.hostOps4_3 _ Gen.hostOps4_3_writes h
theorem U12_of (r : Ref sig .tc) (h : r ∉ ([main_v16] : List (Ref sig .tc))) : U12 m c r = U11 m c r :=
  keeps (dat4 c (U11 m c) (oweB c)) (U11 m c) Gen.winFacts4.arr_inj (fun _ => rfl) _ (show ∀ w : Fin 6, (spec4 w).isOut = true → arrRef spec4 w ∈ _ from by decide) r h
theorem U13_of (r : Ref sig .tc) (h : r ∉ Gen.hostOps5_W) : U13 m c r = U12 m c r :=
  StableHlo.after_of_writes_sub Gen.hostOps5 _ Gen.hostOps5_writes h
theorem U14_of (r : Ref sig .tc) (h : r ∉ ([main_v18] : List (Ref sig .tc))) : U14 m c r = U13 m c r :=
  keeps (dat5 (ksOf m) (vsOf m) (snOf m) c (U13 m c)) (U13 m c) Gen.winFacts5.arr_inj (fun _ => rfl) _ (show ∀ w : Fin 3, (spec5 w).isOut = true → arrRef spec5 w ∈ _ from by decide) r h
theorem U15_of (r : Ref sig .tc) (h : r ∉ Gen.hostOps6_W) : U15 m c r = U14 m c r :=
  StableHlo.after_of_writes_sub Gen.hostOps6 _ Gen.hostOps6_writes h

/-- The word that the program makes of the device's number: its second mesh coordinate. -/
theorem U1_v5 : U1 m c main_v5 = fun _ => yWord c := by
  unfold U1
  after_results
  funext i
  show IntOp.remui .host (IntOp.divui .host c.word 1#32) 2#32 = yWord c
  unfold IntOp.remui IntOp.divui
  rw [if_neg (by decide), if_neg (by decide)]
  exact (by decide : ∀ d : Dev nD, d.word / 1#32 % 2#32 = yWord d) c
theorem U2_v5 : U2 m c main_v5 = fun _ => yWord c := (U2_of m c main_v5 (by decide)).trans (U1_v5 m c)
theorem U4_v5 : U4 m c main_v5 = fun _ => yWord c :=
  (U4_of m c main_v5 (by decide)).trans ((U3_of m c main_v5 (by decide)).trans (U2_v5 m c))
theorem U12_v5 : U12 m c main_v5 = fun _ => yWord c :=
  (U12_of m c main_v5 (by decide)).trans ((U11_of m c main_v5 (by decide)).trans ((U10_of m c main_v5 (by decide)).trans
    ((U9_of m c main_v5 (by decide)).trans ((U8_of m c main_v5 (by decide)).trans ((U7_of m c main_v5 (by decide)).trans
      ((U6_of m c main_v5 (by decide)).trans ((U5_of m c main_v5 (by decide)).trans (U4_v5 m c))))))))

/-- The tables hold that word. -/
theorem table1 (k : Fin 1) : (adm (F := F) c 1).1 k = U3 m c (Proc.devRef .tc (pre1.ref k)) := by
  obtain rfl : k = 0 := Subsingleton.elim _ _
  show (fun _ => yWord c) = U3 m c main_v7
  unfold U3
  after_results
  rw [U2_v5]; rfl
theorem table2 (k : Fin 1) : (adm (F := F) c 2).1 k = U5 m c (Proc.devRef .tc (pre2.ref k)) := by
  obtain rfl : k = 0 := Subsingleton.elim _ _
  show (fun _ => yWord c) = U5 m c main_v9
  unfold U5
  after_results
  rw [U4_v5]; rfl
theorem table5 (k : Fin 1) : (adm (F := F) c 5).1 k = U13 m c (Proc.devRef .tc (pre5.ref k)) := by
  obtain rfl : k = 0 := Subsingleton.elim _ _
  show (fun _ => yWord c) = U13 m c main_v17
  unfold U13
  after_results
  rw [U12_v5]; rfl

/-- The arguments are never written. -/
theorem U15_arg0 : U15 m c main_arg0 = m ((c : Thread nD τ).loc main_arg0) :=
  (U15_of m c main_arg0 (by decide)).trans ((U14_of m c main_arg0 (by decide)).trans ((U13_of m c main_arg0 (by decide)).trans ((U12_of m c main_arg0 (by decide)).trans ((U11_of m c main_arg0 (by decide)).trans ((U10_of m c main_arg0 (by decide)).trans ((U9_of m c main_arg0 (by decide)).trans ((U8_of m c main_arg0 (by decide)).trans ((U7_of m c main_arg0 (by decide)).trans ((U6_of m c main_arg0 (by decide)).trans ((U5_of m c main_arg0 (by decide)).trans ((U4_of m c main_arg0 (by decide)).trans ((U3_of m c main_arg0 (by decide)).trans ((U2_of m c main_arg0 (by decide)).trans (U1_of m c main_arg0 (by decide)))))))))))))))
theorem U15_arg1 : U15 m c main_arg1 = m ((c : Thread nD τ).loc main_arg1) :=
  (U15_of m c main_arg1 (by decide)).trans ((U14_of m c main_arg1 (by decide)).trans ((U13_of m c main_arg1 (by decide)).trans ((U12_of m c main_arg1 (by decide)).trans ((U11_of m c main_arg1 (by decide)).trans ((U10_of m c main_arg1 (by decide)).trans ((U9_of m c main_arg1 (by decide)).trans ((U8_of m c main_arg1 (by decide)).trans ((U7_of m c main_arg1 (by decide)).trans ((U6_of m c main_arg1 (by decide)).trans ((U5_of m c main_arg1 (by decide)).trans ((U4_of m c main_arg1 (by decide)).trans ((U3_of m c main_arg1 (by decide)).trans ((U2_of m c main_arg1 (by decide)).trans (U1_of m c main_arg1 (by decide)))))))))))))))
theorem U15_arg2 : U15 m c main_arg2 = m ((c : Thread nD τ).loc main_arg2) :=
  (U15_of m c main_arg2 (by decide)).trans ((U14_of m c main_arg2 (by decide)).trans ((U13_of m c main_arg2 (by decide)).trans ((U12_of m c main_arg2 (by decide)).trans ((U11_of m c main_arg2 (by decide)).trans ((U10_of m c main_arg2 (by decide)).trans ((U9_of m c main_arg2 (by decide)).trans ((U8_of m c main_arg2 (by decide)).trans ((U7_of m c main_arg2 (by decide)).trans ((U6_of m c main_arg2 (by decide)).trans ((U5_of m c main_arg2 (by decide)).trans ((U4_of m c main_arg2 (by decide)).trans ((U3_of m c main_arg2 (by decide)).trans ((U2_of m c main_arg2 (by decide)).trans (U1_of m c main_arg2 (by decide)))))))))))))))
theorem U15_arg3 : U15 m c main_arg3 = m ((c : Thread nD τ).loc main_arg3) :=
  (U15_of m c main_arg3 (by decide)).trans ((U14_of m c main_arg3 (by decide)).trans ((U13_of m c main_arg3 (by decide)).trans ((U12_of m c main_arg3 (by decide)).trans ((U11_of m c main_arg3 (by decide)).trans ((U10_of m c main_arg3 (by decide)).trans ((U9_of m c main_arg3 (by decide)).trans ((U8_of m c main_arg3 (by decide)).trans ((U7_of m c main_arg3 (by decide)).trans ((U6_of m c main_arg3 (by decide)).trans ((U5_of m c main_arg3 (by decide)).trans ((U4_of m c main_arg3 (by decide)).trans ((U3_of m c main_arg3 (by decide)).trans ((U2_of m c main_arg3 (by decide)).trans (U1_of m c main_arg3 (by decide)))))))))))))))
theorem U15_arg4 : U15 m c main_arg4 = m ((c : Thread nD τ).loc main_arg4) :=
  (U15_of m c main_arg4 (by decide)).trans ((U14_of m c main_arg4 (by decide)).trans ((U13_of m c main_arg4 (by decide)).trans ((U12_of m c main_arg4 (by decide)).trans ((U11_of m c main_arg4 (by decide)).trans ((U10_of m c main_arg4 (by decide)).trans ((U9_of m c main_arg4 (by decide)).trans ((U8_of m c main_arg4 (by decide)).trans ((U7_of m c main_arg4 (by decide)).trans ((U6_of m c main_arg4 (by decide)).trans ((U5_of m c main_arg4 (by decide)).trans ((U4_of m c main_arg4 (by decide)).trans ((U3_of m c main_arg4 (by decide)).trans ((U2_of m c main_arg4 (by decide)).trans (U1_of m c main_arg4 (by decide)))))))))))))))
theorem U15_arg5 : U15 m c main_arg5 = m ((c : Thread nD τ).loc main_arg5) :=
  (U15_of m c main_arg5 (by decide)).trans ((U14_of m c main_arg5 (by decide)).trans ((U13_of m c main_arg5 (by decide)).trans ((U12_of m c main_arg5 (by decide)).trans ((U11_of m c main_arg5 (by decide)).trans ((U10_of m c main_arg5 (by decide)).trans ((U9_of m c main_arg5 (by decide)).trans ((U8_of m c main_arg5 (by decide)).trans ((U7_of m c main_arg5 (by decide)).trans ((U6_of m c main_arg5 (by decide)).trans ((U5_of m c main_arg5 (by decide)).trans ((U4_of m c main_arg5 (by decide)).trans ((U3_of m c main_arg5 (by decide)).trans ((U2_of m c main_arg5 (by decide)).trans (U1_of m c main_arg5 (by decide)))))))))))))))
theorem U15_arg6 : U15 m c main_arg6 = m ((c : Thread nD τ).loc main_arg6) :=
  (U15_of m c main_arg6 (by decide)).trans ((U14_of m c main_arg6 (by decide)).trans ((U13_of m c main_arg6 (by decide)).trans ((U12_of m c main_arg6 (by decide)).trans ((U11_of m c main_arg6 (by decide)).trans ((U10_of m c main_arg6 (by decide)).trans ((U9_of m c main_arg6 (by decide)).trans ((U8_of m c main_arg6 (by decide)).trans ((U7_of m c main_arg6 (by decide)).trans ((U6_of m c main_arg6 (by decide)).trans ((U5_of m c main_arg6 (by decide)).trans ((U4_of m c main_arg6 (by decide)).trans ((U3_of m c main_arg6 (by decide)).trans ((U2_of m c main_arg6 (by decide)).trans (U1_of m c main_arg6 (by decide)))))))))))))))
theorem U15_arg7 : U15 m c main_arg7 = m ((c : Thread nD τ).loc main_arg7) :=
  (U15_of m c main_arg7 (by decide)).trans ((U14_of m c main_arg7 (by decide)).trans ((U13_of m c main_arg7 (by decide)).trans ((U12_of m c main_arg7 (by decide)).trans ((U11_of m c main_arg7 (by decide)).trans ((U10_of m c main_arg7 (by decide)).trans ((U9_of m c main_arg7 (by decide)).trans ((U8_of m c main_arg7 (by decide)).trans ((U7_of m c main_arg7 (by decide)).trans ((U6_of m c main_arg7 (by decide)).trans ((U5_of m c main_arg7 (by decide)).trans ((U4_of m c main_arg7 (by decide)).trans ((U3_of m c main_arg7 (by decide)).trans ((U2_of m c main_arg7 (by decide)).trans (U1_of m c main_arg7 (by decide)))))))))))))))

end Cert.KernelIdeal

end
-- ==== Proof.Deal.lean ====
/- The launch: every semaphore of the protocol put under its invariant, and the rights dealt to the devices. -/
module

public import proofs.«01_k».proof.Proof.Start
public import proofs.«01_k».proof.Proof.Chain

@[expose] public section

noncomputable section

namespace Cert.KernelIdeal

open Idealize.ShloMosaic Idealize.ShloMosaic.TcCoe
open Idealize.SL Idealize.SL.RA
open Idealize.SL.BI (sProp bigSep bigSepL bigSep_map bigSep_mono bigSep_congr bigSep_univ_prod bigSep_univ_comm bigSep_univ_equiv bigSep_subset bigSep_univ_eq_bigSepL bigSep_elim)
open scoped Idealize.SL.BI
open Idealize.SL.BI.BIBase Idealize.SL.BI.Laws Idealize.SL.ProofMode Idealize.SL.Sem
open Idealize.ShloMosaic.Pipeline (Dat Cfg BodyObligationLoose arrRef prefHeld scopedRest scopedRestBut ownSems0)
open Idealize.ShloMosaic.Rounds
open Facts₀ Facts

variable {F : FTy → Type} [FloatOps F]

local notation "𝕄" => MT nD τ sig Unit (Elt F) ℕ UU ℕ

/-! ## The credit -/

/-- What a device owes at a named semaphore. -/
theorem tally_cell (p c : Dev nD) (k' k : Ck) (n : ℕ) :
    tallyAt (cell p k') () n (cell c k) () = if k' = k then (if p = c then n else 0) else 0 := by
  rw [tallyAt_apply]
  by_cases hk : k' = k
  · subst hk
    rw [if_pos rfl]
    by_cases hp : p = c
    · subst hp; rw [if_pos ⟨rfl, rfl⟩, if_pos rfl]
    · rw [if_neg (fun h => hp (congrArg (fun g : GSem nD τ sig => g.1.1) h.1).symm), if_neg hp]
  · rw [if_neg hk, if_neg (fun h => hk (sem_inj _ _ (congrArg Prod.snd h.1)).symm)]
theorem oweT_cell (d c : Dev nD) (j : Fin 11) : oweT d (cell c (crK j)) () = if d = tgt (crK j) c then amtOf (crK j) else 0 := by
  have hx : (px d = c) = (d = px c) := propext ⟨fun h => by rw [← h, px_px], fun h => by rw [h, px_px]⟩
  have hy : (py d = c) = (d = py c) := propext ⟨fun h => by rw [← h, py_py], fun h => by rw [h, py_py]⟩
  unfold oweT owe8 oweB
  simp only [Pi.add_apply, Finsupp.add_apply, tally_cell, hx, hy]
  fin_cases j <;> (simp [crK, tgt, amtOf]; rfl)

/-- The credit of what a device will be paid by the others is its from the launch. -/
theorem launch_cell (c : Dev nD) (j : Fin 11) :
    tallyOn (cell c (crK j)) (launchCredit (Pipeline.owing oweT) 0 (cell c (crK j))) = (tallyAt (cell c (crK j)) () (amtOf (crK j)) : CellTallies nD τ sig Unit) := by
  unfold tallyAt
  refine congrArg _ (Finsupp.ext fun u => ?_)
  cases u
  rw [Pipeline.launchCredit_owing, Finsupp.single_eq_same, Finset.sum_congr rfl fun d _ => oweT_cell d c j,
    Finset.sum_ite_eq' Finset.univ (tgt (crK j) c) fun _ => amtOf (crK j), if_pos (Finset.mem_univ _)]
def semEmb : Fin 11 ↪ SemLoc sig := ⟨fun j => sem (crK j), fun _ _ h => crK_inj (sem_inj _ _ h)⟩
theorem creds (c : Dev nD) :
    (Pipeline.launchCred oweT c : sProp 𝕄) ⊢ bigSep Finset.univ fun j : Fin 11 => cred (tallyAt (cell c (crK j)) () (amtOf (crK j))) := by
  unfold Pipeline.launchCred
  refine (bigSep_subset (Finset.subset_univ (Finset.univ.map semEmb))).trans ?_
  rw [bigSep_map]
  exact Entails.of_eq (bigSep_congr fun j _ => congrArg (fun T => (cred T : sProp 𝕄)) (launch_cell c j))

/-! ## The dealing -/

variable (KS VS : Dev nD → C4 F) (SN : Dev nD → C5 F)

/-- A resource given to one device. -/
def onDev (c₀ : Dev nD) (X : sProp 𝕄) (c : Dev nD) : sProp 𝕄 := if c = c₀ then X else iprop(emp)
omit [FloatOps F] in
theorem bigSep_onDev (c₀ : Dev nD) (X : sProp 𝕄) : bigSep Finset.univ (onDev c₀ X) = X := by
  rw [BI.bigSep_univ_split c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp BI.sep_emp

/-- The protocol's share of the launch, with the first device until it is dealt. -/
def G : Dev nD → sProp 𝕄 := onDev 0 (BI.own (ER (launchOf barCells scCells talkToks)))

/-- The records that every device may look up. -/
def records (K : GSem nD τ sig → ℕ) : sProp 𝕄 := iprop(invs KS VS SN K ∗ bars)
instance records_persistent (K : GSem nD τ sig → ℕ) : BI.Persistent (records KS VS SN K) := by unfold records; infer_instance

/-- What only one device holds: its places at the barriers, the rights to take up its semaphores and to pay those it pays, its credit. -/
def linear (c : Dev nD) : sProp 𝕄 :=
  iprop((bigSep Finset.univ fun j : Fin 2 => atPos ER (cell c (barK j)) 0 ∅ 0)
    ∗ (bigSep Finset.univ fun j : Fin 18 => openTok ER (cell c (scK j)))
    ∗ (bigSep Finset.univ fun k : Ck => dutyTok ER (cell (tgt k c) k) 0 ()))

theorem toks_eq : bigSep talkToks (fun x => (dutyTok ER x.1 x.2.1 x.2.2 : sProp 𝕄))
    = bigSep Finset.univ fun c : Dev nD => bigSep Finset.univ fun k : Ck => dutyTok ER (cell (tgt k c) k) 0 () := by
  unfold talkToks
  rw [bigSep_map, bigSep_univ_prod, bigSep_univ_comm, bigSep_univ_comm fun (c : Dev nD) (k : Ck) => (dutyTok ER (cell (tgt k c) k) 0 () : sProp 𝕄)]
  exact bigSep_congr fun k _ => bigSep_univ_equiv (tgt k) (fun c : Dev nD => (dutyTok ER (cell c k) 0 () : sProp 𝕄))

/-- The names in order. -/
def ckL : List Ck := [.bar0, .bar1, .s5, .r5, .sk 0, .rk 0, .sv 0, .rv 0, .sk 1, .rk 1, .sv 1, .rv 1, .sk 2, .rk 2, .sv 2, .rv 2, .sk 3, .rk 3, .sv 3, .rv 3]
theorem ckL_all : (Finset.univ : Finset Ck) = ckL.toFinset := by decide
theorem ckL_nodup : ckL.Nodup := by decide

/-- A device's holdings, sorted by call and block. -/
theorem deal (K : GSem nD τ sig → ℕ) (c : Dev nD) :
    iprop(records KS VS SN K ∗ linear c ∗ (bigSep Finset.univ fun j : Fin 11 => cred (tallyAt (cell c (crK j)) () (amtOf (crK j))))) ⊢ T1 KS VS SN c := by
  unfold records linear
  rw [BI.bigSep_fin_two, bigSep_univ_eq_bigSepL ckL ckL_all ckL_nodup,
    bigSep_univ_eq_bigSepL [(0 : Fin 18), 1, 2, 3, 4, 5, 6, 7, 8, 9, 10, 11, 12, 13, 14, 15, 16, 17] (by decide) (by decide),
    bigSep_univ_eq_bigSepL [(0 : Fin 11), 1, 2, 3, 4, 5, 6, 7, 8, 9, 10] (by decide) (by decide)]
  show iprop((invs KS VS SN K ∗ bars) ∗ ((atPos ER (cell c .bar0) 0 ∅ 0 ∗ atPos ER (cell c .bar1) 0 ∅ 0)
      ∗ (openTok ER (cell c (.sk 0)) ∗ openTok ER (cell c (.rk 0)) ∗ openTok ER (cell c (.sv 0)) ∗ openTok ER (cell c (.rv 0))
        ∗ openTok ER (cell c (.sk 1)) ∗ openTok ER (cell c (.rk 1)) ∗ openTok ER (cell c (.sv 1)) ∗ openTok ER (cell c (.rv 1))
        ∗ openTok ER (cell c (.sk 2)) ∗ openTok ER (cell c (.rk 2)) ∗ openTok ER (cell c (.sv 2)) ∗ openTok ER (cell c (.rv 2))
        ∗ openTok ER (cell c (.sk 3)) ∗ openTok ER (cell c (.rk 3)) ∗ openTok ER (cell c (.sv 3)) ∗ openTok ER (cell c (.rv 3))
        ∗ openTok ER (cell c .s5) ∗ openTok ER (cell c .r5))
      ∗ (dutyTok ER (cell (px c) .bar0) 0 () ∗ dutyTok ER (cell (py c) .bar1) 0 () ∗ dutyTok ER (cell c .s5) 0 () ∗ dutyTok ER (cell (py c) .r5) 0 ()
        ∗ dutyTok ER (cell c (.sk 0)) 0 () ∗ dutyTok ER (cell (px c) (.rk 0)) 0 () ∗ dutyTok ER (cell c (.sv 0)) 0 () ∗ dutyTok ER (cell (px c) (.rv 0)) 0 ()
        ∗ dutyTok ER (cell c (.sk 1)) 0 () ∗ dutyTok ER (cell (px c) (.rk 1)) 0 () ∗ dutyTok ER (cell c (.sv 1)) 0 () ∗ dutyTok ER (cell (px c) (.rv 1)) 0 ()
        ∗ dutyTok ER (cell c (.sk 2)) 0 () ∗ dutyTok ER (cell (px c) (.rk 2)) 0 () ∗ dutyTok ER (cell c (.sv 2)) 0 () ∗ dutyTok ER (cell (px c) (.rv 2)) 0 ()
        ∗ dutyTok ER (cell c (.sk 3)) 0 () ∗ dutyTok ER (cell (px c) (.rk 3)) 0 () ∗ dutyTok ER (cell c (.sv 3)) 0 () ∗ dutyTok ER (cell (px c) (.rv 3)) 0 ()))
      ∗ (cred (tallyAt (cell c .bar0) () 1) ∗ cred (tallyAt (cell c (.rk 0)) () N1) ∗ cred (tallyAt (cell c (.rv 0)) () N1)
        ∗ cred (tallyAt (cell c (.rk 1)) () N1) ∗ cred (tallyAt (cell c (.rv 1)) () N1) ∗ cred (tallyAt (cell c (.rk 2)) () N1) ∗ cred (tallyAt (cell c (.rv 2)) () N1)
        ∗ cred (tallyAt (cell c (.rk 3)) () N1) ∗ cred (tallyAt (cell c (.rv 3)) () N1) ∗ cred (tallyAt (cell c .bar1) () 1) ∗ cred (tallyAt (cell c .r5) () N5))) ⊢ _
  unfold T1 q1 q5 qb
  iintro ⟨⟨HI, HB⟩, ⟨⟨A0, A1⟩, ⟨Oa, Ob, Oc, Od, Oe, Of, Og, Oh, Oi, Oj, Ok, Ol, Om, On, Oo, Op, Oq, Or⟩,
    ⟨D0, D1, Ds, Dr, Da, Db, Dc, Dd, De, Df, Dg, Dh, Di, Dj, Dk, Dl, Dm, Dn, Do, Dp⟩⟩, ⟨C0, Ca, Cb, Cc, Cd, Ce, Cf, Cg, Ch, C1, C5⟩⟩
  isplitl [HI]; · iexists K; iexact HI
  isplitl [HB]; · iexact HB
  isplitr [A1 C1 D1 Oq Or Ds Dr C5]
  · isplitl [A0 C0 D0]
    · isplitl [A0]; · iexact A0
      isplitl [C0] <;> iassumption
    isplitl [Oa Ob Oc Od Da Db Dc Dd Ca Cb]
    · isplitl [Oa Ob Oc Od]
      · isplitl [Oa]; · iexact Oa
        isplitl [Ob]; · iexact Ob
        isplitl [Oc] <;> iassumption
      isplitl [Da Db Dc Dd]
      · isplitl [Da]; · iexact Da
        isplitl [Db]; · iexact Db
        isplitl [Dc] <;> iassumption
      isplitl [Ca] <;> iassumption
    isplitl [Oe Of Og Oh De Df Dg Dh Cc Cd]
    · isplitl [Oe Of Og Oh]
      · isplitl [Oe]; · iexact Oe
        isplitl [Of]; · iexact Of
        isplitl [Og] <;> iassumption
      isplitl [De Df Dg Dh]
      · isplitl [De]; · iexact De
        isplitl [Df]; · iexact Df
        isplitl [Dg] <;> iassumption
      isplitl [Cc] <;> iassumption
    isplitl [Oi Oj Ok Ol Di Dj Dk Dl Ce Cf]
    · isplitl [Oi Oj Ok Ol]
      · isplitl [Oi]; · iexact Oi
        isplitl [Oj]; · iexact Oj
        isplitl [Ok] <;> iassumption
      isplitl [Di Dj Dk Dl]
      · isplitl [Di]; · iexact Di
        isplitl [Dj]; · iexact Dj
        isplitl [Dk] <;> iassumption
      isplitl [Ce] <;> iassumption
    isplitl [Om On Oo Op]
    · isplitl [Om]; · iexact Om
      isplitl [On]; · iexact On
      isplitl [Oo] <;> iassumption
    isplitl [Dm Dn Do Dp]
    · isplitl [Dm]; · iexact Dm
      isplitl [Dn]; · iexact Dn
      isplitl [Do] <;> iassumption
    isplitl [Cg] <;> iassumption
  · isplitl [A1]; · iexact A1
    isplitl [C1]; · iexact C1
    isplitl [D1]; · iexact D1
    isplitl [Oq Or]; · isplitl [Oq] <;> iassumption
    isplitl [Ds]; · iexact Ds
    isplitl [Dr] <;> iassumption

/-! ## The start of the program -/

variable (m : (ℓ : Loc nD τ sig) → Buf (Elt F) ℓ) (ρ : Dev nD → PrngReg)

/-- The counters outside the calls are the two barriers'. -/
theorem unscopedSems0_eq (c : Dev nD) : (unscopedSems0 c : sProp 𝕄) = bigSep Finset.univ fun j : Fin 2 => semVal (cell c (barK j)) 0 := by
  unfold unscopedSems0
  rw [show (Finset.univ.filter fun sm : SemLoc sig => ¬ sm.isScoped .tc) = Finset.univ.map (⟨fun j => sem (barK j), fun _ _ h => barK_inj (sem_inj _ _ h)⟩ : Fin 2 ↪ SemLoc sig) from by decide,
    bigSep_map]
  rfl

/-- What a device holds at the start. -/
abbrev S0 (c : Dev nD) : sProp 𝕄 := Own.state c (U0 m c) (T1 KS VS SN c) (oweT c)

/-- What it holds then apart from the protocol's rights. -/
def rest0' (c : Dev nD) : sProp 𝕄 :=
  iprop((bigSep Finset.univ fun j : Fin 11 => cred (tallyAt (cell c (crK j)) () (amtOf (crK j))))
    ∗ StableHlo.held (c : Thread nD τ) (Pipeline.ucRefs τ sig) (U0 m c) ∗ owes (c : Thread nD τ) (oweT c) ∅ ∗ prngReg c (ρ c))

theorem S0_intro (K : GSem nD τ sig → ℕ) (c : Dev nD) : iprop(records KS VS SN K ∗ (linear c ∗ rest0' m ρ c)) ⊢ S0 KS VS SN m c := by
  unfold rest0' S0 Own.state
  iintro ⟨#HR, Hl, Hc, Hh, HO, Hp⟩
  isplitl [Hh]; · iexact Hh
  isplitl [Hp]; · iexists (ρ c); iexact Hp
  isplitr [HO]
  · iapply (deal KS VS SN K c)
    isplitr; · iexact HR
    isplitl [Hl] <;> iassumption
  iexists ∅; iexact HO

theorem init :
    iprop((bigSep Finset.univ fun c : Dev nD => iprop(unscopedBufs c (fun b => m ((c : Thread nD τ).loc b)) ∗ unscopedSems0 c
          ∗ owes (c : Thread nD τ) (oweT c) ∅ ∗ Pipeline.launchCred oweT c ∗ prngReg c (ρ c) ∗ G c)) ∗ levAts L lv)
      ⊢ (|={Set.univ}=> bigSep Finset.univ (S0 KS VS SN m) : sProp 𝕄) := by
  have hcore (c : Dev nD) : iprop(unscopedBufs c (fun b => m ((c : Thread nD τ).loc b)) ∗ unscopedSems0 c
        ∗ owes (c : Thread nD τ) (oweT c) ∅ ∗ Pipeline.launchCred oweT c ∗ prngReg c (ρ c) ∗ G c)
      ⊢ (iprop(rest0' m ρ c ∗ ((bigSep Finset.univ fun j : Fin 2 => semVal (cell c (barK j)) 0) ∗ G c)) : sProp 𝕄) := by
    rw [show unscopedBufs c (fun b => m ((c : Thread nD τ).loc b)) = StableHlo.held (c : Thread nD τ) (Pipeline.ucRefs τ sig) (U0 m c) from
      Pipeline.unscopedBufs_held c (U0 m c), unscopedSems0_eq]
    unfold rest0'
    iintro ⟨Hh, Hus, HO, Hcr, Hp, HG⟩
    ihave Hc := (creds (F := F) c) $$ Hcr
    isplitl [Hh Hc HO Hp]
    · isplitl [Hc]; · iexact Hc
      isplitl [Hh]; · iexact Hh
      isplitl [HO] <;> iassumption
    isplitl [Hus] <;> iassumption
  have hv : bigSep Finset.univ (fun c : Dev nD => bigSep Finset.univ fun j : Fin 2 => (semVal (cell c (barK j)) 0 : sProp 𝕄)) ⊢ bigSep barCells (fun g => (semVal g 0 : sProp 𝕄)) :=
    Entails.of_eq (by rw [bigSep_map, bigSep_univ_prod]; rfl)
  have hr : bigSep barCells (fun g => (reached ER g 0 : sProp 𝕄)) ⊢ bars :=
    Entails.of_eq (by
      unfold bars
      rw [bigSep_map, bigSep_univ_prod]
      exact bigSep_congr fun c _ => BI.bigSep_fin_two (fun j : Fin 2 => (reached ER (cell c (barK j)) 0 : sProp 𝕄)))
  have hi (K : GSem nD τ sig → ℕ) : bigSep (barCells ∪ scCells) (fun g => (cellInv ER (Rd KS VS SN) (K g) g : sProp 𝕄)) ⊢ invs KS VS SN K :=
    (bigSep_subset all_sub).trans (show bigSep allCells (fun g => (cellInv ER (Rd KS VS SN) (K g) g : sProp 𝕄)) ⊢ invs KS VS SN K from by
      unfold invs; rw [bigSep_map]; exact .rfl)
  iintro ⟨H, -⟩
  ihave H' := (show (bigSep Finset.univ fun c : Dev nD => iprop(unscopedBufs c (fun b => m ((c : Thread nD τ).loc b)) ∗ unscopedSems0 c
          ∗ owes (c : Thread nD τ) (oweT c) ∅ ∗ Pipeline.launchCred oweT c ∗ prngReg c (ρ c) ∗ G c))
      ⊢ (bigSep Finset.univ fun c : Dev nD => iprop(rest0' m ρ c ∗ ((bigSep Finset.univ fun j : Fin 2 => semVal (cell c (barK j)) 0) ∗ G c)) : sProp 𝕄) from
        bigSep_mono fun c _ => hcore c) $$ H
  ihave H2 := (Entails.of_eq (BI.bigSep_sep' _ _ _)) $$ H'; icases H2 with ⟨HB, H3⟩
  ihave H4 := (Entails.of_eq (BI.bigSep_sep' _ _ _)) $$ H3; icases H4 with ⟨Hv, HG⟩
  ihave Hu := (show bigSep Finset.univ (G (F := F)) ⊢ BI.own (ER (launchOf barCells scCells talkToks)) from
    Entails.of_eq (bigSep_onDev (F := F) 0 (BI.own (ER (launchOf barCells scCells talkToks))))) $$ HG
  imod (Rounds.fund_launch ER (Rd KS VS SN) disjoint_cells (fun g _ h => h) talkToks) $$ [Hv Hu] with ⟨%K, -, #Hinv, #Hr, Hat, Hopen, Htok⟩
  · isplitl [Hv]
    · iapply hv $$ Hv
    · iexact Hu
  imodintro
  iapply (BI.bigSep_with_persistent (R := records KS VS SN K) (Φ := fun c => iprop(linear c ∗ rest0' m ρ c)) fun c _ => S0_intro KS VS SN m ρ K c)
  isplitr
  · unfold records
    isplitr; · iapply (hi K); iexact Hinv
    iapply hr; iexact Hr
  iapply (Entails.of_eq (BI.bigSep_sep' _ _ _).symm)
  isplitr [HB]
  · unfold linear
    iapply (Entails.of_eq (BI.bigSep_sep' _ _ _).symm); isplitl [Hat]
    · iapply (Entails.of_eq (by rw [bigSep_map, bigSep_univ_prod]; rfl :
        bigSep barCells (fun g => (atPos ER g 0 ∅ 0 : sProp 𝕄)) = bigSep Finset.univ fun c : Dev nD => bigSep Finset.univ fun j : Fin 2 => atPos ER (cell c (barK j)) 0 ∅ 0)) $$ Hat
    iapply (Entails.of_eq (BI.bigSep_sep' _ _ _).symm); isplitl [Hopen]
    · iapply (Entails.of_eq (by rw [bigSep_map, bigSep_univ_prod]; rfl :
        bigSep scCells (fun g => (openTok ER g : sProp 𝕄)) = bigSep Finset.univ fun c : Dev nD => bigSep Finset.univ fun j : Fin 18 => openTok ER (cell c (scK j)))) $$ Hopen
    iapply (Entails.of_eq (toks_eq (F := F))) $$ Htok
  · iexact HB

end Cert.KernelIdeal

end
-- ==== Proof.Run.lean ====
/- The run of the whole program: from any memory it ends on every device with the named contents, and with every counter at zero. -/
module

public import proofs.«01_k».proof.Proof.Deal

@[expose] public section

noncomputable section

namespace Cert.KernelIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat Cfg BodyObligationLoose arrRef prefHeld scopedRest scopedRestBut ownSems0 afterRegion)
open Idealize.ShloMosaic.Rounds
open Facts₀ Facts

variable {F : FTy → Type} [FloatOps F]

local notation "𝕄" => MT nD τ sig Unit (Elt F) ℕ UU ℕ

/-! ## The six regions -/

theorem htab (c : Dev nD) : ∀ p : Fin 6, Pipeline.specSems (cfgAt (F := F) c p).spec = Gen.semTab p
  | 0 => rfl | 1 => rfl | 2 => rfl | 3 => rfl | 4 => rfl | 5 => rfl
  | ⟨_ + 6, h⟩ => absurd h (Nat.not_lt.2 (Nat.le_add_left _ _))

/-- The staging semaphores of all the regions are distinct. -/
theorem staging_inj : Function.Injective (Pipeline.PerCore.cellOf (nD := nD) (τ := τ) (Pipeline.pinD (pcfgs (F := F)) (adm (F := F)))) :=
  Pipeline.PerCore.cellOf_injective (Pipeline.pinD (pcfgs (F := F)) (adm (F := F)))
    (fun c p => Pipeline.specSemsDistinct_of_nodup _ ((htab (F := F) c p).symm ▸ Gen.semsDistinct p))
    (fun c p p' h => Pipeline.specSemsDisjoint_of_disjoint _ _ ((htab (F := F) c p).symm ▸ (htab (F := F) c p').symm ▸
      fun _ hd hd' => List.forall_iff_forall_mem.1 (Gen.semsDisjoint p p' h) _ hd hd'))

/-- A semaphore that has no name is at the lowest level. -/
theorem lv_unnamed (c : Dev nD) (s : SemLoc sig) (h : ∀ k, sem k ≠ s) : lv ((c : Thread nD τ), s) () ≤ 0 := by
  unfold lv
  cases hn : nameOf s with
  | none => exact le_refl _
  | some k => exact absurd (nameOf_some hn) (h k)

variable (m : (ℓ : Loc nD τ sig) → Buf (Elt F) ℓ) (ρ : Dev nD → PrngReg)

/-- The data of the six regions. -/
def pdats : (p : Fin 6) → (c : Dev nD) → Dat τ (Elt F) Unit ℕ UU ℕ (cfgAt (F := F) c p) c
  | 0 => fun c => dat0 c (U1 m c) (oweT c)
  | 1 => fun c => dat1 (ksOf m) (vsOf m) (snOf m) c (U3 m c)
  | 2 => fun c => dat2 c (U5 m c) (oweB c)
  | 3 => fun c => dat3 c (U6 m c) (oweB c)
  | 4 => fun c => dat4 c (U11 m c) (oweB c)
  | 5 => fun c => dat5 (ksOf m) (vsOf m) (snOf m) c (U13 m c)
  | ⟨_ + 6, h⟩ => absurd h (Nat.not_lt.2 (Nat.le_add_left _ _))

/-- A device keeps what it keeps through a region that exchanges nothing. -/
theorem quiet_open (T : Dev nD → sProp 𝕄) (c : Dev nD) :
    iprop(T c ∗ ownSems0 (fun k : PEmpty => k.elim) c ∗ levAts L lv) ⊢ |={Set.univ}=> iprop(emp ∗ T c) := by
  iintro ⟨HT, -, -⟩
  imodintro
  isplitr; · iempintro
  iexact HT
theorem quiet_in (A B : sProp 𝕄) : iprop(emp ∗ A ∗ B) ⊢ iprop(A ∗ B) := by
  iintro ⟨-, HA, HB⟩
  isplitl [HA] <;> iassumption
theorem quiet_out (A B : sProp 𝕄) (c : Dev nD) : iprop(A ∗ B) ⊢ iprop(emp ∗ A ∗ ownSems0 (fun k : PEmpty => k.elim) c ∗ B) := by
  rw [Pipeline.ownSems0_none]
  iintro ⟨HA, HB⟩
  isplitr; · iempintro
  isplitl [HA]; · iexact HA
  isplitr; · iempintro
  iexact HB
theorem quiet_close (T : sProp 𝕄) : iprop(emp ∗ T) ⊢ |={Set.univ}=> T := by
  iintro ⟨-, HT⟩
  imodintro
  iexact HT
/-- Everything owed is owed above the lowest level. -/
theorem cut_pos {D : CellTallies nD τ sig Unit} {b : ℕ} (h : ∀ (g : GSem nD τ sig) (i : Unit), 0 < D g i → i ∈ L g ∧ b < lv g i) :
    ∀ (g : GSem nD τ sig) (i : Unit), D g i ≠ 0 → i ∈ L g ∧ b < lv g i := fun g i hg => h g i (Nat.pos_of_ne_zero hg)
/-- A buffer that is no array of a region is as before it. -/
theorem off_region {cfg : Cfg sig Λ₀} {c : Dev nD} (d : Dat τ (Elt F) Unit ℕ UU ℕ cfg c) (V : Valuation τ sig (Elt F))
    (b : DevRef τ sig) (hb : b ∉ Pipeline.arrRefs (τ := τ) cfg.spec) : afterRegion d V b = V b := by
  unfold afterRegion
  rw [dif_neg]
  rintro ⟨w, rfl⟩
  exact hb (Finset.mem_map.mpr ⟨_, Finset.mem_image.mpr ⟨w, Finset.mem_univ _, rfl⟩, rfl⟩)

abbrev K1 (c : Dev nD) : sProp 𝕄 := T1 (ksOf m) (vsOf m) (snOf m) c
abbrev K2 (c : Dev nD) : sProp 𝕄 := T2 (ksOf m) (vsOf m) (snOf m) c

/-- What the projection call leaves does not depend on what the output call will send. -/
theorem after1_any (KS VS : Dev nD → C4 F) (SN SN' : Dev nD → C5 F) (c : Dev nD) (V : Valuation τ sig (Elt F)) :
    afterRegion (dat1 KS VS SN c V) V = afterRegion (dat1 KS VS SN' c V) V := by
  have hA : (dat1 KS VS SN c V).A = (dat1 KS VS SN' c V).A := rfl
  have ha : (dat1 KS VS SN c V).after = (dat1 KS VS SN' c V).after := by unfold dat1; exact rfl
  exact afterRegion_same (dat1 KS VS SN c V) (dat1 KS VS SN' c V) hA ha V
theorem U4_eq (c : Dev nD) : U4 m c = afterRegion (dat1 (ksOf m) (vsOf m) (snOf m) c (U3 m c)) (U3 m c) := by
  unfold U4
  exact after1_any _ _ _ _ _ _
theorem ownFacts1 : Pipeline.OwnSemFacts spec1 osem1 := by decide
theorem ownFacts5 : Pipeline.OwnSemFacts spec5 osem5 := by decide

theorem unnamed_0 : ∀ (w : Fin 3) (s : Fin (spec0 w).nbuf) (k : Ck), sem k ≠ .dma ((spec0 w).sem s) := by decide
def reg0 : Pipeline.PerCore.RegionSeg (pcfgs (F := F)) adm (pdats m) () defs₀ 𝒱₀ L lv 0 :=
  Own.mkSeg (pcfgs (F := F)) adm (pdats m) () defs₀ 𝒱₀ L lv 0 (fun k : PEmpty => k.elim) (Pipeline.OwnSemFacts.none _) Gen.winFacts0 (Pipeline.PreFacts.none _) Gen.block_pos0 Gen.arr_whole0 Gen.stage_whole0
    (fun c => body_0 c _ _)
    (fun c => Own.waits_of_cut (pcfgs (F := F)) adm (pdats m) () L lv 0 c 0 (fun _ _ => mem_L _ _) (fun w s => lv_unnamed c _ (unnamed_0 w s)) (fun _ => cut_pos (cutT c)))
    oweT oweT (fun _ => rfl) (fun _ => rfl) (fun _ => rfl) (fun c w => by unfold Dat.share; split <;> rfl)
    (U1 m) (U2 m) (fun _ _ => rfl) (fun c w => (Pipeline.afterRegion_arr (pdats m 0 c) (U1 m c) Gen.winFacts0.arr_inj w).symm) (fun _ k => k.elim0)
    (fun c b hb => off_region _ _ b hb)
    (K1 m) (K1 m) (fun _ => iprop(emp)) (fun _ => iprop(emp)) (K1 m)
    (quiet_open (K1 m)) (fun _ => quiet_in _ _) (fun c => quiet_out _ _ c) (fun _ => quiet_close _)

theorem enter1 (c : Dev nD) : iprop(x1 (ksOf m) (vsOf m) (snOf m) c ∗ prefHeld (pcfgs (F := F) 1).pre c (fun _ => fullShare) (adm (F := F) c 1).1 ∗ scopedRest (pcfgs (F := F) 1).spec c)
    ⊢ start1 (ksOf m) (vsOf m) (snOf m) c := by
  unfold x1 start1
  iintro ⟨⟨H1, H2, H3, H4, H5, H6, H7, H8, H9⟩, HP, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HP] <;> iassumption
theorem leave1 (c : Dev nD) : (end1 c : sProp 𝕄) ⊢ iprop(semVal (cell c .bar0) 0 ∗ prefHeld (pcfgs (F := F) 1).pre c (fun _ => fullShare) (adm (F := F) c 1).1
    ∗ ownSems0 osem1 c ∗ scopedRest (pcfgs (F := F) 1).spec c) := by
  rw [own1_sems]
  unfold end1
  iintro ⟨⟨Hb, Hd⟩, HP, HS⟩
  isplitl [Hb]; · iexact Hb
  isplitl [HP]; · iexact HP
  isplitl [Hd] <;> iassumption
theorem close1 (c : Dev nD) : iprop(semVal (cell c .bar0) 0 ∗ ((∃ K, invs (ksOf m) (vsOf m) (snOf m) K) ∗ bars ∗ q5 c)) ⊢ |={Set.univ}=> K2 m c := by
  unfold K2 T2
  iintro ⟨Hb, HI, HB, HQ⟩
  imodintro
  isplitl [HI]; · iexact HI
  isplitl [HB]; · iexact HB
  isplitl [Hb] <;> iassumption
theorem owed1_cut (c : Dev nD) (t : Fin ((cfgAt (F := F) c 1).N + 1)) (g : GSem nD τ sig) (i : Unit)
    (h : (pdats m 1 c).owed t g i ≠ 0) : i ∈ L g ∧ 0 < lv g i := by
  by_cases h0 : t.val = 0
  · rw [show (pdats m 1 c).owed t = oweT c from if_pos h0] at h; exact cut_pos (cutT c) g i h
  · rw [show (pdats m 1 c).owed t = oweB c from if_neg h0] at h; exact cut_pos (cutB c 0 (Nat.zero_le _)) g i h

theorem unnamed_1 : ∀ (w : Fin 8) (s : Fin (spec1 w).nbuf) (k : Ck), sem k ≠ .dma ((spec1 w).sem s) := by decide
def reg1 : Pipeline.PerCore.RegionSeg (pcfgs (F := F)) adm (pdats m) () defs₀ 𝒱₀ L lv 1 :=
  Own.mkSeg (pcfgs (F := F)) adm (pdats m) () defs₀ 𝒱₀ L lv 1 osem1 ownFacts1 Gen.winFacts1 Gen.preFacts1 Gen.block_pos1 Gen.arr_whole1 Gen.stage_whole1
    (fun c => body_1 _ _ _ c _ rfl rfl)
    (fun c => Own.waits_of_cut (pcfgs (F := F)) adm (pdats m) () L lv 1 c 0 (fun _ _ => mem_L _ _) (fun w s => lv_unnamed c _ (unnamed_1 w s)) (owed1_cut m c))
    oweT oweB (fun _ => rfl) (fun _ => rfl) (fun _ => rfl) (fun c w => by unfold Dat.share; split <;> rfl)
    (U3 m) (U4 m) (fun _ _ => rfl) (fun c w => ((congrFun (U4_eq m c) _).trans (Pipeline.afterRegion_arr (pdats m 1 c) (U3 m c) Gen.winFacts1.arr_inj w)).symm) (fun c k => table1 m c k)
    (fun c b hb => (congrFun (U4_eq m c) b).trans (off_region _ _ b hb))
    (K1 m) (K2 m) (fun c => x1 (ksOf m) (vsOf m) (snOf m) c) (fun c => semVal (cell c .bar0) 0) (fun c => iprop((∃ K, invs (ksOf m) (vsOf m) (snOf m) K) ∗ bars ∗ q5 c))
    (fun c => open1 _ _ _ c) (fun c => enter1 m c) (fun c => leave1 c) (fun c => close1 m c)

theorem unnamed_2 : ∀ (w : Fin 3) (s : Fin (spec2 w).nbuf) (k : Ck), sem k ≠ .dma ((spec2 w).sem s) := by decide
def reg2 : Pipeline.PerCore.RegionSeg (pcfgs (F := F)) adm (pdats m) () defs₀ 𝒱₀ L lv 2 :=
  Own.mkSeg (pcfgs (F := F)) adm (pdats m) () defs₀ 𝒱₀ L lv 2 (fun k : PEmpty => k.elim) (Pipeline.OwnSemFacts.none _) Gen.winFacts2 Gen.preFacts2 Gen.block_pos2 Gen.arr_whole2 Gen.stage_whole2
    (fun c => body_2 c _ _)
    (fun c => Own.waits_of_cut (pcfgs (F := F)) adm (pdats m) () L lv 2 c 0 (fun _ _ => mem_L _ _) (fun w s => lv_unnamed c _ (unnamed_2 w s)) (fun _ => cut_pos (cutB c 0 (Nat.zero_le _))))
    oweB oweB (fun _ => rfl) (fun _ => rfl) (fun _ => rfl) (fun c w => by unfold Dat.share; split <;> rfl)
    (U5 m) (U6 m) (fun _ _ => rfl) (fun c w => (Pipeline.afterRegion_arr (pdats m 2 c) (U5 m c) Gen.winFacts2.arr_inj w).symm) (fun c k => table2 m c k)
    (fun c b hb => off_region _ _ b hb)
    (K2 m) (K2 m) (fun _ => iprop(emp)) (fun _ => iprop(emp)) (K2 m)
    (quiet_open (K2 m)) (fun _ => quiet_in _ _) (fun c => quiet_out _ _ c) (fun _ => quiet_close _)

theorem unnamed_3 : ∀ (w : Fin 3) (s : Fin (spec3 w).nbuf) (k : Ck), sem k ≠ .dma ((spec3 w).sem s) := by decide
def reg3 : Pipeline.PerCore.RegionSeg (pcfgs (F := F)) adm (pdats m) () defs₀ 𝒱₀ L lv 3 :=
  Own.mkSeg (pcfgs (F := F)) adm (pdats m) () defs₀ 𝒱₀ L lv 3 (fun k : PEmpty => k.elim) (Pipeline.OwnSemFacts.none _) Gen.winFacts3 (Pipeline.PreFacts.none _) Gen.block_pos3 Gen.arr_whole3 Gen.stage_whole3
    (fun c => body_3 c _ _)
    (fun c => Own.waits_of_cut (pcfgs (F := F)) adm (pdats m) () L lv 3 c 0 (fun _ _ => mem_L _ _) (fun w s => lv_unnamed c _ (unnamed_3 w s)) (fun _ => cut_pos (cutB c 0 (Nat.zero_le _))))
    oweB oweB (fun _ => rfl) (fun _ => rfl) (fun _ => rfl) (fun c w => by unfold Dat.share; split <;> rfl)
    (U6 m) (U7 m) (fun _ _ => rfl) (fun c w => (Pipeline.afterRegion_arr (pdats m 3 c) (U6 m c) Gen.winFacts3.arr_inj w).symm) (fun _ k => k.elim0)
    (fun c b hb => off_region _ _ b hb)
    (K2 m) (K2 m) (fun _ => iprop(emp)) (fun _ => iprop(emp)) (K2 m)
    (quiet_open (K2 m)) (fun _ => quiet_in _ _) (fun c => quiet_out _ _ c) (fun _ => quiet_close _)

theorem unnamed_4 : ∀ (w : Fin 6) (s : Fin (spec4 w).nbuf) (k : Ck), sem k ≠ .dma ((spec4 w).sem s) := by decide
def reg4 : Pipeline.PerCore.RegionSeg (pcfgs (F := F)) adm (pdats m) () defs₀ 𝒱₀ L lv 4 :=
  Own.mkSeg (pcfgs (F := F)) adm (pdats m) () defs₀ 𝒱₀ L lv 4 (fun k : PEmpty => k.elim) (Pipeline.OwnSemFacts.none _) Gen.winFacts4 (Pipeline.PreFacts.none _) Gen.block_pos4 Gen.arr_whole4 Gen.stage_whole4
    (fun c => body_4 c _ _)
    (fun c => Own.waits_of_cut (pcfgs (F := F)) adm (pdats m) () L lv 4 c 0 (fun _ _ => mem_L _ _) (fun w s => lv_unnamed c _ (unnamed_4 w s)) (fun _ => cut_pos (cutB c 0 (Nat.zero_le _))))
    oweB oweB (fun _ => rfl) (fun _ => rfl) (fun _ => rfl) (fun c w => by unfold Dat.share; split <;> rfl)
    (U11 m) (U12 m) (fun _ _ => rfl) (fun c w => (Pipeline.afterRegion_arr (pdats m 4 c) (U11 m c) Gen.winFacts4.arr_inj w).symm) (fun _ k => k.elim0)
    (fun c b hb => off_region _ _ b hb)
    (K2 m) (K2 m) (fun _ => iprop(emp)) (fun _ => iprop(emp)) (K2 m)
    (quiet_open (K2 m)) (fun _ => quiet_in _ _) (fun c => quiet_out _ _ c) (fun _ => quiet_close _)

theorem enter5 (c : Dev nD) : iprop(x5 (ksOf m) (vsOf m) (snOf m) c ∗ prefHeld (pcfgs (F := F) 5).pre c (fun _ => fullShare) (adm (F := F) c 5).1 ∗ scopedRest (pcfgs (F := F) 5).spec c)
    ⊢ pend5 (ksOf m) (vsOf m) (snOf m) c := by
  unfold x5 pend5
  iintro ⟨⟨H1, H2, H3, H4, H5, H6⟩, HP, HS⟩
  isplitl [H1]; · iexact H1
  isplitl [H2]; · iexact H2
  isplitl [H3]; · iexact H3
  isplitl [H4]; · iexact H4
  isplitl [H5]; · iexact H5
  isplitl [H6]; · iexact H6
  isplitl [HP] <;> iassumption
theorem leave5 (c : Dev nD) : (past5 c : sProp 𝕄) ⊢ iprop(semVal (cell c .bar1) 0 ∗ prefHeld (pcfgs (F := F) 5).pre c (fun _ => fullShare) (adm (F := F) c 5).1
    ∗ ownSems0 osem5 c ∗ scopedRest (pcfgs (F := F) 5).spec c) := by
  rw [own5_sems]
  unfold past5
  iintro ⟨⟨Hb, Hs, Hr⟩, HP, HS⟩
  isplitl [Hb]; · iexact Hb
  isplitl [HP]; · iexact HP
  isplitl [Hs Hr]; · isplitl [Hs] <;> iassumption
  iexact HS
theorem close5 (c : Dev nD) : iprop(semVal (cell c .bar1) 0 ∗ semVal (cell c .bar0) 0) ⊢ |={Set.univ}=> (T3 c : sProp 𝕄) := by
  unfold T3
  iintro ⟨H1, H0⟩
  imodintro
  isplitl [H0] <;> iassumption
theorem owed5_cut (c : Dev nD) (t : Fin ((cfgAt (F := F) c 5).N + 1)) (g : GSem nD τ sig) (i : Unit)
    (h : (pdats m 5 c).owed t g i ≠ 0) : i ∈ L g ∧ 0 < lv g i := by
  by_cases h0 : t.val = 5
  · rw [show (pdats m 5 c).owed t = 0 from if_pos h0] at h; exact absurd rfl h
  · rw [show (pdats m 5 c).owed t = oweB c from if_neg h0] at h; exact cut_pos (cutB c 0 (Nat.zero_le _)) g i h

theorem unnamed_5 : ∀ (w : Fin 3) (s : Fin (spec5 w).nbuf) (k : Ck), sem k ≠ .dma ((spec5 w).sem s) := by decide
def reg5 : Pipeline.PerCore.RegionSeg (pcfgs (F := F)) adm (pdats m) () defs₀ 𝒱₀ L lv 5 :=
  Own.mkSeg (pcfgs (F := F)) adm (pdats m) () defs₀ 𝒱₀ L lv 5 osem5 ownFacts5 Gen.winFacts5 Gen.preFacts5 Gen.block_pos5 Gen.arr_whole5 Gen.stage_whole5
    (fun c => body_5 _ _ _ c _ rfl)
    (fun c => Own.waits_of_cut (pcfgs (F := F)) adm (pdats m) () L lv 5 c 0 (fun _ _ => mem_L _ _) (fun w s => lv_unnamed c _ (unnamed_5 w s)) (owed5_cut m c))
    oweB (fun _ => 0) (fun _ => rfl) (fun _ => rfl) (fun _ => rfl) (fun c w => by unfold Dat.share; split <;> rfl)
    (U13 m) (U14 m) (fun _ _ => rfl) (fun c w => (Pipeline.afterRegion_arr (pdats m 5 c) (U13 m c) Gen.winFacts5.arr_inj w).symm) (fun c k => table5 m c k)
    (fun c b hb => off_region _ _ b hb)
    (K2 m) T3 (fun c => x5 (ksOf m) (vsOf m) (snOf m) c) (fun c => semVal (cell c .bar1) 0) (fun c => semVal (cell c .bar0) 0)
    (fun c => open5 _ _ _ c) (fun c => enter5 m c) (fun c => leave5 c) (fun c => close5 c)

end Cert.KernelIdeal

end
-- ==== Proof.Whole.lean ====
/- The program's items one after another, and the run of the whole program from any memory. -/
module

public import proofs.«01_k».proof.Proof.Run

@[expose] public section

noncomputable section

namespace Cert.KernelIdeal

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Pipeline (Dat Cfg BodyObligationLoose arrRef prefHeld scopedRest scopedRestBut ownSems0 afterRegion)
open Idealize.ShloMosaic.Rounds
open Facts₀ Facts

variable {F : FTy → Type} [FloatOps F]

local notation "𝕄" => MT nD τ sig Unit (Elt F) ℕ UU ℕ

variable (m : (ℓ : Loc nD τ sig) → Buf (Elt F) ℓ) (ρ : Dev nD → PrngReg)

/-- What rides beside the buffers up to the projection call, up to the output call, and after it. -/
abbrev E1 (c : Dev nD) : sProp 𝕄 := iprop((∃ r, prngReg c r) ∗ K1 m c ∗ ∃ Wd, owes (c : Thread nD τ) (oweT c) Wd)
abbrev E2 (c : Dev nD) : sProp 𝕄 := iprop((∃ r, prngReg c r) ∗ K2 m c ∗ ∃ Wd, owes (c : Thread nD τ) (oweB c) Wd)
abbrev E3 (c : Dev nD) : sProp 𝕄 := iprop((∃ r, prngReg c r) ∗ T3 c ∗ ∃ Wd, owes (c : Thread nD τ) (0 : CellTallies nD τ sig Unit) Wd)

def host0 (c : Dev nD) : Pipeline.HostSeg (Ix := Unit) (Name := ℕ) (U := UU) (Lvl := ℕ) (pcfgs (F := F)) defs₀ 𝒱₀ L lv :=
  Pipeline.HostSeg.ofOps _ _ _ _ _ (Pipeline.ucRefs τ sig) (Gen.hostOps0 c)
    (fun op h => Pipeline.sub_ucRefs op ((List.forall_iff_forall_mem.mp (Gen.hostOps0_sub c)) op h))
    (fun op h => (List.forall_iff_forall_mem.mp (Gen.hostOps0_fresh c)) op h) (U0 m) (E1 m)
def host2 : Pipeline.HostSeg (Ix := Unit) (Name := ℕ) (U := UU) (Lvl := ℕ) (pcfgs (F := F)) defs₀ 𝒱₀ L lv :=
  Pipeline.HostSeg.ofOps _ _ _ _ _ (Pipeline.ucRefs τ sig) Gen.hostOps1
    (fun op h => Pipeline.sub_ucRefs op ((List.forall_iff_forall_mem.mp Gen.hostOps1_sub) op h))
    (fun op h => (List.forall_iff_forall_mem.mp Gen.hostOps1_fresh) op h) (U2 m) (E1 m)
def host4 : Pipeline.HostSeg (Ix := Unit) (Name := ℕ) (U := UU) (Lvl := ℕ) (pcfgs (F := F)) defs₀ 𝒱₀ L lv :=
  Pipeline.HostSeg.ofOps _ _ _ _ _ (Pipeline.ucRefs τ sig) Gen.hostOps2
    (fun op h => Pipeline.sub_ucRefs op ((List.forall_iff_forall_mem.mp Gen.hostOps2_sub) op h))
    (fun op h => (List.forall_iff_forall_mem.mp Gen.hostOps2_fresh) op h) (U4 m) (E2 m)
def host7 : Pipeline.HostSeg (Ix := Unit) (Name := ℕ) (U := UU) (Lvl := ℕ) (pcfgs (F := F)) defs₀ 𝒱₀ L lv :=
  Pipeline.HostSeg.ofOps _ _ _ _ _ (Pipeline.ucRefs τ sig) Gen.hostOps4
    (fun op h => Pipeline.sub_ucRefs op ((List.forall_iff_forall_mem.mp Gen.hostOps4_sub) op h))
    (fun op h => (List.forall_iff_forall_mem.mp Gen.hostOps4_fresh) op h) (U7 m) (E2 m)
def host8 : Pipeline.HostSeg (Ix := Unit) (Name := ℕ) (U := UU) (Lvl := ℕ) (pcfgs (F := F)) defs₀ 𝒱₀ L lv :=
  Pipeline.HostSeg.ofOps _ _ _ _ _ (Pipeline.ucRefs τ sig) Gen.hostOps4_1
    (fun op h => Pipeline.sub_ucRefs op ((List.forall_iff_forall_mem.mp Gen.hostOps4_1_sub) op h))
    (fun op h => (List.forall_iff_forall_mem.mp Gen.hostOps4_1_fresh) op h) (U8 m) (E2 m)
def host9 : Pipeline.HostSeg (Ix := Unit) (Name := ℕ) (U := UU) (Lvl := ℕ) (pcfgs (F := F)) defs₀ 𝒱₀ L lv :=
  Pipeline.HostSeg.ofOps _ _ _ _ _ (Pipeline.ucRefs τ sig) Gen.hostOps4_2
    (fun op h => Pipeline.sub_ucRefs op ((List.forall_iff_forall_mem.mp Gen.hostOps4_2_sub) op h))
    (fun op h => (List.forall_iff_forall_mem.mp Gen.hostOps4_2_fresh) op h) (U9 m) (E2 m)
def host10 : Pipeline.HostSeg (Ix := Unit) (Name := ℕ) (U := UU) (Lvl := ℕ) (pcfgs (F := F)) defs₀ 𝒱₀ L lv :=
  Pipeline.HostSeg.ofOps _ _ _ _ _ (Pipeline.ucRefs τ sig) Gen.hostOps4_3
    (fun op h => Pipeline.sub_ucRefs op ((List.forall_iff_forall_mem.mp Gen.hostOps4_3_sub) op h))
    (fun op h => (List.forall_iff_forall_mem.mp Gen.hostOps4_3_fresh) op h) (U10 m) (E2 m)
def host12 : Pipeline.HostSeg (Ix := Unit) (Name := ℕ) (U := UU) (Lvl := ℕ) (pcfgs (F := F)) defs₀ 𝒱₀ L lv :=
  Pipeline.HostSeg.ofOps _ _ _ _ _ (Pipeline.ucRefs τ sig) Gen.hostOps5
    (fun op h => Pipeline.sub_ucRefs op ((List.forall_iff_forall_mem.mp Gen.hostOps5_sub) op h))
    (fun op h => (List.forall_iff_forall_mem.mp Gen.hostOps5_fresh) op h) (U12 m) (E2 m)
def host14 : Pipeline.HostSeg (Ix := Unit) (Name := ℕ) (U := UU) (Lvl := ℕ) (pcfgs (F := F)) defs₀ 𝒱₀ L lv :=
  Pipeline.HostSeg.ofOps _ _ _ _ _ (Pipeline.ucRefs τ sig) Gen.hostOps6
    (fun op h => Pipeline.sub_ucRefs op ((List.forall_iff_forall_mem.mp Gen.hostOps6_sub) op h))
    (fun op h => (List.forall_iff_forall_mem.mp Gen.hostOps6_fresh) op h) (U14 m) (E3)

/-- The program's items on a device. -/
def segs (c : Dev nD) : List (Pipeline.PerCore.Seg (pcfgs (F := F)) adm (pdats m) () defs₀ 𝒱₀ L lv) :=
  [.host (host0 m c), .region (reg0 m), .host (host2 m), .region (reg1 m), .host (host4 m), .region (reg2 m), .region (reg3 m),
    .host (host7 m), .host (host8 m), .host (host9 m), .host (host10 m), .region (reg4 m), .host (host12 m), .region (reg5 m), .host (host14 m)]

theorem main_eq (c : Dev nD) : main (F := F) c = Pipeline.PerCore.Seg.run (segs m c) := by
  rewrite [Gen.main_chain c, Pipeline.PerCore.Seg.run_eq_chain,
    show (segs m c).map Pipeline.PerCore.Seg.prog = [
      StableHlo.seq (Gen.hostOps0 c),
      Prog.lift (.customCall (Pipeline.entry 0) ()),
      StableHlo.seq Gen.hostOps1,
      Prog.lift (.customCall (Pipeline.entry 1) ()),
      StableHlo.seq Gen.hostOps2,
      Prog.lift (.customCall (Pipeline.entry 2) ()),
      Prog.lift (.customCall (Pipeline.entry 3) ()),
      StableHlo.seq Gen.hostOps4,
      StableHlo.seq Gen.hostOps4_1,
      StableHlo.seq Gen.hostOps4_2,
      StableHlo.seq Gen.hostOps4_3,
      Prog.lift (.customCall (Pipeline.entry 4) ()),
      StableHlo.seq Gen.hostOps5,
      Prog.lift (.customCall (Pipeline.entry 5) ()),
      StableHlo.seq Gen.hostOps6] from rfl]
  rfl

/-- What a device holds at the end. -/
abbrev Tend (c : Dev nD) : sProp 𝕄 := iprop(StableHlo.held (c : Thread nD τ) (Pipeline.ucRefs τ sig) (U15 m c) ∗ T3 c)

theorem last_step (c : Dev nD) : iprop(StableHlo.held (c : Thread nD τ) (Pipeline.ucRefs τ sig) (U15 m c) ∗ E3 c)
    ⊢ iprop(Tend m c ∗ ∃ W, owes (c.tc : Thread nD τ) (0 : CellTallies nD τ sig Unit) W) := by
  iintro ⟨Hh, -, HT, HO⟩
  isplitr [HO]
  · isplitl [Hh] <;> iassumption
  · iexact HO

theorem chains (c : Dev nD) : Pipeline.PerCore.Seg.ChainsAt c (S0 (ksOf m) (vsOf m) (snOf m) m) (segs m c)
    fun c => iprop(Tend m c ∗ ∃ W, owes (c.tc : Thread nD τ) (0 : CellTallies nD τ sig Unit) W) :=
  ⟨.rfl, .rfl, .rfl, .rfl, .rfl, .rfl, .rfl, .rfl, .rfl, .rfl, .rfl, .rfl, .rfl, .rfl, .rfl, last_step m c⟩

theorem unscoped_eq : ∀ sm : SemLoc sig, sm.isScoped .tc = false → sm = sem .bar0 ∨ sm = sem .bar1 := by decide

def u₀ : UU :=
  (initOf (Pipeline.PerCore.cells (Pipeline.pinD (pcfgs (F := F)) (adm (F := F))) staging_inj) (Pipeline.PerCore.launchToks (Pipeline.pinD (pcfgs (F := F)) (adm (F := F))) staging_inj),
    launchOf barCells scCells talkToks)

set_option backward.isDefEq.respectTransparency.types false in
/-- The run: from any memory with all counters zero, the program ends on every device with every buffer outside the calls at its
    named contents, and with all counters zero. -/
theorem run_main : θ_run (defs (F := F)) (onTc (τ := τ) (main (F := F))) ⟨m, fun _ => 0, ρ⟩
    (fun r => (∀ c : Dev nD, ∀ b ∈ Pipeline.ucRefs τ sig, r.2.mem (c, b) = U15 m c b) ∧ r.2.sem = fun _ => 0) :=
  Pipeline.PerCore.θ_run_regions_kit_sems (pcfgs (F := F)) adm (pdats m) () staging_inj EP defs₀ 𝒱₀ L lv m ρ main (segs m)
    (fun c Q => by rw [main_eq m c])
    (fun c => by simp only [segs, Pipeline.PerCore.Seg.pipes_host, Pipeline.PerCore.Seg.pipes_region, Pipeline.PerCore.Seg.pipes_nil]; decide)
    (O₀ := oweT) (hL := L_off) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := S0 (ksOf m) (vsOf m) (snOf m) m) (Tₙ := Tend m)
    (hch := chains m)
    (hinit := init (ksOf m) (vsOf m) (snOf m) m ρ)
    (QY := fun c s => (∀ b ∈ Pipeline.ucRefs τ sig, s.mem (c, b) = U15 m c b) ∧ s.sem (cell c .bar0) = 0 ∧ s.sem (cell c .bar1) = 0)
    (hfin := fun c s' => by
      dsimp only [Tend]
      unfold T3 StableHlo.held
      iintro ⟨⟨Hh, H0, H1⟩, HSI⟩
      icombine HSI H0 gives %h0
      icombine HSI H1 gives %h1
      ihave Hr := (pointsTo_read_all (Pipeline.ucRefs τ sig) (fun b => ((c : Thread nD τ).1, b)) (U15 m c) s') $$ [Hh HSI]
      · isplitl [Hh] <;> iassumption
      icases Hr with ⟨%h, HSI⟩
      imodintro
      isplitr
      · ipureintro
        exact ⟨fun b hb => h b hb, by simpa using h0, by simpa using h1⟩
      iexact HSI)
    (hQ := fun s h hs => ⟨fun c => (h c).1,
      sem_eq_zero hs fun c sm hsm => by
        rcases unscoped_eq sm hsm with rfl | rfl
        · exact (h c).2.1
        · exact (h c).2.2⟩)

end Cert.KernelIdeal

end
-- ==== Proof.Frames.lean ====
/- The frame claims: each program runs from any memory, ends with its arguments unchanged and every
   semaphore counter at zero. The kernel's programs at the two float types have one text, so both read the
   one run of Whole.lean. -/
module

public import proofs.«01_k».proof.Defs
public import proofs.«01_k».proof.Proof.Gen.Kernel
public import proofs.«01_k».proof.Proof.Gen.ReferenceIdeal
public import proofs.«01_k».proof.Proof.Whole
public import Idealize.ShloMosaic.Adequacy
public import Idealize.ShloMosaic.Init
public import Idealize.ShloMosaic.Lib.Claim

@[expose] public section

noncomputable section

namespace Cert.KernelIdeal

open Idealize.ShloMosaic Idealize.ShloMosaic.TcCoe Idealize.SL.Sem

section
variable {F : FTy → Type} [FloatOps F]

/-- The program runs, its arguments end unchanged, its result holds the last host item's value, and every
    counter ends at zero. -/
theorem run_args (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v19) = U15 m c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run (defs (F := F)) _ _).mono (fun r h => ?_) (run_main m ρ)
  refine ⟨fun c => ?_, h.2⟩
  have g : ∀ b : Ref sig .tc, (b : DevRef τ sig) ∈ Pipeline.ucRefs τ sig → r.2.mem ((c.tc : Thread nD τ).loc b) = U15 m c b :=
    fun b hb => h.1 c b hb
  refine ⟨g main_v19 (Finset.mem_filter.mpr ⟨StableHlo.devRef_mem_tcRefs main_v19, by decide⟩),
    (g main_arg0 (Finset.mem_filter.mpr ⟨StableHlo.devRef_mem_tcRefs main_arg0, by decide⟩)).trans (U15_arg0 m c),
    (g main_arg1 (Finset.mem_filter.mpr ⟨StableHlo.devRef_mem_tcRefs main_arg1, by decide⟩)).trans (U15_arg1 m c),
    (g main_arg2 (Finset.mem_filter.mpr ⟨StableHlo.devRef_mem_tcRefs main_arg2, by decide⟩)).trans (U15_arg2 m c),
    (g main_arg3 (Finset.mem_filter.mpr ⟨StableHlo.devRef_mem_tcRefs main_arg3, by decide⟩)).trans (U15_arg3 m c),
    (g main_arg4 (Finset.mem_filter.mpr ⟨StableHlo.devRef_mem_tcRefs main_arg4, by decide⟩)).trans (U15_arg4 m c),
    (g main_arg5 (Finset.mem_filter.mpr ⟨StableHlo.devRef_mem_tcRefs main_arg5, by decide⟩)).trans (U15_arg5 m c),
    (g main_arg6 (Finset.mem_filter.mpr ⟨StableHlo.devRef_mem_tcRefs main_arg6, by decide⟩)).trans (U15_arg6 m c),
    (g main_arg7 (Finset.mem_filter.mpr ⟨StableHlo.devRef_mem_tcRefs main_arg7, by decide⟩)).trans (U15_arg7 m c)⟩

end

/-- From every memory the program runs, its arguments end unchanged and every counter ends at zero. -/
def Keeps (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem keeps_args (F : FTy → Type) [FloatOps F] : Keeps F := fun m ρ _ =>
  (θ_run (defs (F := F)) _ _).mono (fun _ h => ⟨fun c => (h.1 c).2, h.2⟩) (run_args m ρ)

end Cert.KernelIdeal

namespace Cert.Proof

open Idealize.ShloMosaic Idealize.SL.Sem

/-- The kernel's two programs have one text. -/
theorem one_text : Cert.quiescent_Kernel = Cert.KernelIdeal.Keeps Bits := by chain_rfl

/-- The kernel at bits: it runs, its arguments end unchanged, every counter ends at zero. -/
theorem frame_kernel : Cert.quiescent_Kernel := one_text.mpr (Cert.KernelIdeal.keeps_args Bits)

/-- The kernel over the extended reals: it runs, its arguments end unchanged, every counter ends at zero. -/
theorem frame_kernel_ideal : Cert.quiescent_KernelIdeal := Cert.KernelIdeal.keeps_args Idealize.ShloMosaic.Ideal

/-- The reference over the extended reals: it runs, its arguments end unchanged, every counter ends at zero. -/
theorem frame_reference : Cert.quiescent_ReferenceIdeal := by
  intro m ρ _
  hlo_run
  · exact fun _ => ⟨trivial, trivial, trivial, trivial, trivial, trivial, trivial, trivial⟩
  · exact Idealize.ShloMosaic.sem_eq_zero_of_no_sems (by decide) _

end Cert.Proof
-- ==== Proof.Stages.lean ====
/- What the pallas_calls leave in their result arrays, over the extended reals: each element as sums and
   products of what the arrays held before the call. -/
module

public import proofs.«01_k».proof.Proof.Chain
public import Idealize.ShloMosaic.Lib.Pointwise
public import Idealize.ShloMosaic.Lib.Pipeline.ValueKit

@[expose] public section

set_option maxRecDepth 16384

noncomputable section

namespace Cert.Values

open Idealize.ShloMosaic Idealize.ShloMosaic.TcCoe
open Cert.KernelIdeal hiding ix2
open Idealize.ShloMosaic.Pipeline (Dat Cfg arrRef afterRegion)
open Cert.KernelIdeal.Facts₀ Cert.KernelIdeal.Facts

variable (c : Dev nD) (V : Valuation τ sig (Elt Ideal))

/-- An element of a product: row `i` of `X` against column `j` of `W`. -/
def mm {n K q : ℕ} (X : (⟨2, ![n, K]⟩ : Shape).Idx → EReal) (W : (⟨2, ![K, q]⟩ : Shape).Idx → EReal) (i : Fin n) (j : Fin q) : EReal :=
  ∑ k : Fin K, X (ix2 i k) * W (ix2 k j)

/-- Lane `j` of block `b` of `n` blocks of `s` lanes. -/
abbrev lane (n s : ℕ) (b : ℕ) (hb : b < n) (j : Fin s) : Fin (n * s) := ⟨b * s + j.val, by
  have h := Nat.mul_le_mul_right s (Nat.succ_le_of_lt hb); have := j.isLt; rw [Nat.succ_mul] at h; omega⟩

/-! ## The block each window names at a point -/

theorem i0_0 (t : Fin (cfgAt (F := Ideal) c 0).N) : ((pcfgs (F := Ideal) 0).win (adm (F := Ideal) c 0) (0 : Fin 3)).index t = ![0, 0] := by
  have h : ∀ t : Fin grid0.N, cc0_transform_0 (grid0.coords t) = ![0, 0] := by decide
  exact h t
theorem i0_1 (t : Fin (cfgAt (F := Ideal) c 0).N) : ((pcfgs (F := Ideal) 0).win (adm (F := Ideal) c 0) (1 : Fin 3)).index t = ![0, 0] := by
  have h : ∀ t : Fin grid0.N, cc0_transform_1 (grid0.coords t) = ![0, 0] := by decide
  exact h t
theorem i0_2 (t : Fin (cfgAt (F := Ideal) c 0).N) : ((pcfgs (F := Ideal) 0).win (adm (F := Ideal) c 0) (2 : Fin 3)).index t = ![0, 0] := by
  have h : ∀ t : Fin grid0.N, cc0_transform_2 (grid0.coords t) = ![0, 0] := by decide
  exact h t
theorem i2_0 (t : Fin (cfgAt (F := Ideal) c 2).N) : ((pcfgs (F := Ideal) 2).win (adm (F := Ideal) c 2) (0 : Fin 3)).index t = ![0, 0] := by
  have h : ∀ t : Fin grid2.N, cc2_transform_0 (grid2.coords t) = ![0, 0] := by decide
  exact h t
theorem i2_1 (t : Fin (cfgAt (F := Ideal) c 2).N) : ((pcfgs (F := Ideal) 2).win (adm (F := Ideal) c 2) (1 : Fin 3)).index t = ![0, 4 * (c.val % 2) + t.val] := by
  have h : ∀ t : Fin grid2.N, (grid2.coords t 0).val = t.val := by decide
  refine (ix_2_1 (F := Ideal) c (grid2.coords t)).trans ?_
  rw [h t]
theorem i2_2 (t : Fin (cfgAt (F := Ideal) c 2).N) : ((pcfgs (F := Ideal) 2).win (adm (F := Ideal) c 2) (2 : Fin 3)).index t = ![0, t.val] := by
  have h : ∀ t : Fin grid2.N, cc2_transform_2 (grid2.coords t) = ![0, t.val] := by decide
  exact h t
theorem i3_0 (t : Fin (cfgAt (F := Ideal) c 3).N) : ((pcfgs (F := Ideal) 3).win (adm (F := Ideal) c 3) (0 : Fin 3)).index t = ![0, 0] := by
  have h : ∀ t : Fin grid3.N, cc3_transform_0 (grid3.coords t) = ![0, 0] := by decide
  exact h t
theorem i3_1 (t : Fin (cfgAt (F := Ideal) c 3).N) : ((pcfgs (F := Ideal) 3).win (adm (F := Ideal) c 3) (1 : Fin 3)).index t = ![0, 0] := by
  have h : ∀ t : Fin grid3.N, cc3_transform_1 (grid3.coords t) = ![0, 0] := by decide
  exact h t
theorem i3_2 (t : Fin (cfgAt (F := Ideal) c 3).N) : ((pcfgs (F := Ideal) 3).win (adm (F := Ideal) c 3) (2 : Fin 3)).index t = ![0, 0] := by
  have h : ∀ t : Fin grid3.N, cc3_transform_2 (grid3.coords t) = ![0, 0] := by decide
  exact h t
theorem i1_3 (t : Fin (cfgAt (F := Ideal) c 1).N) : ((pcfgs (F := Ideal) 1).win (adm (F := Ideal) c 1) (3 : Fin 8)).index t = ![0, 0] := by
  have h : ∀ t : Fin grid1.N, cc1_transform_3 (grid1.coords t) = ![0, 0] := by decide
  exact h t
theorem i1_7 (t : Fin (cfgAt (F := Ideal) c 1).N) : ((pcfgs (F := Ideal) 1).win (adm (F := Ideal) c 1) (7 : Fin 8)).index t = ![0, t.val] := by
  have h : ∀ t : Fin grid1.N, cc1_transform_7 (grid1.coords t) = ![0, t.val] := by decide
  exact h t
theorem i1_0 (t : Fin (cfgAt (F := Ideal) c 1).N) : ((pcfgs (F := Ideal) 1).win (adm (F := Ideal) c 1) (0 : Fin 8)).index t = ![0, 0] := by
  have h : ∀ t : Fin grid1.N, cc1_transform_0 (grid1.coords t) = ![0, 0] := by decide
  exact h t
theorem i1_1 (t : Fin (cfgAt (F := Ideal) c 1).N) : ((pcfgs (F := Ideal) 1).win (adm (F := Ideal) c 1) (1 : Fin 8)).index t = ![0, c.val % 2] :=
  ix_1_1 (F := Ideal) c (grid1.coords t)
theorem i1_2 (t : Fin (cfgAt (F := Ideal) c 1).N) : ((pcfgs (F := Ideal) 1).win (adm (F := Ideal) c 1) (2 : Fin 8)).index t = ![0, c.val % 2] :=
  ix_1_2 (F := Ideal) c (grid1.coords t)
theorem i1_4 (t : Fin (cfgAt (F := Ideal) c 1).N) : ((pcfgs (F := Ideal) 1).win (adm (F := Ideal) c 1) (4 : Fin 8)).index t = ![0, 8 * (c.val % 2) + t.val] := by
  have h : ∀ t : Fin grid1.N, (grid1.coords t 0).val = t.val := by decide
  refine (ix_1_4 (F := Ideal) c (grid1.coords t)).trans ?_
  rw [h t]
theorem i4_0 (t : Fin (cfgAt (F := Ideal) c 4).N) : ((pcfgs (F := Ideal) 4).win (adm (F := Ideal) c 4) (0 : Fin 6)).index t = ![t.val / 16, t.val % 16] := by
  have h : ∀ t : Fin grid4.N, cc4_transform_0 (grid4.coords t) = ![t.val / 16, t.val % 16] := by decide
  exact h t
theorem i4_1 (t : Fin (cfgAt (F := Ideal) c 4).N) : ((pcfgs (F := Ideal) 4).win (adm (F := Ideal) c 4) (1 : Fin 6)).index t = ![t.val / 16, t.val % 16] := by
  have h : ∀ t : Fin grid4.N, cc4_transform_1 (grid4.coords t) = ![t.val / 16, t.val % 16] := by decide
  exact h t
theorem i4_2 (t : Fin (cfgAt (F := Ideal) c 4).N) : ((pcfgs (F := Ideal) 4).win (adm (F := Ideal) c 4) (2 : Fin 6)).index t = ![t.val / 16, t.val % 16] := by
  have h : ∀ t : Fin grid4.N, cc4_transform_2 (grid4.coords t) = ![t.val / 16, t.val % 16] := by decide
  exact h t
theorem i4_3 (t : Fin (cfgAt (F := Ideal) c 4).N) : ((pcfgs (F := Ideal) 4).win (adm (F := Ideal) c 4) (3 : Fin 6)).index t = ![t.val / 16, 0] := by
  have h : ∀ t : Fin grid4.N, cc4_transform_3 (grid4.coords t) = ![t.val / 16, 0] := by decide
  exact h t
theorem i4_4 (t : Fin (cfgAt (F := Ideal) c 4).N) : ((pcfgs (F := Ideal) 4).win (adm (F := Ideal) c 4) (4 : Fin 6)).index t = ![t.val / 16, t.val % 16] := by
  have h : ∀ t : Fin grid4.N, cc4_transform_4 (grid4.coords t) = ![t.val / 16, t.val % 16] := by decide
  exact h t
theorem i4_5 (t : Fin (cfgAt (F := Ideal) c 4).N) : ((pcfgs (F := Ideal) 4).win (adm (F := Ideal) c 4) (5 : Fin 6)).index t = ![t.val / 16, t.val % 16] := by
  have h : ∀ t : Fin grid4.N, cc4_transform_5 (grid4.coords t) = ![t.val / 16, t.val % 16] := by decide
  exact h t
theorem i5_0 (t : Fin (cfgAt (F := Ideal) c 5).N) : ((pcfgs (F := Ideal) 5).win (adm (F := Ideal) c 5) (0 : Fin 3)).index t = ![0, min t.val 3] := by
  have h : ∀ t : Fin grid5.N, cc5_transform_0 (grid5.coords t) = ![0, min t.val 3] := by decide
  exact h t
theorem i5_1 (t : Fin (cfgAt (F := Ideal) c 5).N) : ((pcfgs (F := Ideal) 5).win (adm (F := Ideal) c 5) (1 : Fin 3)).index t = ![4 * (c.val % 2) + min t.val 3, 0] := by
  have h : ∀ t : Fin grid5.N, (grid5.coords t 0).val = t.val := by decide
  refine (ix_5_1 (F := Ideal) c (grid5.coords t)).trans ?_
  rw [h t]
theorem i5_2 (t : Fin (cfgAt (F := Ideal) c 5).N) : ((pcfgs (F := Ideal) 5).win (adm (F := Ideal) c 5) (2 : Fin 3)).index t = ![0, 0] := by
  have h : ∀ t : Fin grid5.N, cc5_transform_2 (grid5.coords t) = ![0, 0] := by decide
  exact h t

/-! ## The calls -/

/-- The latent rows a device computes: the product of the tokens with its block of columns. -/
theorem region0 (D : CellTallies nD τ sig Unit) : afterRegion (dat0 c V D) V main_v6 = fun i : S1024x128.Idx =>
    mm (n := 1024) (K := 4096) (q := 128) (V main_v1) (V main_arg1) (i 0) (i 1) := by
  refine (Pipeline.afterRegion_arr (dat0 c V D) V Gen.winFacts0.arr_inj (2 : Fin 3)).trans ?_
  have hc : ((cfgAt (F := Ideal) 0 0).win (2 : Fin 3)).Covers := by decide +kernel
  refine (dat0 c V D).arrAt_eq_of_covers (2 : Fin 3) _ hc fun t hf y => ?_
  show Gen.k0_pay1 (blkOf 0 c V (0 : Fin 3) t) (blkOf 0 c V (1 : Fin 3) t) _ = _
  pointwise [Gen.k0_pay1, mm]
  refine Finset.sum_congr rfl fun k _ => congrArg₂ (· * ·) ?_ ?_
  · blk_ext [blkOf] <;> simp [i0_0, i0_2]
  · blk_ext [blkOf] <;> simp [i0_1, i0_2] <;> omega

/-- The position part of the queries of a device's heads. -/
theorem region2 (D : CellTallies nD τ sig Unit) : afterRegion (dat2 c V D) V main_v10 = fun i : S1024x1024.Idx =>
    mm (n := 1024) (K := 4096) (q := 2048) (V main_v1) (V main_arg5) (i 0) (lane 2 1024 (c.val % 2) (Nat.mod_lt _ (by decide)) (i 1)) := by
  refine (Pipeline.afterRegion_arr (dat2 c V D) V Gen.winFacts2.arr_inj (2 : Fin 3)).trans ?_
  have hc : ((cfgAt (F := Ideal) 0 2).win (2 : Fin 3)).Covers := by decide +kernel
  refine (dat2 c V D).arrAt_eq_of_covers (2 : Fin 3) _ hc fun t hf y => ?_
  show Gen.k2_pay1 (blkOf 2 c V (0 : Fin 3) t) (blkOf 2 c V (1 : Fin 3) t) _ = _
  pointwise [Gen.k2_pay1, mm]
  refine Finset.sum_congr rfl fun k _ => congrArg₂ (· * ·) ?_ ?_
  · blk_ext [blkOf] <;> simp [i2_0, i2_2]
  · blk_ext [blkOf] <;> simp [i2_1, i2_2] <;> omega

/-- The position part of the keys. -/
theorem region3 (D : CellTallies nD τ sig Unit) : afterRegion (dat3 c V D) V main_v11 = fun i : S1024x64.Idx =>
    mm (n := 1024) (K := 4096) (q := 64) (V main_v1) (V main_arg6) (i 0) (i 1) := by
  refine (Pipeline.afterRegion_arr (dat3 c V D) V Gen.winFacts3.arr_inj (2 : Fin 3)).trans ?_
  have hc : ((cfgAt (F := Ideal) 0 3).win (2 : Fin 3)).Covers := by decide +kernel
  refine (dat3 c V D).arrAt_eq_of_covers (2 : Fin 3) _ hc fun t hf y => ?_
  show Gen.k3_pay1 (blkOf 3 c V (0 : Fin 3) t) (blkOf 3 c V (1 : Fin 3) t) _ = _
  pointwise [Gen.k3_pay1, mm]
  refine Finset.sum_congr rfl fun k _ => congrArg₂ (· * ·) ?_ ?_
  · blk_ext [blkOf] <;> simp [i3_0, i3_2]
  · blk_ext [blkOf] <;> simp [i3_1, i3_2] <;> omega

end Cert.Values
-- ==== Proof.Stages2.lean ====
/- What the two calls that talk leave in their result arrays, over the extended reals: a device's own share
   of a sum and its partner's. -/
module

public import proofs.«01_k».proof.Proof.Stages
public import Idealize.ShloMosaic.Lib.Pointwise
public import Idealize.ShloMosaic.Lib.Pipeline.ValueKit

@[expose] public section

set_option maxRecDepth 16384

noncomputable section

namespace Cert.Values

open Idealize.ShloMosaic Idealize.ShloMosaic.TcCoe
open Cert.KernelIdeal hiding ix2
open Idealize.ShloMosaic.Pipeline (Dat Cfg arrRef afterRegion)
open Cert.KernelIdeal.Facts₀ Cert.KernelIdeal.Facts

variable (c : Dev nD) (V : Valuation τ sig (Elt Ideal))

/-- A block with its partner's rounded block added: over the extended reals the rounding changes nothing. -/
theorem plus_half (P P' : S1024x2048.Idx → EReal) (i : S1024x2048.Idx) :
    (plus (F := Ideal) P (halfOf (F := Ideal) P') : S1024x2048.Idx → EReal) i = P i + P' i := by
  idx_vars i
  pointwise [plus, halfOf]
  exact congrArg (fun k => P (ix2 i0 i1) + P' (ix2 i0 k)) (Fin.ext (Nat.div_add_mod _ _))

/-- The device's share of the keys: its latent rows against its columns. -/
theorem kOf_at (i : S1024x2048.Idx) : (kOf c V : S1024x2048.Idx → EReal) i
    = mm (n := 1024) (K := 128) (q := 4096) (V main_v6) (V main_arg2) (i 0) (lane 2 2048 (c.val % 2) (Nat.mod_lt _ (by decide)) (i 1)) := by
  idx_vars i
  unfold kOf
  pointwise [Gen.k1_pay2, mm]
  refine Finset.sum_congr rfl fun k _ => congrArg₂ (· * ·) ?_ ?_
  · blk_ext [blkOf] <;> simp [i1_0]
  · blk_ext [blkOf] <;> simp [i1_1] <;> omega

/-- The device's share of the values. -/
theorem vOf_at (i : S1024x2048.Idx) : (vOf c V : S1024x2048.Idx → EReal) i
    = mm (n := 1024) (K := 128) (q := 4096) (V main_v6) (V main_arg3) (i 0) (lane 2 2048 (c.val % 2) (Nat.mod_lt _ (by decide)) (i 1)) := by
  idx_vars i
  unfold vOf
  pointwise [Gen.k1_pay3, mm]
  refine Finset.sum_congr rfl fun k _ => congrArg₂ (· * ·) ?_ ?_
  · blk_ext [blkOf] <;> simp [i1_0]
  · blk_ext [blkOf] <;> simp [i1_2] <;> omega

variable (KS VS : Dev nD → C4 Ideal) (SN : Dev nD → C5 Ideal)

/-- The last point of the projection call. -/
abbrev last1 : Fin (cfgAt (F := Ideal) c 1).N := ⟨7, by rw [show (cfgAt (F := Ideal) c 1).N = 8 from Gen.N_1]; decide⟩

/-- The keys: the device's share and its partner's. -/
theorem region1_k : afterRegion (dat1 KS VS SN c V) V main_v8_0 = plus (kOf c V) (KS (px c)) := by
  refine (Pipeline.afterRegion_arr (dat1 KS VS SN c V) V Gen.winFacts1.arr_inj (5 : Fin 8)).trans ?_
  have hw : ((cfgAt (F := Ideal) 0 1).win (5 : Fin 8)).WholeAt (last1 0) := by decide +kernel
  refine (dat1 KS VS SN c V).arrAt_eq_of_after_last (5 : Fin 8) (last1 c) hw _ fun j => ?_
  rfl

/-- The values: the device's share and its partner's. -/
theorem region1_v : afterRegion (dat1 KS VS SN c V) V main_v8_1 = plus (vOf c V) (VS (px c)) := by
  refine (Pipeline.afterRegion_arr (dat1 KS VS SN c V) V Gen.winFacts1.arr_inj (6 : Fin 8)).trans ?_
  have hw : ((cfgAt (F := Ideal) 0 1).win (6 : Fin 8)).WholeAt (last1 0) := by decide +kernel
  refine (dat1 KS VS SN c V).arrAt_eq_of_after_last (6 : Fin 8) (last1 c) hw _ fun j => ?_
  rfl

/-- The content part of the queries of a device's heads. -/
theorem region1_q : afterRegion (dat1 KS VS SN c V) V main_v8_2 = fun i : S1024x2048.Idx =>
    mm (n := 1024) (K := 4096) (q := 4096) (V main_v1) (V main_arg4) (i 0) (lane 2 2048 (c.val % 2) (Nat.mod_lt _ (by decide)) (i 1)) := by
  refine (Pipeline.afterRegion_arr (dat1 KS VS SN c V) V Gen.winFacts1.arr_inj (7 : Fin 8)).trans ?_
  have hc : ((cfgAt (F := Ideal) 0 1).win (7 : Fin 8)).Covers := by decide +kernel
  refine (dat1 KS VS SN c V).arrAt_eq_of_covers (7 : Fin 8) _ hc fun t hf y => ?_
  show Gen.k1_pay1 (blkOf 1 c V (3 : Fin 8) t) (blkOf 1 c V (4 : Fin 8) t) _ = _
  pointwise [Gen.k1_pay1, mm]
  refine Finset.sum_congr rfl fun k _ => congrArg₂ (· * ·) ?_ ?_
  · blk_ext [blkOf] <;> simp [i1_3, i1_7]
  · blk_ext [blkOf] <;> simp [i1_4, i1_7] <;> omega

/-- A sum over 2048 lanes, block by block of 512. -/
theorem sum_four (f : Fin 2048 → EReal) : ∑ k, f k = ((∑ k : Fin 512, f ⟨k.val, by omega⟩ + ∑ k : Fin 512, f ⟨512 + k.val, by omega⟩)
    + ∑ k : Fin 512, f ⟨1024 + k.val, by omega⟩) + ∑ k : Fin 512, f ⟨1536 + k.val, by omega⟩ := by
  rw [Fin.sum_univ_two_halves 1024 1024 rfl f, Fin.sum_univ_two_halves 512 512 rfl (fun k : Fin 1024 => f ⟨k.val, by omega⟩),
    Fin.sum_univ_two_halves 512 512 rfl (fun k : Fin 1024 => f ⟨1024 + k.val, by omega⟩), ← add_assoc]
  simp only [← Nat.add_assoc]

/-- An element of a product with half `y` of the rows of `W`. -/
def mmHalf (y : ℕ) (hy : y < 2) (X : S1024x2048.Idx → EReal) (W : S4096x4096.Idx → EReal) (i : Fin 1024) (j : Fin 4096) : EReal :=
  ∑ k : Fin 2048, X (ix2 i k) * W (ix2 (lane 2 2048 y hy k) j)

/-- The device's share of the output: its half of the attended lanes against its half of the rows. -/
theorem acc5_at (i : S1024x4096.Idx) : (acc5 c V 3 : S1024x4096.Idx → EReal) i
    = mmHalf (c.val % 2) (Nat.mod_lt _ (by decide)) (V main_v16) (V main_arg7) (i 0) (i 1) := by
  idx_vars i
  unfold mmHalf
  refine Eq.trans ?_ (sum_four _).symm
  unfold acc5 acc5 acc5 acc5
  pointwise [Gen.k5_pay1, Gen.k5_pay2]
  refine congrArg₂ (· + ·) (congrArg₂ (· + ·) (congrArg₂ (· + ·) ?_ ?_) ?_) ?_ <;>
    refine Finset.sum_congr rfl fun k _ => congrArg₂ (· * ·) ?_ ?_ <;>
    blk_ext [blkOf] <;> simp [i5_0, i5_1, at5] <;> omega

/-- The output rows: the device's share and its partner's. -/
theorem region5 : afterRegion (dat5 KS VS SN c V) V main_v18 = Gen.k5_pay4 (acc5 c V 3) (SN (py c)) := by
  refine (Pipeline.afterRegion_arr (dat5 KS VS SN c V) V Gen.winFacts5.arr_inj (2 : Fin 3)).trans ?_
  have hw : ((cfgAt (F := Ideal) 0 5).win (2 : Fin 3)).WholeAt (at5 0 4) := by decide +kernel
  refine (dat5 KS VS SN c V).arrAt_eq_of_after_last (2 : Fin 3) (at5 c 4) hw _ fun j => ?_
  rfl

end Cert.Values
-- ==== Proof.Pure.lean ====
/- The attention layer as sums and products over the extended reals: what one element of the result is, of
   the eight arrays the layer is given. -/
module

public import Idealize.ShloMosaic.Lib.Pointwise

@[expose] public section

noncomputable section

namespace Cert.Values

open Idealize.ShloMosaic

/-- Arrays of extended reals of two and of three axes. -/
abbrev A2 (n k : ℕ) : Type := (⟨2, ![n, k]⟩ : Shape).Idx → EReal
abbrev A3 (n k l : ℕ) : Type := (⟨3, ![n, k, l]⟩ : Shape).Idx → EReal

/-- A token's row times a column. -/
def pr {q : ℕ} (a0 : A3 4 256 4096) (w : A2 4096 q) (b : Fin 4) (s : Fin 256) (j : Fin q) : EReal :=
  ∑ k : Fin 4096, a0 (ix3 b s k) * w (ix2 k j)

/-- A token's latent row times a column. -/
def up (a0 : A3 4 256 4096) (a1 : A2 4096 256) (w : A2 256 4096) (b : Fin 4) (s : Fin 256) (j : Fin 4096) : EReal :=
  ∑ l : Fin 256, pr a0 a1 b s l * w (ix2 l j)

/-- Lane `d` of head `h`, of the content part and of the position part. -/
def hl (h : ℕ) (hh : h < 32) (d : Fin 128) : Fin 4096 := ⟨h * 128 + d.val, by omega⟩
def hr (h : ℕ) (hh : h < 32) (d : Fin 64) : Fin 2048 := ⟨h * 64 + d.val, by omega⟩

/-- A row of weights, normalised by the exponentials, against a column of values. -/
def soft (s v : Fin 256 → EReal) : EReal :=
  ∑ x : Fin 256, v x * Ideal.div (Ideal.exp (s x - Finset.fold max (Ideal.ofBits FTy.f32 4286578688#32) s Finset.univ))
    (∑ x' : Fin 256, Ideal.exp (s x' - Finset.fold max (Ideal.ofBits FTy.f32 4286578688#32) s Finset.univ))

section
variable (a0 : A3 4 256 4096) (a1 : A2 4096 256) (a2 a3 : A2 256 4096) (a4 : A2 4096 4096) (a5 : A2 4096 2048) (a6 : A2 4096 64) (a7 : A2 4096 4096)

/-- The scaled score of query `q` and key `k` in head `h`. -/
def score (b : Fin 4) (q : Fin 256) (h : ℕ) (hh : h < 32) (k : Fin 256) : EReal :=
  (∑ d : Fin 128, pr a0 a4 b q (hl h hh d) * up a0 a1 a2 b k (hl h hh d) + ∑ d : Fin 64, pr a0 a5 b q (hr h hh d) * pr a0 a6 b k d)
    * Ideal.ofBits FTy.f32 1033096506#32

/-- The attended value of query `q` at lane `d` of head `h`. -/
def att (b : Fin 4) (q : Fin 256) (h : ℕ) (hh : h < 32) (d : Fin 128) : EReal :=
  soft (score a0 a1 a2 a4 a5 a6 b q h hh) (fun k => up a0 a1 a3 b k (hl h hh d))

/-- The result. -/
def layer : A3 4 256 4096 := fun i =>
  ∑ j : Fin 4096, att a0 a1 a2 a3 a4 a5 a6 (i 0) (i 1) (j.val / 128) (by omega) ⟨j.val % 128, Nat.mod_lt _ (by decide)⟩ * a7 (ix2 j (i 2))

end
end Cert.Values
-- ==== Proof.Attend.lean ====
/- What the attention call leaves in its result array, over the extended reals. -/
module

public import proofs.«01_k».proof.Proof.Stages2
public import proofs.«01_k».proof.Proof.Pure
public import Idealize.ShloMosaic.Lib.Pointwise
public import Idealize.ShloMosaic.Lib.Pipeline.ValueKit

@[expose] public section

set_option maxRecDepth 16384

noncomputable section

namespace Cert.Values

open Idealize.ShloMosaic Idealize.ShloMosaic.TcCoe
open Cert.KernelIdeal hiding ix2
open Idealize.ShloMosaic.Pipeline (Dat Cfg arrRef afterRegion)
open Cert.KernelIdeal.Facts₀ Cert.KernelIdeal.Facts

variable (c : Dev nD) (V : Valuation τ sig (Elt Ideal))

/-- One block of the attention call: softmax of the scaled scores against the values. -/
theorem k4_at (q k qr kr v : S256x128.Idx → EReal) (i : Fin 256) (j : Fin 128) : (Gen.k4_pay1 (F := Ideal) q k qr kr v : S256x128.Idx → EReal) (ix2 i j)
    = soft (fun x => (∑ d : Fin 128, q (ix2 i d) * k (ix2 x d) + ∑ d : Fin 128, qr (ix2 i d) * kr (ix2 x d)) * Ideal.ofBits FTy.f32 1033096506#32)
        (fun x => v (ix2 x j)) := by
  pointwise [Gen.k4_pay1]
  unfold soft
  exact Finset.sum_congr rfl fun _ _ => mul_comm _ _

/-- Row `x` of the batch that row `i` lies in, and lane `d` of the head that lane `j` lies in. -/
abbrev rowOf (i : Fin 1024) (x : Fin 256) : Fin 1024 := ⟨i.val / 256 * 256 + x.val, by omega⟩
abbrev headOf (j : Fin 2048) (d : Fin 128) : Fin 2048 := ⟨j.val / 128 * 128 + d.val, by omega⟩

/-- The attended value at row `i` and lane `j`, of the call's five arrays. -/
def attend (q k v qr : A2 1024 2048) (kr : A2 1024 128) (i : Fin 1024) (j : Fin 2048) : EReal :=
  soft (fun x => (∑ d : Fin 128, q (ix2 i (headOf j d)) * k (ix2 (rowOf i x) (headOf j d))
        + ∑ d : Fin 128, qr (ix2 i (headOf j d)) * kr (ix2 (rowOf i x) d)) * Ideal.ofBits FTy.f32 1033096506#32)
    (fun x => v (ix2 (rowOf i x) j))

set_option maxHeartbeats 4000000 in
/-- The attended values. -/
theorem region4 (D : CellTallies nD τ sig Unit) : afterRegion (dat4 c V D) V main_v16 = fun i : S1024x2048.Idx =>
    attend (V main_v8_2) (V main_v8_0) (V main_v8_1) (V main_v14) (V main_v15) (i 0) (i 1) := by
  refine (Pipeline.afterRegion_arr (dat4 c V D) V Gen.winFacts4.arr_inj (5 : Fin 6)).trans ?_
  have hc : ((cfgAt (F := Ideal) 0 4).win (5 : Fin 6)).Covers := by decide +kernel
  refine (dat4 c V D).arrAt_eq_of_covers (5 : Fin 6) _ hc fun t hf y => ?_
  show Gen.k4_pay1 (blkOf 4 c V (0 : Fin 6) t) (blkOf 4 c V (2 : Fin 6) t) (blkOf 4 c V (1 : Fin 6) t) (blkOf 4 c V (3 : Fin 6) t) (blkOf 4 c V (4 : Fin 6) t) _ = _
  have ht : t.val < 64 := t.isLt
  idx_vars y
  refine (k4_at _ _ _ _ _ _ _).trans ?_
  unfold attend
  refine congrArg₂ soft (funext fun x => congrArg (· * _) (congrArg₂ (· + ·) (Finset.sum_congr rfl fun d _ => congrArg₂ (· * ·) ?_ ?_) (Finset.sum_congr rfl fun d _ => congrArg₂ (· * ·) ?_ ?_))) (funext fun x => ?_)
  · blk_ext [blkOf] <;> simp [i4_0, i4_5] <;> omega
  · blk_ext [blkOf] <;> simp [i4_2, i4_5] <;> omega
  · blk_ext [blkOf] <;> simp [i4_1, i4_5] <;> omega
  · blk_ext [blkOf] <;> simp [i4_3, i4_5] <;> omega
  · blk_ext [blkOf] <;> simp [i4_4, i4_5] <;> omega

end Cert.Values
-- ==== Proof.Host.lean ====
/- What the host operations around the pallas_calls leave, element by element. -/
module

public import proofs.«01_k».proof.Proof.Attend
public import proofs.«01_k».proof.Proof.Pure
public import Idealize.ShloMosaic.Lib.Pointwise
public import Idealize.ShloMosaic.Lib.Pipeline.ValueKit

@[expose] public section

set_option maxRecDepth 16384

noncomputable section

namespace Cert.Values

open Idealize.ShloMosaic Idealize.ShloMosaic.TcCoe
open Cert.KernelIdeal hiding ix2
open Idealize.ShloMosaic.Pipeline (Dat Cfg arrRef afterRegion)
open Cert.KernelIdeal.Facts₀ Cert.KernelIdeal.Facts

variable (m : (ℓ : Loc nD τ sig) → Buf (Elt Ideal) ℓ) (c : Dev nD)

/-- The flattened tokens: row `i` is token `i % 256` of batch `i / 256`. -/
theorem U1_v1 (i : Fin 1024) (k : Fin 4096) : (U1 m c main_v1 : S1024x4096.Idx → EReal) (ix2 i k)
    = (m ((c : Thread nD τ).loc main_arg0) : S4x256x4096.Idx → EReal) (ix3 ⟨i.val / 256, by omega⟩ ⟨i.val % 256, Nat.mod_lt _ (by decide)⟩ k) := by
  unfold U1
  after_results
  pointwise
  rfl

/-- The number of the zero word. -/
theorem sitofp_zero : (FloatOps.sitofp (F := Ideal) FTy.f32 0#32 : EReal) = 0 := by
  show (((0#32 : BitVec 32).toInt : ℝ) : EReal) = 0
  simp

/-- An array of 64 lanes followed by 64 zeros. -/
theorem pad3_at (x : FVec Ideal S1024x16x64 .f32) (p) (q) (i : Fin 1024) (h : Fin 16) (d : Fin 128) :
    (pad S1024x16x128 ![0, 0, 0] ![0, 0, 64] ![0, 0, 0] x (sitofp (F := Ideal) (s := S_) .f32 (constantI S_ 32 0#32)) p q : S1024x16x128.Idx → EReal) (ix3 i h d)
      = if hd : d.val < 64 then x (ix3 i h ⟨d.val, hd⟩) else (0 : EReal) := by
  pointwise
  rw [sitofp_zero]
theorem pad2_at (x : FVec Ideal S1024x64 .f32) (p) (q) (i : Fin 1024) (d : Fin 128) :
    (pad S1024x128 ![0, 0] ![0, 64] ![0, 0] x (sitofp (F := Ideal) (s := S_) .f32 (constantI S_ 32 0#32)) p q : S1024x128.Idx → EReal) (ix2 i d)
      = if hd : d.val < 64 then x (ix2 i ⟨d.val, hd⟩) else (0 : EReal) := by
  pointwise
  rw [sitofp_zero]

/-- The position part of the queries, head by head, each head's 64 lanes followed by 64 zeros. -/
theorem U9_v13 (i : Fin 1024) (h : Fin 16) (d : Fin 128) : (U9 m c main_v13 : S1024x16x128.Idx → EReal) (ix3 i h d)
    = if hd : d.val < 64 then (U7 m c main_v10 : S1024x1024.Idx → EReal) (ix2 i ⟨h.val * 64 + d.val, by omega⟩) else (0 : EReal) := by
  have hz : U8 m c main_c_1 = constantI S_ 32 0#32 := by unfold U8; after_results
  have hx : ∀ d' : Fin 64, (U8 m c main_v12 : S1024x16x64.Idx → EReal) (ix3 i h d') = (U7 m c main_v10 : S1024x1024.Idx → EReal) (ix2 i ⟨h.val * 64 + d'.val, by omega⟩) := by
    intro d'
    unfold U8
    after_results
    pointwise
  unfold U9
  after_results
  rw [hz]
  refine (pad3_at (U8 m c main_v12) Gen.pads_S1024x16x64_S1024x16x128_000_000_0640 Gen.h_S_ i h d).trans ?_
  split
  · exact hx _
  · rfl

/-- The same as one array of rows. -/
theorem U11_v14 (i : Fin 1024) (j : Fin 2048) (hd : j.val % 128 < 64) : (U11 m c main_v14 : S1024x2048.Idx → EReal) (ix2 i j)
    = (U7 m c main_v10 : S1024x1024.Idx → EReal) (ix2 i ⟨j.val / 128 * 64 + j.val % 128, by omega⟩) := by
  rw [U11_of m c main_v14 (by decide)]
  unfold U10
  after_results
  pointwise
  exact (U9_v13 m c _ _ _).trans (dif_pos hd)
theorem U11_v14_zero (i : Fin 1024) (j : Fin 2048) (hd : ¬ j.val % 128 < 64) : (U11 m c main_v14 : S1024x2048.Idx → EReal) (ix2 i j) = (0 : EReal) := by
  rw [U11_of m c main_v14 (by decide)]
  unfold U10
  after_results
  pointwise
  exact (U9_v13 m c _ _ _).trans (dif_neg hd)

/-- The position part of the keys, its 64 lanes followed by 64 zeros. -/
theorem U11_v15 (i : Fin 1024) (d : Fin 128) (hd : d.val < 64) : (U11 m c main_v15 : S1024x128.Idx → EReal) (ix2 i d)
    = (U7 m c main_v11 : S1024x64.Idx → EReal) (ix2 i ⟨d.val, hd⟩) := by
  have hz : U10 m c main_c_2 = constantI S_ 32 0#32 := by unfold U10; after_results
  have h7 : U10 m c main_v11 = U7 m c main_v11 := (U10_of m c main_v11 (by decide)).trans ((U9_of m c main_v11 (by decide)).trans (U8_of m c main_v11 (by decide)))
  unfold U11
  after_results
  rw [hz, h7]
  exact (pad2_at (U7 m c main_v11) Gen.pads_S1024x64_S1024x128_000_0640 Gen.h_S_ i d).trans (dif_pos hd)

/-- The result: the output rows, batch by batch. -/
theorem U15_v19 (b : Fin 4) (s : Fin 256) (n : Fin 4096) : (U15 m c main_v19 : S4x256x4096.Idx → EReal) (ix3 b s n)
    = (U14 m c main_v18 : S1024x4096.Idx → EReal) (ix2 ⟨b.val * 256 + s.val, by omega⟩ n) := by
  unfold U15
  after_results
  pointwise

end Cert.Values
-- ==== Proof.Heads.lean ====
/- What each device's arrays hold of the whole arrays: its latent lanes, its keys, values and queries. -/
module

public import proofs.«01_k».proof.Proof.Host
public import proofs.«01_k».proof.Proof.Pure
public import Idealize.ShloMosaic.Lib.Pointwise
public import Idealize.ShloMosaic.Lib.Pipeline.ValueKit

@[expose] public section

set_option maxRecDepth 16384

noncomputable section

namespace Cert.Values

open Idealize.ShloMosaic Idealize.ShloMosaic.TcCoe
open Cert.KernelIdeal hiding ix2
open Idealize.ShloMosaic.Pipeline (Dat Cfg arrRef afterRegion)
open Cert.KernelIdeal.Facts₀ Cert.KernelIdeal.Facts

variable (m : (ℓ : Loc nD τ sig) → Buf (Elt Ideal) ℓ) (c : Dev nD)
variable {a0 : A3 4 256 4096} {a1 : A2 4096 256} {a2 a3 : A2 256 4096} {a4 : A2 4096 4096} {a5 : A2 4096 2048} {a6 : A2 4096 64} {a7 : A2 4096 4096}

/-- The batch and the token of a row; a device's latent lane `l`, its content lane `j` and its position lane `j` among all of them. -/
abbrev bt (i : Fin 1024) : Fin 4 := ⟨i.val / 256, by omega⟩
abbrev tk (i : Fin 1024) : Fin 256 := ⟨i.val % 256, Nat.mod_lt _ (by decide)⟩
abbrev lt (l : Fin 128) : Fin 256 := ⟨c.val / 2 * 128 + l.val, by have : c.val < 4 := c.isLt; omega⟩
abbrev col (j : Fin 2048) : Fin 4096 := ⟨c.val % 2 * 2048 + j.val, by omega⟩
abbrev colr (j : Fin 1024) : Fin 2048 := ⟨c.val % 2 * 1024 + j.val, by omega⟩

/-- A product's element, of what its row and its column hold. -/
theorem mm_of {n K q : ℕ} (X : (⟨2, ![n, K]⟩ : Shape).Idx → EReal) (W : (⟨2, ![K, q]⟩ : Shape).Idx → EReal) (i : Fin n) (j : Fin q) {Y Z : Fin K → EReal}
    (hX : ∀ k, X (ix2 i k) = Y k) (hW : ∀ k, W (ix2 k j) = Z k) : mm X W i j = ∑ k : Fin K, Y k * Z k :=
  Finset.sum_congr rfl fun k _ => congrArg₂ (· * ·) (hX k) (hW k)

/-- What the devices' arguments hold of the eight arrays. -/
structure Given (a0 : A3 4 256 4096) (a1 : A2 4096 256) (a2 a3 : A2 256 4096) (a4 : A2 4096 4096) (a5 : A2 4096 2048) (a6 : A2 4096 64) (a7 : A2 4096 4096) : Prop where
  h0 : ∀ c : Dev nD, (m ((c : Thread nD τ).loc main_arg0) : S4x256x4096.Idx → EReal) = a0
  h1 : ∀ (c : Dev nD) (k : Fin 4096) (l : Fin 128), (m ((c : Thread nD τ).loc main_arg1) : S4096x128.Idx → EReal) (ix2 k l) = a1 (ix2 k (lt c l))
  h2 : ∀ (c : Dev nD) (l : Fin 128) (j : Fin 4096), (m ((c : Thread nD τ).loc main_arg2) : S128x4096.Idx → EReal) (ix2 l j) = a2 (ix2 (lt c l) j)
  h3 : ∀ (c : Dev nD) (l : Fin 128) (j : Fin 4096), (m ((c : Thread nD τ).loc main_arg3) : S128x4096.Idx → EReal) (ix2 l j) = a3 (ix2 (lt c l) j)
  h4 : ∀ c : Dev nD, (m ((c : Thread nD τ).loc main_arg4) : S4096x4096.Idx → EReal) = a4
  h5 : ∀ c : Dev nD, (m ((c : Thread nD τ).loc main_arg5) : S4096x2048.Idx → EReal) = a5
  h6 : ∀ c : Dev nD, (m ((c : Thread nD τ).loc main_arg6) : S4096x64.Idx → EReal) = a6
  h7 : ∀ c : Dev nD, (m ((c : Thread nD τ).loc main_arg7) : S4096x4096.Idx → EReal) = a7

variable (H : Given m a0 a1 a2 a3 a4 a5 a6 a7)
include H

/-- The device's latent lanes. -/
theorem v6_at (i : Fin 1024) (l : Fin 128) : (U2 m c main_v6 : S1024x128.Idx → EReal) (ix2 i l) = pr a0 a1 (bt i) (tk i) (lt c l) := by
  refine (congrFun (region0 c (U1 m c) (oweT c)) (ix2 i l)).trans ?_
  exact mm_of (n := 1024) (K := 4096) (q := 128) (U1 m c main_v1) (U1 m c main_arg1) i l (fun k => (U1_v1 m c i k).trans (congrFun (H.h0 c) _))
    (fun k => (congrFun (U1_of m c main_arg1 (by decide)) (ix2 k l)).trans (H.h1 c k l))

omit H in
/-- A device's share of a sum over the latent lanes. -/
def share (a0 : A3 4 256 4096) (a1 : A2 4096 256) (w : A2 256 4096) (b : Fin 4) (s : Fin 256) (j : Fin 4096) : EReal :=
  ∑ l : Fin 128, pr a0 a1 b s (lt c l) * w (ix2 (lt c l) j)

omit H in
/-- A device's share and its partner's are the whole sum. -/
theorem share_add (w : A2 256 4096) (b : Fin 4) (s : Fin 256) (j : Fin 4096) : share c a0 a1 w b s j + share (px c) a0 a1 w b s j = up a0 a1 w b s j := by
  unfold up
  rw [Fin.sum_univ_two_halves 128 128 rfl]
  have lo : ∀ d : Dev nD, d.val / 2 = 0 → share d a0 a1 w b s j = ∑ l : Fin 128, pr a0 a1 b s ⟨l.val, by omega⟩ * w (ix2 ⟨l.val, by omega⟩ j) := fun d hd =>
    Finset.sum_congr rfl fun l _ => congrArg (fun l' : Fin 256 => pr a0 a1 b s l' * w (ix2 l' j)) (Fin.ext (by show d.val / 2 * 128 + l.val = l.val; omega))
  have hi : ∀ d : Dev nD, d.val / 2 = 1 → share d a0 a1 w b s j = ∑ l : Fin 128, pr a0 a1 b s ⟨128 + l.val, by omega⟩ * w (ix2 ⟨128 + l.val, by omega⟩ j) := fun d hd =>
    Finset.sum_congr rfl fun l _ => congrArg (fun l' : Fin 256 => pr a0 a1 b s l' * w (ix2 l' j)) (Fin.ext (by show d.val / 2 * 128 + l.val = 128 + l.val; omega))
  match c with
  | 0 => rw [lo 0 rfl, hi (px 0) rfl]
  | 1 => rw [lo 1 rfl, hi (px 1) rfl]
  | 2 => rw [hi 2 rfl, lo (px 2) rfl, add_comm]
  | 3 => rw [hi 3 rfl, lo (px 3) rfl, add_comm]

/-- A device's shares of the keys and of the values. -/
theorem k_at (i : Fin 1024) (j : Fin 2048) : (kOf c (U3 m c) : S1024x2048.Idx → EReal) (ix2 i j) = share c a0 a1 a2 (bt i) (tk i) (col c j) := by
  refine (kOf_at c (U3 m c) (ix2 i j)).trans ?_
  exact Finset.sum_congr rfl fun l _ => congrArg₂ (· * ·) ((congrFun (U3_of m c main_v6 (by decide)) (ix2 i l)).trans (v6_at m c H i l))
    ((congrFun ((U3_of m c main_arg2 (by decide)).trans ((U2_of m c main_arg2 (by decide)).trans (U1_of m c main_arg2 (by decide)))) (ix2 l (col c j))).trans (H.h2 c l (col c j)))
theorem v_at (i : Fin 1024) (j : Fin 2048) : (vOf c (U3 m c) : S1024x2048.Idx → EReal) (ix2 i j) = share c a0 a1 a3 (bt i) (tk i) (col c j) := by
  refine (vOf_at c (U3 m c) (ix2 i j)).trans ?_
  exact Finset.sum_congr rfl fun l _ => congrArg₂ (· * ·) ((congrFun (U3_of m c main_v6 (by decide)) (ix2 i l)).trans (v6_at m c H i l))
    ((congrFun ((U3_of m c main_arg3 (by decide)).trans ((U2_of m c main_arg3 (by decide)).trans (U1_of m c main_arg3 (by decide)))) (ix2 l (col c j))).trans (H.h3 c l (col c j)))

omit H in
theorem col_px (j : Fin 2048) : col (px c) j = col c j := by
  refine Fin.ext ?_
  show (px c).val % 2 * 2048 + j.val = c.val % 2 * 2048 + j.val
  rw [show (px c).val % 2 = c.val % 2 from by revert c; decide]

/-- The keys and the values of a device's heads. -/
theorem v8_0_at (i : Fin 1024) (j : Fin 2048) : (U4 m c main_v8_0 : S1024x2048.Idx → EReal) (ix2 i j) = up a0 a1 a2 (bt i) (tk i) (col c j) := by
  refine (congrFun (region1_k c (U3 m c) (ksOf m) (vsOf m) (sn0 m)) (ix2 i j)).trans ((plus_half _ _ _).trans ?_)
  refine (congrArg₂ (· + ·) (k_at m c H i j) (k_at m (px c) H i j)).trans ?_
  rw [col_px]
  exact share_add c a2 (bt i) (tk i) (col c j)
theorem v8_1_at (i : Fin 1024) (j : Fin 2048) : (U4 m c main_v8_1 : S1024x2048.Idx → EReal) (ix2 i j) = up a0 a1 a3 (bt i) (tk i) (col c j) := by
  refine (congrFun (region1_v c (U3 m c) (ksOf m) (vsOf m) (sn0 m)) (ix2 i j)).trans ((plus_half _ _ _).trans ?_)
  refine (congrArg₂ (· + ·) (v_at m c H i j) (v_at m (px c) H i j)).trans ?_
  rw [col_px]
  exact share_add c a3 (bt i) (tk i) (col c j)

/-- The tokens' rows, as the later calls find them. -/
theorem U3_v1 (i : Fin 1024) (k : Fin 4096) : (U3 m c main_v1 : S1024x4096.Idx → EReal) (ix2 i k) = a0 (ix3 (bt i) (tk i) k) :=
  (congrFun ((U3_of m c main_v1 (by decide)).trans (U2_of m c main_v1 (by decide))) (ix2 i k)).trans ((U1_v1 m c i k).trans (congrFun (H.h0 c) _))
theorem U5_v1 (i : Fin 1024) (k : Fin 4096) : (U5 m c main_v1 : S1024x4096.Idx → EReal) (ix2 i k) = a0 (ix3 (bt i) (tk i) k) :=
  (congrFun ((U5_of m c main_v1 (by decide)).trans (U4_of m c main_v1 (by decide))) (ix2 i k)).trans (U3_v1 m c H i k)

/-- The content part of the queries, the position part of the queries and of the keys. -/
theorem v8_2_at (i : Fin 1024) (j : Fin 2048) : (U4 m c main_v8_2 : S1024x2048.Idx → EReal) (ix2 i j) = pr a0 a4 (bt i) (tk i) (col c j) := by
  refine (congrFun (region1_q c (U3 m c) (ksOf m) (vsOf m) (sn0 m)) (ix2 i j)).trans ?_
  exact mm_of (n := 1024) (K := 4096) (q := 4096) (U3 m c main_v1) (U3 m c main_arg4) i (col c j) (fun k => U3_v1 m c H i k)
    (fun k => (congrFun ((U3_of m c main_arg4 (by decide)).trans ((U2_of m c main_arg4 (by decide)).trans (U1_of m c main_arg4 (by decide)))) (ix2 k (col c j))).trans (congrFun (H.h4 c) _))
theorem v10_at (i : Fin 1024) (j : Fin 1024) : (U7 m c main_v10 : S1024x1024.Idx → EReal) (ix2 i j) = pr a0 a5 (bt i) (tk i) (colr c j) := by
  refine (congrFun ((U7_of m c main_v10 (by decide)).trans (region2 c (U5 m c) (oweB c))) (ix2 i j)).trans ?_
  exact mm_of (n := 1024) (K := 4096) (q := 2048) (U5 m c main_v1) (U5 m c main_arg5) i (colr c j) (fun k => U5_v1 m c H i k)
    (fun k => (congrFun ((U5_of m c main_arg5 (by decide)).trans ((U4_of m c main_arg5 (by decide)).trans ((U3_of m c main_arg5 (by decide)).trans ((U2_of m c main_arg5 (by decide)).trans (U1_of m c main_arg5 (by decide)))))) (ix2 k (colr c j))).trans (congrFun (H.h5 c) _))
theorem v11_at (i : Fin 1024) (d : Fin 64) : (U7 m c main_v11 : S1024x64.Idx → EReal) (ix2 i d) = pr a0 a6 (bt i) (tk i) d := by
  refine (congrFun (region3 c (U6 m c) (oweB c)) (ix2 i d)).trans ?_
  exact mm_of (n := 1024) (K := 4096) (q := 64) (U6 m c main_v1) (U6 m c main_arg6) i d (fun k => (congrFun (U6_of m c main_v1 (by decide)) (ix2 i k)).trans (U5_v1 m c H i k))
    (fun k => (congrFun ((U6_of m c main_arg6 (by decide)).trans ((U5_of m c main_arg6 (by decide)).trans ((U4_of m c main_arg6 (by decide)).trans ((U3_of m c main_arg6 (by decide)).trans ((U2_of m c main_arg6 (by decide)).trans (U1_of m c main_arg6 (by decide))))))) (ix2 k d)).trans (congrFun (H.h6 c) _))

end Cert.Values
-- ==== Proof.Result.lean ====
/- What each device's result array ends with: the layer of the whole arrays. -/
module

public import proofs.«01_k».proof.Proof.Heads
public import proofs.«01_k».proof.Proof.Pure
public import Idealize.ShloMosaic.Lib.Pointwise
public import Idealize.ShloMosaic.Lib.Pipeline.ValueKit

@[expose] public section

set_option maxRecDepth 16384

noncomputable section

namespace Cert.Values

open Idealize.ShloMosaic Idealize.ShloMosaic.TcCoe
open Cert.KernelIdeal hiding ix2
open Idealize.ShloMosaic.Pipeline (Dat Cfg arrRef afterRegion)
open Cert.KernelIdeal.Facts₀ Cert.KernelIdeal.Facts

variable (m : (ℓ : Loc nD τ sig) → Buf (Elt Ideal) ℓ) (c : Dev nD)
variable {a0 : A3 4 256 4096} {a1 : A2 4096 256} {a2 a3 : A2 256 4096} {a4 : A2 4096 4096} {a5 : A2 4096 2048} {a6 : A2 4096 64} {a7 : A2 4096 4096}

theorem row_bt (i : Fin 1024) (x : Fin 256) : bt (rowOf i x) = bt i := Fin.ext (by show (i.val / 256 * 256 + x.val) / 256 = i.val / 256; omega)
theorem row_tk (i : Fin 1024) (x : Fin 256) : tk (rowOf i x) = x := Fin.ext (by show (i.val / 256 * 256 + x.val) % 256 = x.val; omega)

/-- The head and the lane of a device's content lane. -/
abbrev headAt (j : Fin 2048) : ℕ := (col c j).val / 128
theorem headAt_lt (j : Fin 2048) : headAt c j < 32 := by
  show (c.val % 2 * 2048 + j.val) / 128 < 32
  omega
theorem col_head (j : Fin 2048) (d : Fin 128) : col c (headOf j d) = hl (headAt c j) (headAt_lt c j) d :=
  Fin.ext (by show c.val % 2 * 2048 + (j.val / 128 * 128 + d.val) = (c.val % 2 * 2048 + j.val) / 128 * 128 + d.val; omega)
theorem col_lane (j : Fin 2048) : col c j = hl (headAt c j) (headAt_lt c j) ⟨(col c j).val % 128, Nat.mod_lt _ (by decide)⟩ :=
  Fin.ext (by show c.val % 2 * 2048 + j.val = (c.val % 2 * 2048 + j.val) / 128 * 128 + (c.val % 2 * 2048 + j.val) % 128; omega)

theorem U11_v8_0 : U11 m c main_v8_0 = U4 m c main_v8_0 := (U11_of m c main_v8_0 (by decide)).trans ((U10_of m c main_v8_0 (by decide)).trans ((U9_of m c main_v8_0 (by decide)).trans ((U8_of m c main_v8_0 (by decide)).trans ((U7_of m c main_v8_0 (by decide)).trans ((U6_of m c main_v8_0 (by decide)).trans (U5_of m c main_v8_0 (by decide)))))))
theorem U11_v8_1 : U11 m c main_v8_1 = U4 m c main_v8_1 := (U11_of m c main_v8_1 (by decide)).trans ((U10_of m c main_v8_1 (by decide)).trans ((U9_of m c main_v8_1 (by decide)).trans ((U8_of m c main_v8_1 (by decide)).trans ((U7_of m c main_v8_1 (by decide)).trans ((U6_of m c main_v8_1 (by decide)).trans (U5_of m c main_v8_1 (by decide)))))))
theorem U11_v8_2 : U11 m c main_v8_2 = U4 m c main_v8_2 := (U11_of m c main_v8_2 (by decide)).trans ((U10_of m c main_v8_2 (by decide)).trans ((U9_of m c main_v8_2 (by decide)).trans ((U8_of m c main_v8_2 (by decide)).trans ((U7_of m c main_v8_2 (by decide)).trans ((U6_of m c main_v8_2 (by decide)).trans (U5_of m c main_v8_2 (by decide)))))))

variable (H : Given m a0 a1 a2 a3 a4 a5 a6 a7)
include H

omit H in
/-- The position part of a score as the call sums it. -/
def posSum (X : A2 1024 2048) (Y : A2 1024 128) (i : Fin 1024) (j : Fin 2048) (x : Fin 256) : EReal :=
  ∑ d : Fin 128, X (ix2 i (headOf j d)) * Y (ix2 (rowOf i x) d)

omit H in
/-- Where the last 64 lanes are zeros, they add nothing. -/
theorem posSum_of (X : A2 1024 2048) (Y : A2 1024 128) (i : Fin 1024) (j : Fin 2048) (x : Fin 256) {f g : Fin 64 → EReal}
    (hX : ∀ d : Fin 64, X (ix2 i (headOf j ⟨d.val, by omega⟩)) = f d) (hY : ∀ d : Fin 64, Y (ix2 (rowOf i x) ⟨d.val, by omega⟩) = g d)
    (h0 : ∀ d : Fin 64, X (ix2 i (headOf j ⟨64 + d.val, by omega⟩)) = 0) : posSum X Y i j x = ∑ d : Fin 64, f d * g d := by
  unfold posSum
  rw [Fin.sum_univ_two_halves 64 64 rfl]
  refine (congrArg₂ (· + ·) (Finset.sum_congr rfl fun d _ => congrArg₂ (· * ·) (hX d) (hY d)) (Finset.sum_eq_zero fun d _ => ?_)).trans (add_zero _)
  rw [h0 d, zero_mul]

/-- The position part of a score: 64 lanes. -/
theorem pos_at (i : Fin 1024) (j : Fin 2048) (x : Fin 256) : posSum (U11 m c main_v14) (U11 m c main_v15) i j x
    = ∑ d : Fin 64, pr a0 a5 (bt i) (tk i) (hr (headAt c j) (headAt_lt c j) d) * pr a0 a6 (bt i) x d := by
  refine posSum_of (U11 m c main_v14) (U11 m c main_v15) i j x (fun d => ?_) (fun d => ?_) (fun d => ?_)
  · have h1 : (headOf j ⟨d.val, by omega⟩).val % 128 < 64 := by show (j.val / 128 * 128 + d.val) % 128 < 64; omega
    refine (U11_v14 m c i (headOf j ⟨d.val, by omega⟩) h1).trans ((v10_at m c H i _).trans (congrArg (pr a0 a5 (bt i) (tk i)) (Fin.ext ?_)))
    show c.val % 2 * 1024 + ((j.val / 128 * 128 + d.val) / 128 * 64 + (j.val / 128 * 128 + d.val) % 128) = (c.val % 2 * 2048 + j.val) / 128 * 64 + d.val
    omega
  · refine (U11_v15 m c (rowOf i x) ⟨d.val, by omega⟩ d.isLt).trans ((v11_at m c H (rowOf i x) d).trans ?_)
    rw [row_bt, row_tk]
  · have h1 : ¬ (headOf j ⟨64 + d.val, by omega⟩).val % 128 < 64 := by show ¬ (j.val / 128 * 128 + (64 + d.val)) % 128 < 64; omega
    exact U11_v14_zero m c i (headOf j ⟨64 + d.val, by omega⟩) h1

/-- The attended values of a device's heads. -/
theorem v16_at (i : Fin 1024) (j : Fin 2048) : (U12 m c main_v16 : S1024x2048.Idx → EReal) (ix2 i j)
    = att a0 a1 a2 a3 a4 a5 a6 (bt i) (tk i) (headAt c j) (headAt_lt c j) ⟨(col c j).val % 128, Nat.mod_lt _ (by decide)⟩ := by
  refine (congrFun (region4 c (U11 m c) (oweB c)) (ix2 i j)).trans ?_
  show attend (U11 m c main_v8_2) (U11 m c main_v8_0) (U11 m c main_v8_1) (U11 m c main_v14) (U11 m c main_v15) i j = _
  unfold attend att score
  refine congrArg₂ soft (funext fun x => congrArg (· * _) (congrArg₂ (· + ·) (Finset.sum_congr rfl fun d _ => congrArg₂ (· * ·) ?_ ?_) ?_)) (funext fun x => ?_)
  · rw [← col_head]
    exact (congrFun (U11_v8_2 m c) _).trans (v8_2_at m c H i (headOf j d))
  · rw [← col_head]
    refine (congrFun (U11_v8_0 m c) _).trans ((v8_0_at m c H (rowOf i x) (headOf j d)).trans ?_)
    rw [row_bt, row_tk]
  · exact pos_at m c H i j x
  · rw [← col_lane]
    refine (congrFun (U11_v8_1 m c) _).trans ((v8_1_at m c H (rowOf i x) j).trans ?_)
    rw [row_bt, row_tk]

omit H in
/-- One term of an output element. -/
def term (a0 : A3 4 256 4096) (a1 : A2 4096 256) (a2 a3 : A2 256 4096) (a4 : A2 4096 4096) (a5 : A2 4096 2048) (a6 : A2 4096 64) (a7 : A2 4096 4096)
    (b : Fin 4) (s : Fin 256) (n : Fin 4096) (j : Fin 4096) : EReal :=
  att a0 a1 a2 a3 a4 a5 a6 b s (j.val / 128) (by omega) ⟨j.val % 128, Nat.mod_lt _ (by decide)⟩ * a7 (ix2 j n)

/-- A device's share of an output element: the terms of its heads. -/
theorem acc_at (i : Fin 1024) (n : Fin 4096) : (acc5 c (U13 m c) 3 : S1024x4096.Idx → EReal) (ix2 i n)
    = ∑ k : Fin 2048, term a0 a1 a2 a3 a4 a5 a6 a7 (bt i) (tk i) n (col c k) := by
  refine (acc5_at c (U13 m c) (ix2 i n)).trans ?_
  unfold mmHalf term
  refine Finset.sum_congr rfl fun k _ => congrArg₂ (· * ·) ?_ ?_
  · exact (congrFun (U13_of m c main_v16 (by decide)) (ix2 i k)).trans (v16_at m c H i k)
  · exact (congrFun ((U13_of m c main_arg7 (by decide)).trans ((U12_of m c main_arg7 (by decide)).trans ((U11_of m c main_arg7 (by decide)).trans ((U10_of m c main_arg7 (by decide)).trans ((U9_of m c main_arg7 (by decide)).trans ((U8_of m c main_arg7 (by decide)).trans ((U7_of m c main_arg7 (by decide)).trans ((U6_of m c main_arg7 (by decide)).trans ((U5_of m c main_arg7 (by decide)).trans ((U4_of m c main_arg7 (by decide)).trans ((U3_of m c main_arg7 (by decide)).trans ((U2_of m c main_arg7 (by decide)).trans (U1_of m c main_arg7 (by decide)))))))))))))) (ix2 (col c k) n)).trans (congrFun (H.h7 c) _)

omit H in
/-- A device's terms and its partner's are all of them. -/
theorem cols_add (f : Fin 4096 → EReal) : ∑ k : Fin 2048, f (col c k) + ∑ k : Fin 2048, f (col (py c) k) = ∑ j : Fin 4096, f j := by
  rw [Fin.sum_univ_two_halves 2048 2048 rfl]
  have lo : ∀ d : Dev nD, d.val % 2 = 0 → ∑ k : Fin 2048, f (col d k) = ∑ k : Fin 2048, f ⟨k.val, by omega⟩ := fun d hd =>
    Finset.sum_congr rfl fun k _ => congrArg f (Fin.ext (by show d.val % 2 * 2048 + k.val = k.val; omega))
  have hi : ∀ d : Dev nD, d.val % 2 = 1 → ∑ k : Fin 2048, f (col d k) = ∑ k : Fin 2048, f ⟨2048 + k.val, by omega⟩ := fun d hd =>
    Finset.sum_congr rfl fun k _ => congrArg f (Fin.ext (by show d.val % 2 * 2048 + k.val = 2048 + k.val; omega))
  match c with
  | 0 => rw [lo 0 rfl, hi (py 0) rfl]
  | 1 => rw [hi 1 rfl, lo (py 1) rfl, add_comm]
  | 2 => rw [lo 2 rfl, hi (py 2) rfl]
  | 3 => rw [hi 3 rfl, lo (py 3) rfl, add_comm]

omit H in
/-- A row with its partner's rounded row added: over the extended reals the rounding changes nothing. -/
theorem pay4_at (P P' : S1024x4096.Idx → EReal) (i : Fin 1024) (n : Fin 4096) :
    (Gen.k5_pay4 (F := Ideal) P (Gen.k5_pay3 (F := Ideal) P') : S1024x4096.Idx → EReal) (ix2 i n) = P (ix2 i n) + P' (ix2 i n) := by
  pointwise [Gen.k5_pay4, Gen.k5_pay3]

/-- Every device ends with the layer of the whole arrays. -/
theorem result_at : (U15 m c main_v19 : S4x256x4096.Idx → EReal) = layer a0 a1 a2 a3 a4 a5 a6 a7 := by
  funext i
  idx_vars i
  refine (U15_v19 m c i0 i1 i2).trans ?_
  refine (congrFun (region5 c (U13 m c) (ksOf m) (vsOf m) (snOf m)) (ix2 ⟨i0.val * 256 + i1.val, by omega⟩ i2)).trans ?_
  refine (pay4_at _ _ _ _).trans ?_
  refine (congrArg₂ (· + ·) (acc_at m c H _ i2) (acc_at m (py c) H _ i2)).trans ?_
  refine (cols_add c _).trans ?_
  have hb : bt ⟨i0.val * 256 + i1.val, by omega⟩ = i0 := Fin.ext (by show (i0.val * 256 + i1.val) / 256 = i0.val; omega)
  have ht : tk ⟨i0.val * 256 + i1.val, by omega⟩ = i1 := Fin.ext (by show (i0.val * 256 + i1.val) % 256 = i1.val; omega)
  rw [hb, ht]
  rfl

end Cert.Values
-- ==== Proof.RefV.lean ====
/- The reference over the extended reals: what its result holds, element by element. -/
module

public import proofs.«01_k».proof.Defs
public import proofs.«01_k».proof.Proof.Gen.ReferenceIdeal
public import Idealize.ShloMosaic.Lib.Claim
public import Idealize.ShloMosaic.Lib.Pointwise
public import proofs.«01_k».proof.Proof.Pure

@[expose] public section

set_option maxRecDepth 16384

noncomputable section

namespace Cert.Values

open Idealize.ShloMosaic Idealize.ShloMosaic.TcCoe Idealize.SL.Sem
open Cert.ReferenceIdeal

variable (m' : (ℓ : Loc nD τ sig) → Buf (Elt Ideal) ℓ) (g' : Dev nD → PrngReg)

/-- The reference runs, its result holds the layer of its arguments, and its arguments end unchanged. -/
theorem ref_run : θ_run (defs (F := Ideal)) (onTc (τ := τ) (main (F := Ideal))) ⟨m', fun _ => 0, g'⟩ (fun r =>
    r.2.mem (((0 : Dev nD).tc : Thread nD τ).loc main_v29) = layer (m' (((0 : Dev nD).tc : Thread nD τ).loc main_arg0)) (m' (((0 : Dev nD).tc : Thread nD τ).loc main_arg1)) (m' (((0 : Dev nD).tc : Thread nD τ).loc main_arg2)) (m' (((0 : Dev nD).tc : Thread nD τ).loc main_arg3)) (m' (((0 : Dev nD).tc : Thread nD τ).loc main_arg4)) (m' (((0 : Dev nD).tc : Thread nD τ).loc main_arg5)) (m' (((0 : Dev nD).tc : Thread nD τ).loc main_arg6)) (m' (((0 : Dev nD).tc : Thread nD τ).loc main_arg7))
    ∧ r.2.mem (((0 : Dev nD).tc : Thread nD τ).loc main_arg0) = m' (((0 : Dev nD).tc : Thread nD τ).loc main_arg0)
    ∧ r.2.mem (((0 : Dev nD).tc : Thread nD τ).loc main_arg1) = m' (((0 : Dev nD).tc : Thread nD τ).loc main_arg1)
    ∧ r.2.mem (((0 : Dev nD).tc : Thread nD τ).loc main_arg2) = m' (((0 : Dev nD).tc : Thread nD τ).loc main_arg2)
    ∧ r.2.mem (((0 : Dev nD).tc : Thread nD τ).loc main_arg3) = m' (((0 : Dev nD).tc : Thread nD τ).loc main_arg3)
    ∧ r.2.mem (((0 : Dev nD).tc : Thread nD τ).loc main_arg4) = m' (((0 : Dev nD).tc : Thread nD τ).loc main_arg4)
    ∧ r.2.mem (((0 : Dev nD).tc : Thread nD τ).loc main_arg5) = m' (((0 : Dev nD).tc : Thread nD τ).loc main_arg5)
    ∧ r.2.mem (((0 : Dev nD).tc : Thread nD τ).loc main_arg6) = m' (((0 : Dev nD).tc : Thread nD τ).loc main_arg6)
    ∧ r.2.mem (((0 : Dev nD).tc : Thread nD τ).loc main_arg7) = m' (((0 : Dev nD).tc : Thread nD τ).loc main_arg7)) := by
  hlo_run
  funext i
  idx_vars i
  pointwise
  rfl

end Cert.Values
-- ==== Proof.Value.lean ====
/- The value claim: whatever the arguments, every device's result and the reference's are the same layer. -/
module

public import proofs.«01_k».proof.Defs
public import proofs.«01_k».proof.Proof.Frames
public import proofs.«01_k».proof.Proof.Result
public import proofs.«01_k».proof.Proof.RefV
public import Idealize.ShloMosaic.Lib.LayoutAt

@[expose] public section

noncomputable section

namespace Cert.Values

open Idealize.ShloMosaic

/-- A device's lanes of the first latent matrix. -/
theorem lanes_at (c : Fin 4) (X : A2 4096 256) (k : Fin 4096) (l : Fin 128) :
    Layout.blockN ⟨2, ![4096, 128]⟩ ⟨2, ![4096, 256]⟩ (Layout.meshBlock [2, 2] ![[], [0]] c (by decide)) X (by decide) (ix2 k l) = X (ix2 k (lt c l)) := by
  rw [Layout.blockN_apply]
  refine congrArg X ?_
  fin_cases c <;> shard_ext

/-- A device's rows of the second latent matrices. -/
theorem rows_at (c : Fin 4) (X : A2 256 4096) (l : Fin 128) (j : Fin 4096) :
    Layout.blockN ⟨2, ![128, 4096]⟩ ⟨2, ![256, 4096]⟩ (Layout.meshBlock [2, 2] ![[0], []] c (by decide)) X (by decide) (ix2 l j) = X (ix2 (lt c l) j) := by
  rw [Layout.blockN_apply]
  refine congrArg X ?_
  fin_cases c <;> shard_ext

end Cert.Values

namespace Cert.Proof

open Idealize.ShloMosaic Idealize.SL.Sem

/-- The kernel's result on every device is the reference's. -/
theorem algebraic : Cert.algebraic_KernelIdeal_ReferenceIdeal := by
  intro m g m' g' _ hagree
  have H : Cert.Values.Given m (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)) := {
    h0 := fun c => (hagree c).1
    h1 := fun c k l => (congrFun (hagree c).2.1 (ix2 k l)).trans (Cert.Values.lanes_at c _ k l)
    h2 := fun c l j => (congrFun (hagree c).2.2.1 (ix2 l j)).trans (Cert.Values.rows_at c _ l j)
    h3 := fun c l j => (congrFun (hagree c).2.2.2.1 (ix2 l j)).trans (Cert.Values.rows_at c _ l j)
    h4 := fun c => (hagree c).2.2.2.2.1
    h5 := fun c => (hagree c).2.2.2.2.2.1
    h6 := fun c => (hagree c).2.2.2.2.2.2.1
    h7 := fun c => (hagree c).2.2.2.2.2.2.2 }
  refine ⟨_, ?_, Cert.Values.ref_run m' g'⟩
  refine (θ_run (Cert.KernelIdeal.defs (F := Idealize.ShloMosaic.Ideal)) _ _).mono (fun r h c => ?_) (Cert.KernelIdeal.run_args (F := Idealize.ShloMosaic.Ideal) m g)
  exact ⟨(h.1 c).1.trans (Cert.Values.result_at m c H), (h.1 c).2⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three frames, the unchanged kernel, and the value. -/
theorem claim : Cert.Claim := ⟨Cert.Kernel.Gen.facts, Cert.KernelIdeal.Gen.facts, Cert.ReferenceIdeal.Gen.facts,
  frame_kernel, frame_kernel_ideal, frame_reference, trivial, algebraic⟩

end Cert.Proof

end
